-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normalised_graph [hPre_normalised_graph : Cert.Pre_normalised_graph.Facts] (m : (ℓ : Loc Cert.KernelIdeal.nD Cert.KernelIdeal.τ Cert.KernelIdeal.sig) → Buf (Elt Ideal) ℓ) : Prop :=
  ∀ c : Dev Cert.KernelIdeal.nD,
    (Cert.Pre_normalised_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normalised_graph [hPre_normalised_graph : Cert.Pre_normalised_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normalised_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_normalised_graph [hKernelIdeal : Cert.KernelIdeal.Facts] [hPre_normalised_graph : Cert.Pre_normalised_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normalised_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_normalised_graph [hReferenceIdeal : Cert.ReferenceIdeal.Facts] [hPre_normalised_graph : Cert.Pre_normalised_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normalised_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_normalised_graph [hKernelIdeal : Cert.KernelIdeal.Facts] [hReferenceIdeal : Cert.ReferenceIdeal.Facts] [hPre_normalised_graph : Cert.Pre_normalised_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normalised_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v35)) (v3 : (c : Dev Cert.KernelIdeal.nD) → Buf (Elt Ideal) ((c.tc : Thread Cert.KernelIdeal.nD Cert.KernelIdeal.τ).loc Cert.KernelIdeal.main_v36_0)) (v4 : (c : Dev Cert.KernelIdeal.nD) → Buf (Elt Ideal) ((c.tc : Thread Cert.KernelIdeal.nD Cert.KernelIdeal.τ).loc Cert.KernelIdeal.main_v36_1)) (v5 : (c : Dev Cert.KernelIdeal.nD) → Buf (Elt Ideal) ((c.tc : Thread Cert.KernelIdeal.nD Cert.KernelIdeal.τ).loc Cert.KernelIdeal.main_v36_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_v36_0) = v3 c
          ∧ r.2.mem ((c.tc : Thread Cert.KernelIdeal.nD Cert.KernelIdeal.τ).loc Cert.KernelIdeal.main_v36_1) = v4 c
          ∧ r.2.mem ((c.tc : Thread Cert.KernelIdeal.nD Cert.KernelIdeal.τ).loc Cert.KernelIdeal.main_v36_2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_v75) = v4 c
          ∧ r.2.mem ((c.tc : Thread Cert.ReferenceIdeal.nD Cert.ReferenceIdeal.τ).loc Cert.ReferenceIdeal.main_v81) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_normalised_graph : Cert.Pre_normalised_graph.Facts),
    quiescent_Kernel (hKernel := hKernel)
    ∧ quiescent_KernelIdeal (hKernelIdeal := hKernelIdeal)
    ∧ quiescent_KernelIdeal_pre_normalised_graph (hKernelIdeal := hKernelIdeal) (hPre_normalised_graph := hPre_normalised_graph)
    ∧ quiescent_ReferenceIdeal (hReferenceIdeal := hReferenceIdeal)
    ∧ quiescent_ReferenceIdeal_pre_normalised_graph (hReferenceIdeal := hReferenceIdeal) (hPre_normalised_graph := hPre_normalised_graph)
    ∧ preserves_Kernel_KernelIdeal
    ∧ algebraic_KernelIdeal_ReferenceIdeal_pre_normalised_graph (hKernelIdeal := hKernelIdeal) (hReferenceIdeal := hReferenceIdeal) (hPre_normalised_graph := hPre_normalised_graph)
-- ==== Pre_normalised_graph.lean ====
abbrev S4096x512 : Shape := ⟨2, ![4096, 512]⟩
abbrev S4096x4096 : Shape := ⟨2, ![4096, 4096]⟩
abbrev S2048x128 : Shape := ⟨2, ![2048, 128]⟩
abbrev S128 : Shape := ⟨1, ![128]⟩
abbrev S512x15 : Shape := ⟨2, ![512, 15]⟩
abbrev S15 : Shape := ⟨1, ![15]⟩
abbrev S15x15 : Shape := ⟨2, ![15, 15]⟩
abbrev S15x32 : Shape := ⟨2, ![15, 32]⟩
abbrev S32 : Shape := ⟨1, ![32]⟩
abbrev S32x32 : Shape := ⟨2, ![32, 32]⟩
abbrev S15x128 : Shape := ⟨2, ![15, 128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x512 : Shape := ⟨2, ![512, 512]⟩
abbrev S_ : Shape := ⟨0, ![]⟩
abbrev S4096 : Shape := ⟨1, ![4096]⟩
abbrev S4096x1 : Shape := ⟨2, ![4096, 1]⟩
abbrev S1x4096 : Shape := ⟨2, ![1, 4096]⟩

class Facts : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_
  bcast_S_S4096x512 : S_.BroadcastsInDim S4096x512 (![] : Fin 0 → Fin S4096x512.rank)
  reducesTo_S4096x512_S_d0_1 : S4096x512.ReducesTo [0, 1] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_
  bcast_S_S512x15 : S_.BroadcastsInDim S512x15 (![] : Fin 0 → Fin S512x15.rank)
  reducesTo_S512x15_S_d0_1 : S512x15.ReducesTo [0, 1] S_

variable [Facts]

def fn_where {F : FTy → Type} [FloatOps F] (arg0 : IVec S4096 1) (arg1 : FVec F S4096 .f32) (arg2 : FVec F S_ .f32) : FVec F S4096 .f32 :=
  let v0 : FVec F S_ .f32 := id arg2
  let v1 : FVec F S4096 .f32 := broadcastInDim S4096 ![] bcast_S_S4096 v0
  let v2 : FVec F S4096 .f32 := select arg0 arg1 v1
  v2

def fn_part2 {F : FTy → Type} [FloatOps F] (main_v30 : IVec S_ 1) (main_v34 : IVec S_ 1) : IVec S_ 1 :=
  let main_v35 : IVec S_ 1 := andi main_v30 main_v34
  main_v35

def fn_part1 {F : FTy → Type} [FloatOps F] (main_arg2 : FVec F S2048x128 .f32) (main_arg3 : FVec F S128 .f32) (main_arg4 : FVec F S512x15 .f32) (main_v15 : IVec S_ 1) (main_v16 : FVec F S4096x512 .f32) (main_v17 : FVec F S4096x512 .f32) : IVec S_ 1 :=
  let main_v18 : IVec S4096x512 1 := cmpf .olt main_v16 main_v17
  let main_c_4 : IVec S_ 1 := constantI S_ 1 1#1
  let main_v19 : IVec S_ 1 := (fun x v => Host.reduce IntOp.andi x v reducesTo_S4096x512_S_d0_1 h_S_) main_v18 main_c_4
  let main_v20 : IVec S_ 1 := andi main_v15 main_v19
  let main_v21 : FVec F S2048x128 .f32 := Host.absf main_arg2
  let main_cst_5 : FVec F S_ .f32 := constant S_ .f32 0x7F800000#32
  let main_v22 : FVec F S2048x128 .f32 := broadcastInDim S2048x128 ![] bcast_S_S2048x128 main_cst_5
  let main_v23 : IVec S2048x128 1 := cmpf .olt main_v21 main_v22
  let main_c_6 : IVec S_ 1 := constantI S_ 1 1#1
  let main_v24 : IVec S_ 1 := (fun x v => Host.reduce IntOp.andi x v reducesTo_S2048x128_S_d0_1 h_S_) main_v23 main_c_6
  let main_v25 : IVec S_ 1 := andi main_v20 main_v24
  let main_v26 : FVec F S128 .f32 := Host.absf main_arg3
  let main_cst_7 : FVec F S_ .f32 := constant S_ .f32 0x7F800000#32
  let main_v27 : FVec F S128 .f32 := broadcastInDim S128 ![] bcast_S_S128 main_cst_7
  let main_v28 : IVec S128 1 := cmpf .olt main_v26 main_v27
  let main_c_8 : IVec S_ 1 := constantI S_ 1 1#1
  let main_v29 : IVec S_ 1 := (fun x v => Host.reduce IntOp.andi x v reducesTo_S128_S_d0 h_S_) main_v28 main_c_8
  let main_v30 : IVec S_ 1 := andi main_v25 main_v29
  let main_v31 : FVec F S512x15 .f32 := Host.absf main_arg4
  let main_cst_9 : FVec F S_ .f32 := constant S_ .f32 0x7F800000#32
  let main_v32 : FVec F S512x15 .f32 := broadcastInDim S512x15 ![] bcast_S_S512x15 main_cst_9
  let main_v33 : IVec S512x15 1 := cmpf .olt main_v31 main_v32
  let main_c_10 : IVec S_ 1 := constantI S_ 1 1#1
  let main_v34 : IVec S_ 1 := (fun x v => Host.reduce IntOp.andi x v reducesTo_S512x15_S_d0_1 h_S_) main_v33 main_c_10
  fn_part2 (F := F) main_v30 main_v34

def fn {F : FTy → Type} [FloatOps F] (main_arg0 : FVec F S4096x512 .f32) (main_arg1 : FVec F S4096x4096 .f32) (main_arg2 : FVec F S2048x128 .f32) (main_arg3 : FVec F S128 .f32) (main_arg4 : FVec F S512x15 .f32) (main_arg5 : FVec F S15 .f32) (main_arg6 : FVec F S15x15 .f32) (main_arg7 : FVec F S15x32 .f32) (main_arg8 : FVec F S32 .f32) (main_arg9 : FVec F S32x32 .f32) (main_arg10 : FVec F S15x128 .f32) (main_arg11 : FVec F S128 .f32) (main_arg12 : FVec F S128x256 .f32) (main_arg13 : FVec F S256 .f32) (main_arg14 : FVec F S256x512 .f32) (main_arg15 : FVec F S512 .f32) (main_arg16 : FVec F S512x512 .f32) (main_arg17 : FVec F S512 .f32) (main_arg18 : FVec F S512x512 .f32) (main_arg19 : FVec F S512 .f32) (main_arg20 : FVec F S512x512 .f32) (main_arg21 : FVec F S512 .f32) : IVec S_ 1 :=
  let main_cst : FVec F S_ .f32 := constant S_ .f32 0x00000000#32
  let main_v0 : FVec F S4096x4096 .f32 := broadcastInDim S4096x4096 ![] bcast_S_S4096x4096 main_cst
  let main_v1 : IVec S4096x4096 1 := cmpf .une main_arg1 main_v0
  let main_v2 : FVec F S4096x4096 .f32 := uitofp .f32 main_v1
  let main_cst_0 : FVec F S_ .f32 := constant S_ .f32 0x00000000#32
  let main_v3 : FVec F S4096 .f32 := (fun x v => Host.reduceAdd x v reducesTo_S4096x4096_S4096_d1 h_S_) main_v2 main_cst_0
  let main_cst_1 : FVec F S_ .f32 := constant S_ .f32 0x00000000#32
  let main_v4 : FVec F S4096 .f32 := broadcastInDim S4096 ![] bcast_S_S4096 main_cst_1
  let main_v5 : IVec S4096 1 := cmpf .ogt main_v3 main_v4
  let main_v6 : FVec F S4096 .f32 := Host.rsqrt main_v3
  let main_cst_2 : FVec F S_ .f32 := constant S_ .f32 0x00000000#32
  let main_v7 : FVec F S4096 .f32 := fn_where (F := F) main_v5 main_v6 main_cst_2
  let main_v8 : FVec F S4096x1 .f32 := broadcastInDim S4096x1 ![0] bcast_S4096_S4096x1_0 main_v7
  let main_v9 : FVec F S4096x4096 .f32 := broadcastInDim S4096x4096 ![0, 1] bcast_S4096x1_S4096x4096_0_1 main_v8
  let main_v10 : FVec F S4096x4096 .f32 := mulf main_v2 main_v9
  let main_v11 : FVec F S1x4096 .f32 := broadcastInDim S1x4096 ![1] bcast_S4096_S1x4096_1 main_v7
  let main_v12 : FVec F S4096x4096 .f32 := broadcastInDim S4096x4096 ![0, 1] bcast_S1x4096_S4096x4096_0_1 main_v11
  let main_v13 : FVec F S4096x4096 .f32 := mulf main_v10 main_v12
  let main_v14 : IVec S4096x4096 1 := cmpf .oeq main_arg1 main_v13
  let main_c : IVec S_ 1 := constantI S_ 1 1#1
  let main_v15 : IVec S_ 1 := (fun x v => Host.reduce IntOp.andi x v reducesTo_S4096x4096_S_d0_1 h_S_) main_v14 main_c
  let main_v16 : FVec F S4096x512 .f32 := Host.absf main_arg0
  let main_cst_3 : FVec F S_ .f32 := constant S_ .f32 0x7F800000#32
  let main_v17 : FVec F S4096x512 .f32 := broadcastInDim S4096x512 ![] bcast_S_S4096x512 main_cst_3
  fn_part1 (F := F) main_arg2 main_arg3 main_arg4 main_v15 main_v16 main_v17
-- ==== Kernel.lean ====
abbrev S4096x512 : Shape := ⟨2, ![4096, 512]⟩
abbrev S4096x4096 : Shape := ⟨2, ![4096, 4096]⟩
abbrev S2048x128 : Shape := ⟨2, ![2048, 128]⟩
abbrev S128 : Shape := ⟨1, ![128]⟩
abbrev S512x15 : Shape := ⟨2, ![512, 15]⟩
abbrev S15 : Shape := ⟨1, ![15]⟩
abbrev S15x15 : Shape := ⟨2, ![15, 15]⟩
abbrev S15x32 : Shape := ⟨2, ![15, 32]⟩
abbrev S32 : Shape := ⟨1, ![32]⟩
abbrev S32x32 : Shape := ⟨2, ![32, 32]⟩
abbrev S15x128 : Shape := ⟨2, ![15, 128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x512 : Shape := ⟨2, ![512, 512]⟩
abbrev S4x512x128 : Shape := ⟨3, ![4, 512, 128]⟩
abbrev S512x4x128 : Shape := ⟨3, ![512, 4, 128]⟩
abbrev S_ : Shape := ⟨0, ![]⟩
abbrev S384 : Shape := ⟨1, ![384]⟩
abbrev S128x64 : Shape := ⟨2, ![128, 64]⟩
abbrev S128x15 : Shape := ⟨2, ![128, 15]⟩
abbrev S1 : Shape := ⟨1, ![1]⟩
abbrev S64 : Shape := ⟨1, ![64]⟩
abbrev S16x16 : Shape := ⟨2, ![16, 16]⟩
abbrev S2 : Shape := ⟨1, ![2]⟩
abbrev S16x32 : Shape := ⟨2, ![16, 32]⟩
abbrev S16x128 : Shape := ⟨2, ![16, 128]⟩
abbrev S4096x16 : Shape := ⟨2, ![4096, 16]⟩
abbrev S128x2048 : Shape := ⟨2, ![128, 2048]⟩
abbrev S128x512 : Shape := ⟨2, ![128, 512]⟩
abbrev S4096x384 : Shape := ⟨2, ![4096, 384]⟩
abbrev S4096x128 : Shape := ⟨2, ![4096, 128]⟩
abbrev S4096x64 : Shape := ⟨2, ![4096, 64]⟩
abbrev S128x1 : Shape := ⟨2, ![128, 1]⟩
abbrev S128x128 : Shape := ⟨2, ![128, 128]⟩
abbrev S1x512 : Shape := ⟨2, ![1, 512]⟩
abbrev S128x384 : Shape := ⟨2, ![128, 384]⟩
abbrev S1024x4096 : Shape := ⟨2, ![1024, 4096]⟩
abbrev S1024x128 : Shape := ⟨2, ![1024, 128]⟩
abbrev S1024x384 : Shape := ⟨2, ![1024, 384]⟩
abbrev S1024x64 : Shape := ⟨2, ![1024, 64]⟩
abbrev S1x64 : Shape := ⟨2, ![1, 64]⟩
abbrev S1024x16 : Shape := ⟨2, ![1024, 16]⟩
abbrev S1024x32 : Shape := ⟨2, ![1024, 32]⟩
abbrev S4096x32 : Shape := ⟨2, ![4096, 32]⟩
abbrev S1024 : Shape := ⟨1, ![1024]⟩
abbrev S1024x1 : Shape := ⟨2, ![1024, 1]⟩
abbrev S16 : Shape := ⟨1, ![16]⟩
abbrev S1x16 : Shape := ⟨2, ![1, 16]⟩
abbrev S1x32 : Shape := ⟨2, ![1, 32]⟩
abbrev S2048x32 : Shape := ⟨2, ![2048, 32]⟩
abbrev S2048x2048 : Shape := ⟨2, ![2048, 2048]⟩
abbrev S512x16 : Shape := ⟨2, ![512, 16]⟩
abbrev S512x128 : Shape := ⟨2, ![512, 128]⟩
abbrev S1x128 : Shape := ⟨2, ![1, 128]⟩
abbrev S512x256 : Shape := ⟨2, ![512, 256]⟩
abbrev S1x256 : Shape := ⟨2, ![1, 256]⟩
abbrev S4096x15 : Shape := ⟨2, ![4096, 15]⟩

abbrev nBuf : Space → Nat
  | .hbm => 80
  | .vmem => 56
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S2048x128, .f32⟩
  | .hbm, ⟨3, _⟩ => ⟨S128, .f32⟩
  | .hbm, ⟨4, _⟩ => ⟨S512x15, .f32⟩
  | .hbm, ⟨5, _⟩ => ⟨S15, .f32⟩
  | .hbm, ⟨6, _⟩ => ⟨S15x15, .f32⟩
  | .hbm, ⟨7, _⟩ => ⟨S15x32, .f32⟩
  | .hbm, ⟨8, _⟩ => ⟨S32, .f32⟩
  | .hbm, ⟨9, _⟩ => ⟨S32x32, .f32⟩
  | .hbm, ⟨10, _⟩ => ⟨S15x128, .f32⟩
  | .hbm, ⟨11, _⟩ => ⟨S128, .f32⟩
  | .hbm, ⟨12, _⟩ => ⟨S128x256, .f32⟩
  | .hbm, ⟨13, _⟩ => ⟨S256, .f32⟩
  | .hbm, ⟨14, _⟩ => ⟨S256x512, .f32⟩
  | .hbm, ⟨15, _⟩ => ⟨S512, .f32⟩
  | .hbm, ⟨16, _⟩ => ⟨S512x512, .f32⟩
  | .hbm, ⟨17, _⟩ => ⟨S512, .f32⟩
  | .hbm, ⟨18, _⟩ => ⟨S512x512, .f32⟩
  | .hbm, ⟨19, _⟩ => ⟨S512, .f32⟩
  | .hbm, ⟨20, _⟩ => ⟨S512x512, .f32⟩
  | .hbm, ⟨21, _⟩ => ⟨S512, .f32⟩
  | .hbm, ⟨22, _⟩ => ⟨S4x512x128, .f32⟩
  | .hbm, ⟨23, _⟩ => ⟨S512x4x128, .f32⟩
  | .hbm, ⟨24, _⟩ => ⟨S512x512, .f32⟩
  | .hbm, ⟨25, _⟩ => ⟨S_, .f32⟩
  | .hbm, ⟨26, _⟩ => ⟨S384, .f32⟩
  | .hbm, ⟨27, _⟩ => ⟨S512, .f32⟩
  | .hbm, ⟨28, _⟩ => ⟨S_, .f32⟩
  | .hbm, ⟨29, _⟩ => ⟨S128x64, .f32⟩
  | .hbm, ⟨30, _⟩ => ⟨S128x15, .f32⟩
  | .hbm, ⟨31, _⟩ => ⟨S_, .i32⟩
  | .hbm, ⟨32, _⟩ => ⟨S1, .i32⟩
  | .hbm, ⟨33, _⟩ => ⟨S128x64, .f32⟩
  | .hbm, ⟨34, _⟩ => ⟨S128x15, .f32⟩
  | .hbm, ⟨35, _⟩ => ⟨S_, .i32⟩
  | .hbm, ⟨36, _⟩ => ⟨S1, .i32⟩
  | .hbm, ⟨37, _⟩ => ⟨S128x64, .f32⟩
  | .hbm, ⟨38, _⟩ => ⟨S128x15, .f32⟩
  | .hbm, ⟨39, _⟩ => ⟨S_, .i32⟩
  | .hbm, ⟨40, _⟩ => ⟨S1, .i32⟩
  | .hbm, ⟨41, _⟩ => ⟨S128x64, .f32⟩
  | .hbm, ⟨42, _⟩ => ⟨S128x15, .f32⟩
  | .hbm, ⟨43, _⟩ => ⟨S_, .i32⟩
  | .hbm, ⟨44, _⟩ => ⟨S1, .i32⟩
  | .hbm, ⟨45, _⟩ => ⟨S128x64, .f32⟩
  | .hbm, ⟨46, _⟩ => ⟨S_, .f32⟩
  | .hbm, ⟨47, _⟩ => ⟨S64, .f32⟩
  | .hbm, ⟨48, _⟩ => ⟨S_, .i32⟩
  | .hbm, ⟨49, _⟩ => ⟨S1, .i32⟩
  | .hbm, ⟨50, _⟩ => ⟨S64, .f32⟩
  | .hbm, ⟨51, _⟩ => ⟨S_, .f32⟩
  | .hbm, ⟨52, _⟩ => ⟨S16x16, .f32⟩
  | .hbm, ⟨53, _⟩ => ⟨S15x15, .f32⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S2, .i32⟩
  | .hbm, ⟨59, _⟩ => ⟨S16x16, .f32⟩
  | .hbm, ⟨60, _⟩ => ⟨S_, .f32⟩
  | .hbm, ⟨61, _⟩ => ⟨S16x32, .f32⟩
  | .hbm, ⟨62, _⟩ => ⟨S_, .i32⟩
  | .hbm, ⟨63, _⟩ => ⟨S1, .i32⟩
  | .hbm, ⟨64, _⟩ => ⟨S16x32, .f32⟩
  | .hbm, ⟨65, _⟩ => ⟨S_, .f32⟩
  | .hbm, ⟨66, _⟩ => ⟨S16x128, .f32⟩
  | .hbm, ⟨67, _⟩ => ⟨S_, .i32⟩
  | .hbm, ⟨68, _⟩ => ⟨S1, .i32⟩
  | .hbm, ⟨69, _⟩ => ⟨S16x128, .f32⟩
  | .hbm, ⟨70, _⟩ => ⟨S4096x16, .f32⟩
  | .hbm, ⟨71, _⟩ => ⟨S4096x16, .f32⟩
  | .hbm, ⟨72, _⟩ => ⟨S4096x32, .f32⟩
  | .hbm, ⟨73, _⟩ => ⟨S4096x32, .f32⟩
  | .hbm, ⟨74, _⟩ => ⟨S4096x4096, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x15, .f32⟩
  | .hbm, ⟨79, _⟩ => ⟨S4096x15, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x512, .f32⟩
  | .local _ .vmem, ⟨5, _⟩ => ⟨S128x512, .f32⟩
  | .local _ .vmem, ⟨6, _⟩ => ⟨S512x512, .f32⟩
  | .local _ .vmem, ⟨7, _⟩ => ⟨S512, .f32⟩
  | .local _ .vmem, ⟨8, _⟩ => ⟨S128x64, .f32⟩
  | .local _ .vmem, ⟨9, _⟩ => ⟨S64, .f32⟩
  | .local _ .vmem, ⟨10, _⟩ => ⟨S4096x16, .f32⟩
  | .local _ .vmem, ⟨11, _⟩ => ⟨S4096x4096, .bf16⟩
  | .local _ .vmem, ⟨12, _⟩ => ⟨S4096x384, .f32⟩
  | .local _ .vmem, ⟨13, _⟩ => ⟨S4096x128, .f32⟩
  | .local _ .vmem, ⟨14, _⟩ => ⟨S4096x128, .bf16⟩
  | .local _ .vmem, ⟨15, _⟩ => ⟨S4096x128, .bf16⟩
  | .local _ .vmem, ⟨16, _⟩ => ⟨S4096x64, .bf16⟩
  | .local _ .vmem, ⟨17, _⟩ => ⟨S4096x64, .f32⟩
  | .local _ .vmem, ⟨18, _⟩ => ⟨S1024x16, .f32⟩
  | .local _ .vmem, ⟨19, _⟩ => ⟨S1024x16, .f32⟩
  | .local _ .vmem, ⟨20, _⟩ => ⟨S16x16, .f32⟩
  | .local _ .vmem, ⟨21, _⟩ => ⟨S16x32, .f32⟩
  | .local _ .vmem, ⟨22, _⟩ => ⟨S32, .f32⟩
  | .local _ .vmem, ⟨23, _⟩ => ⟨S32x32, .f32⟩
  | .local _ .vmem, ⟨24, _⟩ => ⟨S1024x16, .f32⟩
  | .local _ .vmem, ⟨25, _⟩ => ⟨S1024x16, .f32⟩
  | .local _ .vmem, ⟨26, _⟩ => ⟨S1024x32, .f32⟩
  | .local _ .vmem, ⟨27, _⟩ => ⟨S1024x32, .f32⟩
  | .local _ .vmem, ⟨28, _⟩ => ⟨S1024x32, .f32⟩
  | .local _ .vmem, ⟨29, _⟩ => ⟨S1024x32, .f32⟩
  | .local _ .vmem, ⟨30, _⟩ => ⟨S2048x32, .f32⟩
  | .local _ .vmem, ⟨31, _⟩ => ⟨S2048x32, .f32⟩
  | .local _ .vmem, ⟨32, _⟩ => ⟨S2048x32, .f32⟩
  | .local _ .vmem, ⟨33, _⟩ => ⟨S2048x32, .f32⟩
  | .local _ .vmem, ⟨34, _⟩ => ⟨S2048x2048, .f32⟩
  | .local _ .vmem, ⟨35, _⟩ => ⟨S2048x2048, .f32⟩
  | .local _ .vmem, ⟨36, _⟩ => ⟨S512x16, .f32⟩
  | .local _ .vmem, ⟨37, _⟩ => ⟨S512x16, .f32⟩
  | .local _ .vmem, ⟨38, _⟩ => ⟨S16x128, .f32⟩
  | .local _ .vmem, ⟨39, _⟩ => ⟨S128, .f32⟩
  | .local _ .vmem, ⟨40, _⟩ => ⟨S128x256, .f32⟩
  | .local _ .vmem, ⟨41, _⟩ => ⟨S256, .f32⟩
  | .local _ .vmem, ⟨42, _⟩ => ⟨S256x512, .f32⟩
  | .local _ .vmem, ⟨43, _⟩ => ⟨S512, .f32⟩
  | .local _ .vmem, ⟨44, _⟩ => ⟨S512x512, .f32⟩
  | .local _ .vmem, ⟨45, _⟩ => ⟨S512, .f32⟩
  | .local _ .vmem, ⟨46, _⟩ => ⟨S512x512, .f32⟩
  | .local _ .vmem, ⟨47, _⟩ => ⟨S512, .f32⟩
  | .local _ .vmem, ⟨48, _⟩ => ⟨S512x512, .f32⟩
  | .local _ .vmem, ⟨49, _⟩ => ⟨S512, .f32⟩
  | .local _ .vmem, ⟨50, _⟩ => ⟨S512x512, .f32⟩
  | .local _ .vmem, ⟨51, _⟩ => ⟨S512x512, .f32⟩
  | .local _ .vmem, ⟨52, _⟩ => ⟨S512x512, .f32⟩
  | .local _ .vmem, ⟨53, _⟩ => ⟨S512x512, .f32⟩
  | .local _ .vmem, ⟨54, _⟩ => ⟨S512x512, .f32⟩
  | .local _ .vmem, ⟨55, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_v3 : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_c : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c_1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_3 : Ref sig .tc := ⟨.hbm, 43, rfl⟩
abbrev main_v16 : Ref sig .tc := ⟨.hbm, 44, rfl⟩
abbrev main_v17 : Ref sig .tc := ⟨.hbm, 45, rfl⟩
abbrev main_cst_4 : Ref sig .tc := ⟨.hbm, 46, rfl⟩
abbrev main_v18 : Ref sig .tc := ⟨.hbm, 47, rfl⟩
abbrev main_c_5 : Ref sig .tc := ⟨.hbm, 48, rfl⟩
abbrev main_v19 : Ref sig .tc := ⟨.hbm, 49, rfl⟩
abbrev main_v20 : Ref sig .tc := ⟨.hbm, 50, rfl⟩
abbrev main_cst_6 : Ref sig .tc := ⟨.hbm, 51, rfl⟩
abbrev main_v21 : Ref sig .tc := ⟨.hbm, 52, rfl⟩
abbrev main_v22 : Ref sig .tc := ⟨.hbm, 53, rfl⟩
abbrev main_c_7 : Ref sig .tc := ⟨.hbm, 54, rfl⟩
abbrev main_v23 : Ref sig .tc := ⟨.hbm, 55, rfl⟩
abbrev main_c_8 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_9 : Ref sig .tc := ⟨.hbm, 60, rfl⟩
abbrev main_v27 : Ref sig .tc := ⟨.hbm, 61, rfl⟩
abbrev main_c_10 : Ref sig .tc := ⟨.hbm, 62, rfl⟩
abbrev main_v28 : Ref sig .tc := ⟨.hbm, 63, rfl⟩
abbrev main_v29 : Ref sig .tc := ⟨.hbm, 64, rfl⟩
abbrev main_cst_11 : Ref sig .tc := ⟨.hbm, 65, rfl⟩
abbrev main_v30 : Ref sig .tc := ⟨.hbm, 66, rfl⟩
abbrev main_c_12 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34_0 : Ref sig .tc := ⟨.hbm, 71, rfl⟩
abbrev main_v34_1 : Ref sig .tc := ⟨.hbm, 72, rfl⟩
abbrev main_v34_2 : Ref sig .tc := ⟨.hbm, 73, rfl⟩
abbrev main_v35 : Ref sig .tc := ⟨.hbm, 74, rfl⟩
abbrev main_v36_0 : Ref sig .tc := ⟨.hbm, 75, rfl⟩
abbrev main_v36_1 : Ref sig .tc := ⟨.hbm, 76, rfl⟩
abbrev main_v36_2 : Ref sig .tc := ⟨.hbm, 77, rfl⟩
abbrev main_v37 : Ref sig .tc := ⟨.hbm, 78, rfl⟩
abbrev main_v38 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg10_0 : Ref sig .tc := ⟨.vmem, 47, rfl⟩
abbrev cc3_stg11_0 : Ref sig .tc := ⟨.vmem, 48, rfl⟩
abbrev cc3_stg12_0 : Ref sig .tc := ⟨.vmem, 49, rfl⟩
abbrev cc3_stg13_0 : Ref sig .tc := ⟨.vmem, 50, rfl⟩
abbrev cc3_stg13_1 : Ref sig .tc := ⟨.vmem, 51, rfl⟩
abbrev cc3_stg14_0 : Ref sig .tc := ⟨.vmem, 52, rfl⟩
abbrev cc3_stg14_1 : Ref sig .tc := ⟨.vmem, 53, rfl⟩
abbrev cc3_stg15_0 : Ref sig .tc := ⟨.vmem, 54, rfl⟩
abbrev cc3_stg15_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem9_0 : DmaSem sig := 39
abbrev cc3_sem10_0 : DmaSem sig := 40
abbrev cc3_sem11_0 : DmaSem sig := 41
abbrev cc3_sem12_0 : DmaSem sig := 42
abbrev cc3_sem13_0 : DmaSem sig := 43
abbrev cc3_sem13_1 : DmaSem sig := 44
abbrev cc3_sem14_0 : DmaSem sig := 45
abbrev cc3_sem14_1 : DmaSem sig := 46
abbrev cc3_sem15_0 : DmaSem sig := 47
abbrev cc3_sem15_1 : DmaSem sig := 48

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c31_i32 : BitVec 32 := 31#32
  let v6 : BitVec 32 := Scalar.minsi arg0 c31_i32
  let c128_i32 : BitVec 32 := 128#32
  let v7 : BitVec 32 := Scalar.muli v6 c128_i32
  let v19 : Index := Scalar.indexCast v7
  let c0_6 : Index := 0#32
  ![v19.toNat, 0]
def k0_off2 (i : grid0.Coords) : Fin 2 → Nat :=
  let arg0 : BitVec 32 := BitVec.ofNat 32 (i 0).val
  let c31_i32 : BitVec 32 := 31#32
  let v6 : BitVec 32 := Scalar.minsi arg0 c31_i32
  let c128_i32 : BitVec 32 := 128#32
  let v7 : BitVec 32 := Scalar.muli v6 c128_i32
  let v24 : Index := Scalar.indexCast v7
  let c2048 : Index := 2048#32
  ![v24.toNat, 2048]
def k0_off3 (i : grid0.Coords) : Fin 2 → Nat :=
  let arg0 : BitVec 32 := BitVec.ofNat 32 (i 0).val
  let c31_i32 : BitVec 32 := 31#32
  let v6 : BitVec 32 := Scalar.minsi arg0 c31_i32
  let c128_i32 : BitVec 32 := 128#32
  let v7 : BitVec 32 := Scalar.muli v6 c128_i32
  let v40 : Index := Scalar.indexCast v7
  let c0_11 : Index := 0#32
  ![v40.toNat, 0]
def k0_off4 (i : grid0.Coords) : Fin 2 → Nat :=
  let arg0 : BitVec 32 := BitVec.ofNat 32 (i 0).val
  let c31_i32 : BitVec 32 := 31#32
  let v6 : BitVec 32 := Scalar.minsi arg0 c31_i32
  let c128_i32 : BitVec 32 := 128#32
  let v7 : BitVec 32 := Scalar.muli v6 c128_i32
  let v54 : Index := Scalar.indexCast v7
  let c0_18 : Index := 0#32
  ![v54.toNat, 0]
def k0_cond2 (i : grid0.Coords) : BitVec 1 :=
  let arg0 : BitVec 32 := BitVec.ofNat 32 (i 0).val
  let c32_i32_0 : BitVec 32 := 32#32
  let v3 : BitVec 1 := Scalar.cmpi .eq arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S512x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S512 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S512x512 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S512 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S512x512 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S512x512 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 2 → Memref sig .tc .vmem S512x512 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]
-- ==== ReferenceIdeal.lean ====
abbrev S4096x512 : Shape := ⟨2, ![4096, 512]⟩
abbrev S4096x4096 : Shape := ⟨2, ![4096, 4096]⟩
abbrev S2048x128 : Shape := ⟨2, ![2048, 128]⟩
abbrev S128 : Shape := ⟨1, ![128]⟩
abbrev S512x15 : Shape := ⟨2, ![512, 15]⟩
abbrev S15 : Shape := ⟨1, ![15]⟩
abbrev S15x15 : Shape := ⟨2, ![15, 15]⟩
abbrev S15x32 : Shape := ⟨2, ![15, 32]⟩
abbrev S32 : Shape := ⟨1, ![32]⟩
abbrev S32x32 : Shape := ⟨2, ![32, 32]⟩
abbrev S15x128 : Shape := ⟨2, ![15, 128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x512 : Shape := ⟨2, ![512, 512]⟩
abbrev S4096x2048 : Shape := ⟨2, ![4096, 2048]⟩
abbrev S4096x128 : Shape := ⟨2, ![4096, 128]⟩
abbrev S1x128 : Shape := ⟨2, ![1, 128]⟩
abbrev S_ : Shape := ⟨0, ![]⟩
abbrev S4096x15 : Shape := ⟨2, ![4096, 15]⟩
abbrev S1x15 : Shape := ⟨2, ![1, 15]⟩
abbrev S4096x1x15 : Shape := ⟨3, ![4096, 1, 15]⟩
abbrev S1x15x15 : Shape := ⟨3, ![1, 15, 15]⟩
abbrev S4096x15x15 : Shape := ⟨3, ![4096, 15, 15]⟩
abbrev S4096 : Shape := ⟨1, ![4096]⟩
abbrev S4096x1 : Shape := ⟨2, ![4096, 1]⟩
abbrev S4096x32 : Shape := ⟨2, ![4096, 32]⟩
abbrev S1x32 : Shape := ⟨2, ![1, 32]⟩
abbrev S32x4096 : Shape := ⟨2, ![32, 4096]⟩
abbrev S4096x256 : Shape := ⟨2, ![4096, 256]⟩
abbrev S1x256 : Shape := ⟨2, ![1, 256]⟩
abbrev S1x512 : Shape := ⟨2, ![1, 512]⟩

abbrev nBuf : Space → Nat
  | .hbm => 147
  | .vmem => 0
  | .smem => 0
  | _ => 0

abbrev hbmTy0_0 (i : Nat) : BufTy := match i % 128 with
  | 0 => ⟨S4096x512, .f32⟩
  | 1 => ⟨S4096x4096, .f32⟩
  | 2 => ⟨S2048x128, .f32⟩
  | 3 => ⟨S128, .f32⟩
  | 4 => ⟨S512x15, .f32⟩
  | 5 => ⟨S15, .f32⟩
  | 6 => ⟨S15x15, .f32⟩
  | 7 => ⟨S15x32, .f32⟩
  | 8 => ⟨S32, .f32⟩
  | 9 => ⟨S32x32, .f32⟩
  | 10 => ⟨S15x128, .f32⟩
  | 11 => ⟨S128, .f32⟩
  | 12 => ⟨S128x256, .f32⟩
  | 13 => ⟨S256, .f32⟩
  | 14 => ⟨S256x512, .f32⟩
  | 15 => ⟨S512, .f32⟩
  | 16 => ⟨S512x512, .f32⟩
  | 17 => ⟨S512, .f32⟩
  | 18 => ⟨S512x512, .f32⟩
  | 19 => ⟨S512, .f32⟩
  | 20 => ⟨S512x512, .f32⟩
  | 21 => ⟨S512, .f32⟩
  | 22 => ⟨S4096x512, .f32⟩
  | 23 => ⟨S4096x512, .f32⟩
  | 24 => ⟨S4096x512, .f32⟩
  | 25 => ⟨S4096x2048, .f32⟩
  | 26 => ⟨S4096x128, .f32⟩
  | 27 => ⟨S1x128, .f32⟩
  | 28 => ⟨S4096x128, .f32⟩
  | 29 => ⟨S4096x128, .f32⟩
  | 30 => ⟨S_, .f32⟩
  | 31 => ⟨S4096x128, .f32⟩
  | 32 => ⟨S4096x128, .f32⟩
  | 33 => ⟨S4096x128, .f32⟩
  | 34 => ⟨S4096x128, .f32⟩
  | 35 => ⟨S4096x128, .f32⟩
  | 36 => ⟨S4096x512, .f32⟩
  | 37 => ⟨S4096x15, .f32⟩
  | 38 => ⟨S1x15, .f32⟩
  | 39 => ⟨S4096x15, .f32⟩
  | 40 => ⟨S4096x15, .f32⟩
  | 41 => ⟨S4096x1x15, .f32⟩
  | 42 => ⟨S1x15x15, .f32⟩
  | 43 => ⟨S4096x15x15, .f32⟩
  | 44 => ⟨S4096x15x15, .f32⟩
  | 45 => ⟨S4096x15x15, .f32⟩
  | 46 => ⟨S4096x15x15, .f32⟩
  | 47 => ⟨S_, .f32⟩
  | 48 => ⟨S4096x15, .f32⟩
  | 49 => ⟨S_, .f32⟩
  | 50 => ⟨S4096x15, .f32⟩
  | 51 => ⟨S4096x15, .f32⟩
  | 52 => ⟨S_, .f32⟩
  | 53 => ⟨S4096x15, .f32⟩
  | 54 => ⟨S4096x15, .f32⟩
  | 55 => ⟨S_, .f32⟩
  | 56 => ⟨S4096, .f32⟩
  | 57 => ⟨S4096x1, .f32⟩
  | 58 => ⟨S4096x15, .f32⟩
  | 59 => ⟨S4096x15, .f32⟩
  | 60 => ⟨S4096x32, .f32⟩
  | 61 => ⟨S1x32, .f32⟩
  | 62 => ⟨S4096x32, .f32⟩
  | 63 => ⟨S4096x32, .f32⟩
  | 64 => ⟨S4096x32, .f32⟩
  | 65 => ⟨S32x4096, .f32⟩
  | 66 => ⟨S4096x4096, .f32⟩
  | 67 => ⟨S4096x4096, .f32⟩
  | 68 => ⟨S4096x4096, .f32⟩
  | 69 => ⟨S_, .f32⟩
  | 70 => ⟨S4096x4096, .f32⟩
  | 71 => ⟨S4096x4096, .f32⟩
  | 72 => ⟨S_, .f32⟩
  | 73 => ⟨S4096x4096, .f32⟩
  | 74 => ⟨S4096x4096, .f32⟩
  | 75 => ⟨S4096x128, .f32⟩
  | 76 => ⟨S1x128, .f32⟩
  | 77 => ⟨S4096x128, .f32⟩
  | 78 => ⟨S4096x128, .f32⟩
  | 79 => ⟨S_, .f32⟩
  | 80 => ⟨S4096x128, .f32⟩
  | 81 => ⟨S4096x128, .f32⟩
  | 82 => ⟨S4096x256, .f32⟩
  | 83 => ⟨S1x256, .f32⟩
  | 84 => ⟨S4096x256, .f32⟩
  | 85 => ⟨S4096x256, .f32⟩
  | 86 => ⟨S_, .f32⟩
  | 87 => ⟨S4096x256, .f32⟩
  | 88 => ⟨S4096x256, .f32⟩
  | 89 => ⟨S4096x512, .f32⟩
  | 90 => ⟨S1x512, .f32⟩
  | 91 => ⟨S4096x512, .f32⟩
  | 92 => ⟨S4096x512, .f32⟩
  | 93 => ⟨S_, .f32⟩
  | 94 => ⟨S4096x512, .f32⟩
  | 95 => ⟨S4096x512, .f32⟩
  | 96 => ⟨S4096x512, .f32⟩
  | 97 => ⟨S1x512, .f32⟩
  | 98 => ⟨S4096x512, .f32⟩
  | 99 => ⟨S4096x512, .f32⟩
  | 100 => ⟨S4096x512, .f32⟩
  | 101 => ⟨S4096x512, .f32⟩
  | 102 => ⟨S_, .f32⟩
  | 103 => ⟨S4096x512, .f32⟩
  | 104 => ⟨S4096x512, .f32⟩
  | 105 => ⟨S_, .f32⟩
  | 106 => ⟨S4096x512, .f32⟩
  | 107 => ⟨S4096x512, .f32⟩
  | 108 => ⟨S4096x512, .f32⟩
  | 109 => ⟨S1x512, .f32⟩
  | 110 => ⟨S4096x512, .f32⟩
  | 111 => ⟨S4096x512, .f32⟩
  | 112 => ⟨S_, .f32⟩
  | 113 => ⟨S4096x512, .f32⟩
  | 114 => ⟨S4096x512, .f32⟩
  | 115 => ⟨S4096x512, .f32⟩
  | 116 => ⟨S4096x512, .f32⟩
  | 117 => ⟨S4096x512, .i1⟩
  | 118 => ⟨S4096x512, .f32⟩
  | 119 => ⟨S4096x512, .f32⟩
  | 120 => ⟨S4096x512, .f32⟩
  | 121 => ⟨S4096x512, .f32⟩
  | 122 => ⟨S4096x512, .f32⟩
  | 123 => ⟨S4096x512, .f32⟩
  | 124 => ⟨S4096x512, .f32⟩
  | 125 => ⟨S4096x512, .f32⟩
  | 126 => ⟨S_, .f32⟩
  | 127 => ⟨S_, .f32⟩
  | _ => ⟨S4096x512, .f32⟩

abbrev hbmTy0_1 (i : Nat) : BufTy := match i % 128 with
  | 0 => ⟨S_, .f32⟩
  | 1 => ⟨S4096x512, .f32⟩
  | 2 => ⟨S4096x512, .f32⟩
  | 3 => ⟨S_, .f32⟩
  | 4 => ⟨S4096x512, .f32⟩
  | 5 => ⟨S4096x512, .f32⟩
  | 6 => ⟨S4096x512, .f32⟩
  | 7 => ⟨S1x512, .f32⟩
  | 8 => ⟨S4096x512, .f32⟩
  | 9 => ⟨S4096x512, .f32⟩
  | 10 => ⟨S4096x512, .f32⟩
  | 11 => ⟨S_, .f32⟩
  | 12 => ⟨S_, .f32⟩
  | 13 => ⟨S_, .f32⟩
  | 14 => ⟨S4096x512, .f32⟩
  | 15 => ⟨S4096x512, .f32⟩
  | 16 => ⟨S_, .f32⟩
  | 17 => ⟨S4096x512, .f32⟩
  | 18 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_call0_cst : Ref sig .tc := ⟨.hbm, 30, rfl⟩
abbrev main_call0_v0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_cst_2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_3 : Ref sig .tc := ⟨.hbm, 69, rfl⟩
abbrev main_v41 : Ref sig .tc := ⟨.hbm, 70, rfl⟩
abbrev main_v42 : Ref sig .tc := ⟨.hbm, 71, rfl⟩
abbrev main_cst_4 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call1_cst : Ref sig .tc := ⟨.hbm, 79, rfl⟩
abbrev main_call1_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call2_cst : Ref sig .tc := ⟨.hbm, 86, rfl⟩
abbrev main_call2_v0 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call3_cst : Ref sig .tc := ⟨.hbm, 93, rfl⟩
abbrev main_call3_v0 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_5 : Ref sig .tc := ⟨.hbm, 102, rfl⟩
abbrev main_v66 : Ref sig .tc := ⟨.hbm, 103, rfl⟩
abbrev main_v67 : Ref sig .tc := ⟨.hbm, 104, rfl⟩
abbrev main_cst_6 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_call4_cst : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_v6 : Ref sig .tc := ⟨.hbm, 119, rfl⟩
abbrev main_call4_v7 : Ref sig .tc := ⟨.hbm, 120, rfl⟩
abbrev main_call4_v8 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_v74 : Ref sig .tc := ⟨.hbm, 125, rfl⟩
abbrev main_cst_7 : Ref sig .tc := ⟨.hbm, 126, rfl⟩
abbrev main_cst_8 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_9 : Ref sig .tc := ⟨.hbm, 139, rfl⟩
abbrev main_cst_10 : Ref sig .tc := ⟨.hbm, 140, rfl⟩
abbrev main_call6_v0 : Ref sig .tc := ⟨.hbm, 141, rfl⟩
abbrev main_call6_v1 : Ref sig .tc := ⟨.hbm, 142, rfl⟩
abbrev main_call6_v2 : Ref sig .tc := ⟨.hbm, 143, rfl⟩
abbrev main_call6_v3 : Ref sig .tc := ⟨.hbm, 144, rfl⟩
abbrev main_call6_v4 : Ref sig .tc := ⟨.hbm, 145, rfl⟩
abbrev main_v81 : Ref sig .tc := ⟨.hbm, 146, rfl⟩

abbrev nD : Nat := 1
abbrev τ : Topo := Topo.v7x

variable {F : FTy → Type} [FloatOps F]
-- ==== Proof.Reference.lean ====
/- The reference's run: it terminates, its arguments and semaphore counters end as they began. -/
module

public import proofs.«01_k».proof.Proof.Gen.ReferenceIdeal.Run
public import Idealize.ShloMosaic.Lib.Quiescent
public import Idealize.ShloMosaic.Adequacy
public import proofs.«01_k».proof.Defs

@[expose] public section

noncomputable section

namespace Cert.ReferenceIdeal.Ref

open Idealize.ShloMosaic Idealize.SL.Sem

/-- Every run of the reference ends with the arguments unchanged and every semaphore counter at zero. -/
theorem frame : Cert.quiescent_ReferenceIdeal :=
  fun m ρ _ => by
    refine (θ_run _ _ _).mono ?_ (Cert.ReferenceIdeal.Value.run m ρ)
    exact fun _ h => ⟨fun c => (h c).2.2.2.2.2.2, sem_eq_zero_of_no_sems (by decide) _⟩

end Cert.ReferenceIdeal.Ref

end
-- ==== Proof.Enc.Hops.lean ====
/-
  The encoder's last grid point: the seven propagation steps, run once over the resident scratch buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.UnfoldOut
public import Idealize.ShloMosaic.Lib.VecWindow

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {S : Shape} {e : EltTy} (M : Memref sig .tc .vmem S e) : Type := Buf (Elt F) (M.view.loc (c : Thread nD τ))
/-- Memref `M`'s elements held at `f`. -/
abbrev pt (c : Dev nD) {S : Shape} {e : EltTy} (M : Memref sig .tc .vmem S e) (f : Bf (F := F) c M) : sProp 𝕄 :=
  M.view.loc (c : Thread nD τ) ↦[M.view.set]{fullShare} f

set_option maxHeartbeats 4000000 in
/-- At the last grid point the body reads the resident buffers `b`, `g`, `dinv` and `ua` and the second layer's weights
    and bias, and leaves in the output window the pieces of the witness; every other buffer the point writes is left at
    some contents. -/
def hopsRun (c : Dev nD) (i : grid0.Coords) (h1 : ¬ k0_cond1 i = 1#1) (h2 : k0_cond2 i = 1#1)
    (arg1 : Memref sig .tc .vmem S128x2048 .f32) (harg1 : arg1.IsWhole) (arg2 : Memref sig .tc .vmem S128x2048 .f32) (harg2 : arg2.IsWhole)
    (arg3 : Memref sig .tc .vmem S128x512 .f32) (harg3 : arg3.IsWhole) (arg4 : Memref sig .tc .vmem S512x512 .f32) (harg4 : arg4.IsWhole)
    (arg5 : Memref sig .tc .vmem S512 .f32) (harg5 : arg5.IsWhole) (arg6 : Memref sig .tc .vmem S128x64 .f32) (harg6 : arg6.IsWhole)
    (arg7 : Memref sig .tc .vmem S64 .f32) (harg7 : arg7.IsWhole) (arg8 : Memref sig .tc .vmem S4096x16 .f32) (harg8 : arg8.IsWhole)
    (arg9 : Memref sig .tc .vmem S4096x4096 .bf16) (harg9 : arg9.IsWhole) (arg10 : Memref sig .tc .vmem S4096x384 .f32) (harg10 : arg10.IsWhole)
    (arg11 : Memref sig .tc .vmem S4096x128 .f32) (harg11 : arg11.IsWhole) (arg12 : Memref sig .tc .vmem S4096x128 .bf16) (harg12 : arg12.IsWhole)
    (arg13 : Memref sig .tc .vmem S4096x128 .bf16) (harg13 : arg13.IsWhole) (arg14 : Memref sig .tc .vmem S4096x64 .bf16) (harg14 : arg14.IsWhole)
    (arg15 : Memref sig .tc .vmem S4096x64 .f32) (harg15 : arg15.IsWhole)
    (f6 : Bf (F := F) c arg6) (f7 : Bf (F := F) c arg7) (f9 : Bf (F := F) c arg9) (f10 : Bf (F := F) c arg10) (f11 : Bf (F := F) c arg11)
    (f12 : Bf (F := F) c arg12) :
    { W : List (View.Piece (Elt F) S4096x16 .f32) //
      ∀ (f8 : Bf (F := F) c arg8) (f13 : Bf (F := F) c arg13) (f14 : Bf (F := F) c arg14) (f15 : Bf (F := F) c arg15)
        (E : Set ℕ) (Q : PUnit → sProp 𝕄),
        iprop(pt c arg6 f6 ∗ pt c arg7 f7 ∗ pt c arg8 f8 ∗ pt c arg9 f9 ∗ pt c arg10 f10 ∗ pt c arg11 f11
          ∗ pt c arg12 f12 ∗ pt c arg13 f13 ∗ pt c arg14 f14 ∗ pt c arg15 f15
          ∗ (iprop(pt c arg6 f6 ∗ pt c arg7 f7 ∗ pt c arg8 (arg8.view.writes (Elt F) f8 W) ∗ pt c arg9 f9 ∗ pt c arg10 f10 ∗ pt c arg11 f11
                ∗ (∃ f, pt c arg12 f) ∗ (∃ f, pt c arg13 f) ∗ (∃ f, pt c arg14 f) ∗ (∃ f, pt c arg15 f)) -∗ Q ⟨⟩))
        ⊢ wp frame (wpE (defs₀ (F := F)) Variants.none c none) E
            (cc0__enc_kernel i arg1 harg1 arg2 harg2 arg3 harg3 arg4 harg4 arg5 harg5 arg6 harg6 arg7 harg7 arg8 harg8
              arg9 harg9 arg10 harg10 arg11 harg11 arg12 harg12 arg13 harg13 arg14 harg14 arg15 harg15) Q } := by
  refine ⟨?_, fun f8 f13 f14 f15 E Q => ?run⟩
  case run =>
    simp only [cc0__enc_kernel_eq_skeleton]; unfold cc0__enc_kernel_skel
    iintro ⟨H6, H7, H8, H9, H10, H11, H12, H13, H14, H15, Hk⟩
    sl_exec
    sl_step
    iapply Hk
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    iexists _; iexact H15

end Cert.KernelIdeal.Enc

end
-- ==== Proof.Enc.Scan.lean ====
/-
  The encoder's scanning grid points: each stores 128 rows of the resident scratch buffers.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Enc.Hops
public import Idealize.ShloMosaic.Lib.Pipeline.FrameBody
public import Idealize.ShloMosaic.Lib.Tactic
public import Idealize.ShloMosaic.Lib.UnfoldOut
public import Idealize.ShloMosaic.Lib.VecWindow

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Rows of the adjacency panel's left half, as loaded. -/
abbrev ldA (c : Dev nD) (M : Memref sig .tc .vmem S128x2048 .f32) (f : Bf (F := F) c M) : Vec F S128x2048 .f32 :=
  M.view.readAt (Elt F) (Rect.unit (s := S128x2048) ![0, 0] S128x2048.size inb_S128x2048_S128x2048_0_0).toLoadRect f
/-- Rows of the features, as loaded. -/
abbrev ldX (c : Dev nD) (M : Memref sig .tc .vmem S128x512 .f32) (f : Bf (F := F) c M) : Vec F S128x512 .f32 :=
  M.view.readAt (Elt F) (Rect.unit (s := S128x512) ![0, 0] S128x512.size inb_S128x512_S128x512_0_0).toLoadRect f
/-- The first layer's weights, as loaded. -/
abbrev ldW (c : Dev nD) (M : Memref sig .tc .vmem S512x512 .f32) (f : Bf (F := F) c M) : Vec F S512x512 .f32 :=
  M.view.readAt (Elt F) (Rect.unit (s := S512x512) ![0, 0] S512x512.size inb_S512x512_S512x512_0_0).toLoadRect f
/-- The first layer's bias, as loaded. -/
abbrev ldB (c : Dev nD) (M : Memref sig .tc .vmem S512 .f32) (f : Bf (F := F) c M) : Vec F S512 .f32 :=
  M.view.readAt (Elt F) (Rect.unit (s := S512) ![0] S512.size inb_S512_S512_0).toLoadRect f

set_option maxHeartbeats 4000000 in
/-- At a scanning grid point the body stores the point's rows of `b` (two halves), `dinv`, `g` and `ua`, and touches
    nothing else. -/
theorem scanRun (c : Dev nD) (i : grid0.Coords) (h1 : k0_cond1 i = 1#1) (h2 : ¬ k0_cond2 i = 1#1)
    (arg1 : Memref sig .tc .vmem S128x2048 .f32) (harg1 : arg1.IsWhole) (arg2 : Memref sig .tc .vmem S128x2048 .f32) (harg2 : arg2.IsWhole)
    (arg3 : Memref sig .tc .vmem S128x512 .f32) (harg3 : arg3.IsWhole) (arg4 : Memref sig .tc .vmem S512x512 .f32) (harg4 : arg4.IsWhole)
    (arg5 : Memref sig .tc .vmem S512 .f32) (harg5 : arg5.IsWhole) (arg6 : Memref sig .tc .vmem S128x64 .f32) (harg6 : arg6.IsWhole)
    (arg7 : Memref sig .tc .vmem S64 .f32) (harg7 : arg7.IsWhole) (arg8 : Memref sig .tc .vmem S4096x16 .f32) (harg8 : arg8.IsWhole)
    (arg9 : Memref sig .tc .vmem S4096x4096 .bf16) (harg9 : arg9.IsWhole) (arg10 : Memref sig .tc .vmem S4096x384 .f32) (harg10 : arg10.IsWhole)
    (arg11 : Memref sig .tc .vmem S4096x128 .f32) (harg11 : arg11.IsWhole) (arg12 : Memref sig .tc .vmem S4096x128 .bf16) (harg12 : arg12.IsWhole)
    (arg13 : Memref sig .tc .vmem S4096x128 .bf16) (harg13 : arg13.IsWhole) (arg14 : Memref sig .tc .vmem S4096x64 .bf16) (harg14 : arg14.IsWhole)
    (arg15 : Memref sig .tc .vmem S4096x64 .f32) (harg15 : arg15.IsWhole)
    (f1 : Bf (F := F) c arg1) (f2 : Bf (F := F) c arg2) (f3 : Bf (F := F) c arg3) (f4 : Bf (F := F) c arg4) (f5 : Bf (F := F) c arg5)
    (f9 : Bf (F := F) c arg9) (f10 : Bf (F := F) c arg10) (f11 : Bf (F := F) c arg11) (f12 : Bf (F := F) c arg12)
    (E : Set ℕ) (Q : PUnit → sProp 𝕄) :
    iprop(pt c arg1 f1 ∗ pt c arg2 f2 ∗ pt c arg3 f3 ∗ pt c arg4 f4 ∗ pt c arg5 f5 ∗ pt c arg9 f9 ∗ pt c arg10 f10 ∗ pt c arg11 f11
          ∗ pt c arg12 f12
          ∗ (iprop(pt c arg1 f1 ∗ pt c arg2 f2 ∗ pt c arg3 f3 ∗ pt c arg4 f4 ∗ pt c arg5 f5
                ∗ pt c arg9 (arg9.view.writes (Elt F) f9
                    [⟨Rect.unit (s := S4096x4096) (k0_off2 i) S128x2048.size (k0_off2_inb i h1), k0_pay7 (ldA c arg2 f2)⟩,
                     ⟨Rect.unit (s := S4096x4096) (k0_off1 i) S128x2048.size (k0_off1_inb i h1), k0_pay6 (ldA c arg1 f1)⟩])
                ∗ pt c arg10 (arg10.view.writes (Elt F) f10
                    [⟨Rect.unit (s := S4096x384) (k0_off4 i) S128x384.size (k0_off4_inb i h1), k0_pay2 (ldX c arg3 f3) (ldW c arg4 f4) (ldB c arg5 f5)⟩])
                ∗ pt c arg11 (arg11.view.writes (Elt F) f11
                    [⟨Rect.unit (s := S4096x128) (k0_off3 i) S128x128.size (k0_off3_inb i h1), k0_pay9 (ldA c arg1 f1) (ldA c arg2 f2)⟩])
                ∗ pt c arg12 (arg12.view.writes (Elt F) f12
                    [⟨Rect.unit (s := S4096x128) (k0_off3 i) S128x128.size (k0_off3_inb i h1),
                      k0_pay3 (k0_pay8 (ldA c arg1 f1) (ldA c arg2 f2)) (ldX c arg3 f3) (ldW c arg4 f4) (ldB c arg5 f5)⟩])) -∗ Q ⟨⟩))
        ⊢ wp frame (wpE (defs₀ (F := F)) Variants.none c none) E
            (cc0__enc_kernel i arg1 harg1 arg2 harg2 arg3 harg3 arg4 harg4 arg5 harg5 arg6 harg6 arg7 harg7 arg8 harg8
              arg9 harg9 arg10 harg10 arg11 harg11 arg12 harg12 arg13 harg13 arg14 harg14 arg15 harg15) Q := by
  simp only [cc0__enc_kernel_eq_skeleton]; unfold cc0__enc_kernel_skel
  iintro ⟨H1, H2, H3, H4, H5, H9, H10, H11, H12, Hk⟩
  sl_exec
  sl_step
  iapply Hk
  isplitl [H1]; · iexact H1
  isplitl [H2]; · iexact H2
  isplitl [H3]; · iexact H3
  isplitl [H4]; · iexact H4
  isplitl [H5]; · iexact H5
  isplitl [H9]; · iexact H9
  isplitl [H10]; · iexact H10
  isplitl [H11]; · iexact H11
  iexact H12

end Cert.KernelIdeal.Enc

end
-- ==== Proof.Enc.Data.lean ====
/-
  The encoder call: what its resident scratch buffers hold before each grid point, and the body's obligation.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Enc.Scan
public import Idealize.ShloMosaic.Lib.ValueIdxCore
public import Idealize.ShloMosaic.Lib.Pipeline.TableIdle
public import Idealize.ShloMosaic.Lib.Pipeline.FrameBody
public import Idealize.ShloMosaic.Lib.Tactic
public import Idealize.ShloMosaic.Lib.UnfoldOut
public import Idealize.ShloMosaic.Lib.VecWindow

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- Input window 0's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-! ## The resident buffers' contents, row by row -/

/-- The grid point that stores row `r`. -/
def rowPt (r : Fin 4096) : Fin cfg0.N := ⟨r.val / 128, by have := r.isLt; show r.val / 128 < 33; omega⟩
/-- Row `r`'s place within its point's 128 rows. -/
def rowIn (r : Fin 4096) : Fin 128 := ⟨r.val % 128, Nat.mod_lt _ (by decide)⟩

/-- A 4096-row array laid out from one 128-row block per grid point. -/
def rowsOf {α : Type} {n : ℕ} (w : Fin cfg0.N → (⟨2, ![128, n]⟩ : Shape).Idx → α) : (⟨2, ![4096, n]⟩ : Shape).Idx → α :=
  fun x => w (rowPt (x 0)) (ix2 (rowIn (x 0)) (x 1))

/-- The mask buffer `b`: its left 2048 columns from the left panel, the others from the right panel. -/
def BV (c : Dev nD) : S4096x4096.Idx → Elt F .bf16 := fun x =>
  if h : (x 1).val < 2048 then (k0_pay6 (iblk0 V c 0 (rowPt (x 0))) : S128x2048.Idx → Elt F .bf16) (ix2 (rowIn (x 0)) ⟨(x 1).val, h⟩)
  else (k0_pay7 (iblk0 V c 1 (rowPt (x 0))) : S128x2048.Idx → Elt F .bf16)
    (ix2 (rowIn (x 0)) ⟨(x 1).val - 2048, by have : (x 1).val < 4096 := (x 1).isLt; omega⟩)
/-- The buffer `g`: the first layer's first three column groups. -/
def GV (c : Dev nD) : S4096x384.Idx → Elt F .f32 := rowsOf (n := 384) fun t => k0_pay2 (iblk0 V c 2 t) (iblk0 V c 3 t) (iblk0 V c 4 t)
/-- The buffer `dinv`: the inverse root degree of each row, along 128 columns. -/
def DV (c : Dev nD) : S4096x128.Idx → Elt F .f32 := rowsOf (n := 128) fun t => k0_pay9 (iblk0 V c 0 t) (iblk0 V c 1 t)
/-- The buffer `ua`: the first layer's last column group, scaled by `dinv`. -/
def UAV (c : Dev nD) : S4096x128.Idx → Elt F .bf16 := rowsOf (n := 128) fun t =>
  k0_pay3 (k0_pay8 (iblk0 V c 0 t) (iblk0 V c 1 t)) (iblk0 V c 2 t) (iblk0 V c 3 t) (iblk0 V c 4 t)

/-- Before point `t` the rows the earlier scanning points stored hold their values; nothing is said once the last
    point has run. -/
def Known (c : Dev nD) (t : ℕ) (b : S4096x4096.Idx → Elt F .bf16) (g : S4096x384.Idx → Elt F .f32) (d : S4096x128.Idx → Elt F .f32)
    (ua : S4096x128.Idx → Elt F .bf16) : Prop :=
  t ≤ 32 → (∀ x, (x 0).val < 128 * t → b x = BV V c x) ∧ (∀ x, (x 0).val < 128 * t → g x = GV V c x)
    ∧ (∀ x, (x 0).val < 128 * t → d x = DV V c x) ∧ (∀ x, (x 0).val < 128 * t → ua x = UAV V c x)

/-- Storing a point's 128 full-width rows extends the known rows by them. -/
theorem put_rows {α : Type} {n : ℕ} (w : Fin cfg0.N → (⟨2, ![128, n]⟩ : Shape).Idx → α) (f : (⟨2, ![4096, n]⟩ : Shape).Idx → α)
    (t : Fin cfg0.N) (ht : t.val < 32) (hf : ∀ x, (x 0).val < 128 * t.val → f x = rowsOf w x) (x : (⟨2, ![4096, n]⟩ : Shape).Idx)
    (hx : (x 0).val < 128 * (t.val + 1)) :
    VecWindow.put f ![128 * t.val, 0] ![128, n] (w t) x = rowsOf w x := by
  by_cases h : 128 * t.val ≤ (x 0).val
  · have hin : ∀ a : Fin 2, (![128 * t.val, 0] : Fin 2 → ℕ) a ≤ (x a).val ∧ (x a).val < (![128 * t.val, 0] : Fin 2 → ℕ) a + (![128, n] : Fin 2 → ℕ) a := fun a => by
      match a with
      | ⟨0, _⟩ => exact ⟨h, by show (x 0).val < 128 * t.val + 128; omega⟩
      | ⟨1, _⟩ => exact ⟨Nat.zero_le _, by show (x 1).val < 0 + n; have : (x 1).val < n := (x 1).isLt; omega⟩
    unfold VecWindow.put
    rw [dif_pos hin]
    unfold rowsOf
    have ht' : rowPt (x 0) = t := Fin.ext (by show (x 0).val / 128 = t.val; omega)
    rw [ht']
    refine congrArg (w t) (funext fun a => Fin.ext ?_)
    match a with
    | ⟨0, _⟩ => show (x 0).val - 128 * t.val = (x 0).val % 128; omega
    | ⟨1, _⟩ => show (x 1).val - 0 = (x 1).val; omega
  · unfold VecWindow.put
    rw [dif_neg fun hin => h (hin 0).1]
    exact hf x (by omega)

/-- The same for the mask buffer's two half-width stores. -/
theorem put_mask (c : Dev nD) (f : S4096x4096.Idx → Elt F .bf16)
    (t : Fin cfg0.N) (ht : t.val < 32) (hf : ∀ x, (x 0).val < 128 * t.val → f x = BV V c x) (x : S4096x4096.Idx)
    (hx : (x 0).val < 128 * (t.val + 1)) :
    VecWindow.put (VecWindow.put f ![128 * t.val, 0] ![128, 2048] (k0_pay6 (iblk0 V c 0 t))) ![128 * t.val, 2048] ![128, 2048]
      (k0_pay7 (iblk0 V c 1 t)) x = BV V c x := by
  have hx1 : (x 1).val < 4096 := (x 1).isLt
  by_cases h : 128 * t.val ≤ (x 0).val
  · have ht' : rowPt (x 0) = t := Fin.ext (by show (x 0).val / 128 = t.val; omega)
    by_cases h1 : (x 1).val < 2048
    · have hout : ¬ ∀ a : Fin 2, (![128 * t.val, 2048] : Fin 2 → ℕ) a ≤ (x a).val ∧ (x a).val < (![128 * t.val, 2048] : Fin 2 → ℕ) a + (![128, 2048] : Fin 2 → ℕ) a :=
        fun hin => absurd (hin 1).1 (by show ¬ 2048 ≤ (x 1).val; omega)
      have hin : ∀ a : Fin 2, (![128 * t.val, 0] : Fin 2 → ℕ) a ≤ (x a).val ∧ (x a).val < (![128 * t.val, 0] : Fin 2 → ℕ) a + (![128, 2048] : Fin 2 → ℕ) a := fun a => by
        match a with
        | ⟨0, _⟩ => exact ⟨h, by show (x 0).val < 128 * t.val + 128; omega⟩
        | ⟨1, _⟩ => exact ⟨Nat.zero_le _, by show (x 1).val < 0 + 2048; omega⟩
      unfold VecWindow.put BV
      rw [dif_neg hout, dif_pos hin, dif_pos h1, ht']
      refine congrArg (k0_pay6 (iblk0 V c 0 t) : S128x2048.Idx → Elt F .bf16) (funext fun a => Fin.ext ?_)
      match a with
      | ⟨0, _⟩ => show (x 0).val - 128 * t.val = (x 0).val % 128; omega
      | ⟨1, _⟩ => show (x 1).val - 0 = (x 1).val; omega
    · have hin : ∀ a : Fin 2, (![128 * t.val, 2048] : Fin 2 → ℕ) a ≤ (x a).val ∧ (x a).val < (![128 * t.val, 2048] : Fin 2 → ℕ) a + (![128, 2048] : Fin 2 → ℕ) a := fun a => by
        match a with
        | ⟨0, _⟩ => exact ⟨h, by show (x 0).val < 128 * t.val + 128; omega⟩
        | ⟨1, _⟩ => exact ⟨by show 2048 ≤ (x 1).val; omega, by show (x 1).val < 2048 + 2048; omega⟩
      unfold VecWindow.put BV
      rw [dif_pos hin, dif_neg h1, ht']
      refine congrArg (k0_pay7 (iblk0 V c 1 t) : S128x2048.Idx → Elt F .bf16) (funext fun a => Fin.ext ?_)
      match a with
      | ⟨0, _⟩ => show (x 0).val - 128 * t.val = (x 0).val % 128; omega
      | ⟨1, _⟩ => show (x 1).val - 2048 = (x 1).val - 2048; rfl
  · unfold VecWindow.put
    rw [dif_neg fun hin => h (hin 0).1, dif_neg fun hin => h (hin 0).1]
    exact hf x (by omega)

/-! ## The proof data -/

/-- The pieces the last point leaves in the output window. -/
def zPieces (c : Dev nD) (t : Fin cfg0.N) (h1 : ¬ k0_cond1 (grid0.coords t) = 1#1) (h2 : k0_cond2 (grid0.coords t) = 1#1) :
    List (View.Piece (Elt F) S4096x16 .f32) :=
  (hopsRun (F := F) c (grid0.coords t) h1 h2 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    ((st0_5 t).view.rep (iblk0 V c 5 t)) ((st0_6 t).view.rep (iblk0 V c 6 t))
    ((Memref.whole cc0_scratch0).view.rep (BV V c)) ((Memref.whole cc0_scratch1).view.rep (GV V c))
    ((Memref.whole cc0_scratch2).view.rep (DV V c)) ((Memref.whole cc0_scratch3).view.rep (UAV V c))).1

/-- They tile the window, so they cover it. -/
theorem zPieces_cover (c : Dev nD) (t : Fin cfg0.N) (h1 : ¬ k0_cond1 (grid0.coords t) = 1#1) (h2 : k0_cond2 (grid0.coords t) = 1#1) :
    ∀ y : S4096x16.Idx, ∃ p ∈ zPieces V c t h1 h2, y ∈ p.1.set :=
  View.cover_of_tiled (zPieces V c t h1 h2) S1024x16.size (by rfl)

open Classical in
/-- What the output window holds after point `t`: the last point's pieces read back. -/
def ZV (c : Dev nD) (t : Fin cfg0.N) : S4096x16.Idx → Elt F .f32 :=
  if h : ¬ k0_cond1 (grid0.coords t) = 1#1 ∧ k0_cond2 (grid0.coords t) = 1#1 then View.canon (zPieces V c t h.1 h.2)
  else View.canon []

/-- The invariant before point `t`: the seven resident buffers, the first four known where stored; the other scoped
    buffers; the generator register. -/
def Phi0 (c : Dev nD) (t : Fin (cfg0.N + 1)) : sProp 𝕄 :=
  iprop((∃ (b : S4096x4096.Idx → Elt F .bf16) (g : S4096x384.Idx → Elt F .f32) (d : S4096x128.Idx → Elt F .f32) (ua : S4096x128.Idx → Elt F .bf16)
        (ub : S4096x128.Idx → Elt F .bf16) (u2 : S4096x64.Idx → Elt F .bf16) (g2 : S4096x64.Idx → Elt F .f32),
      ⌜Known V c t.val b g d ua⌝
      ∗ owns (c : Thread nD τ) (Memref.whole cc0_scratch0) fullShare b ∗ owns (c : Thread nD τ) (Memref.whole cc0_scratch1) fullShare g
      ∗ owns (c : Thread nD τ) (Memref.whole cc0_scratch2) fullShare d ∗ owns (c : Thread nD τ) (Memref.whole cc0_scratch3) fullShare ua
      ∗ owns (c : Thread nD τ) (Memref.whole cc0_scratch4) fullShare ub ∗ owns (c : Thread nD τ) (Memref.whole cc0_scratch5) fullShare u2
      ∗ owns (c : Thread nD τ) (Memref.whole cc0_scratch6) fullShare g2)
    ∗ Pipeline.scopedRestBut spec0 c [cc0_scratch0, cc0_scratch1, cc0_scratch2, cc0_scratch3, cc0_scratch4, cc0_scratch5, cc0_scratch6]
    ∗ ∃ r, prngReg c r)

/-- The encoder call's proof data: each input window left at its block, the output window at `ZV`, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => ZV V c t
  Φ t := Phi0 V c t
  q w := Pipeline.shareOf spec0 w
  owed _ := 0

/-- The proof data's arrays are the contents at entry. -/
theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = ZV V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body's obligation -/

theorem cond1_iff : ∀ t : Fin cfg0.N, k0_cond1 (grid0.coords t) = 1#1 ↔ t.val < 32 :=
  (by decide +kernel : ∀ t : Fin grid0.N, k0_cond1 (grid0.coords t) = 1#1 ↔ t.val < 32)
theorem cond2_iff : ∀ t : Fin cfg0.N, k0_cond2 (grid0.coords t) = 1#1 ↔ t.val = 32 :=
  (by decide +kernel : ∀ t : Fin grid0.N, k0_cond2 (grid0.coords t) = 1#1 ↔ t.val = 32)
theorem off1_eq : ∀ t : Fin cfg0.N, t.val < 32 → k0_off1 (grid0.coords t) = ![128 * t.val, 0] :=
  (by decide +kernel : ∀ t : Fin grid0.N, t.val < 32 → k0_off1 (grid0.coords t) = ![128 * t.val, 0])
theorem off2_eq : ∀ t : Fin cfg0.N, t.val < 32 → k0_off2 (grid0.coords t) = ![128 * t.val, 2048] :=
  (by decide +kernel : ∀ t : Fin grid0.N, t.val < 32 → k0_off2 (grid0.coords t) = ![128 * t.val, 2048])
theorem off3_eq : ∀ t : Fin cfg0.N, t.val < 32 → k0_off3 (grid0.coords t) = ![128 * t.val, 0] :=
  (by decide +kernel : ∀ t : Fin grid0.N, t.val < 32 → k0_off3 (grid0.coords t) = ![128 * t.val, 0])
theorem off4_eq : ∀ t : Fin cfg0.N, t.val < 32 → k0_off4 (grid0.coords t) = ![128 * t.val, 0] :=
  (by decide +kernel : ∀ t : Fin grid0.N, t.val < 32 → k0_off4 (grid0.coords t) = ![128 * t.val, 0])

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns, with the output window as `Z`. -/
def bodyPost0 (c : Dev nD) (t : Fin cfg0.N) (Z : sProp 𝕄) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ Z)

/-- A memref's elements held at some contents are owned at what those read. -/
theorem owns_of_pt (c : Dev nD) {S : Shape} {e : EltTy} (M : Memref sig .tc .vmem S e) (f : Bf (F := F) c M) (X : S.Idx → Elt F e)
    (h : M.view.read (Elt F) f = X) : (pt c M f : sProp 𝕄) ⊢ owns (c : Thread nD τ) M fullShare X := by
  subst h; exact owns_intro (c : Thread nD τ) M fullShare f

end Cert.KernelIdeal.Enc

end
-- ==== Proof.Enc.Body.lean ====
/-
  The encoder call: the body's obligation at every grid point.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Enc.Data
public import Idealize.ShloMosaic.Lib.ValueIdxCore
public import Idealize.ShloMosaic.Lib.Pipeline.TableIdle
public import Idealize.ShloMosaic.Lib.Pipeline.FrameBody
public import Idealize.ShloMosaic.Lib.Tactic
public import Idealize.ShloMosaic.Lib.UnfoldOut
public import Idealize.ShloMosaic.Lib.VecWindow

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Taking a memref's ownership as its elements held at the representative of its contents. -/
theorem pt_of_owns (c : Dev nD) {S : Shape} {e : EltTy} (M : Memref sig .tc .vmem S e) (X : S.Idx → Elt F e) :
    (owns (c : Thread nD τ) M fullShare X : sProp 𝕄) ⊢ pt c M (M.view.rep X) := rep_of_owns (c : Thread nD τ) M fullShare X
/-- And back. -/
theorem owns_of_pt_rep (c : Dev nD) {S : Shape} {e : EltTy} (M : Memref sig .tc .vmem S e) (X : S.Idx → Elt F e) :
    (pt c M (M.view.rep X) : sProp 𝕄) ⊢ owns (c : Thread nD τ) M fullShare X := owns_of_rep (c : Thread nD τ) M fullShare X
/-- A memref's elements held at any contents are owned at something. -/
theorem owns_any (c : Dev nD) {S : Shape} {e : EltTy} (M : Memref sig .tc .vmem S e) :
    (iprop(∃ f, pt c M f) : sProp 𝕄) ⊢ iprop(∃ X, owns (c : Thread nD τ) M fullShare X) := by
  iintro ⟨%f, H⟩
  iexists _
  iapply (owns_of_pt c M f _ rfl)
  iexact H

theorem ldA_rep (c : Dev nD) (M : Memref sig .tc .vmem S128x2048 .f32) (X : S128x2048.Idx → Elt F .f32) : ldA c M (M.view.rep X) = X := by
  unfold ldA
  exact View.readAt_rep_full M.view X (off := ![0, 0]) inb_S128x2048_S128x2048_0_0
theorem ldX_rep (c : Dev nD) (M : Memref sig .tc .vmem S128x512 .f32) (X : S128x512.Idx → Elt F .f32) : ldX c M (M.view.rep X) = X := by
  unfold ldX
  exact View.readAt_rep_full M.view X (off := ![0, 0]) inb_S128x512_S128x512_0_0
theorem ldW_rep (c : Dev nD) (M : Memref sig .tc .vmem S512x512 .f32) (X : S512x512.Idx → Elt F .f32) : ldW c M (M.view.rep X) = X := by
  unfold ldW
  exact View.readAt_rep_full M.view X (off := ![0, 0]) inb_S512x512_S512x512_0_0
theorem ldB_rep (c : Dev nD) (M : Memref sig .tc .vmem S512 .f32) (X : S512.Idx → Elt F .f32) : ldB c M (M.view.rep X) = X := by
  unfold ldB
  exact View.readAt_rep_full M.view X (off := ![0]) inb_S512_S512_0

/-- What a point's store of full-width rows leaves, read back. -/
theorem read_put {S : Shape} {e : EltTy} (M : Memref sig .tc .vmem S e) (X : S.Idx → Elt F e) {off off' size : Fin S.rank → ℕ}
    (inb : ∀ a, off a + size a ≤ S.size a) (w : (Rect.unit off size inb).shape.Idx → Elt F e) (h : off = off') :
    M.view.read (Elt F) (M.view.writes (Elt F) (M.view.rep X) [⟨Rect.unit off size inb, w⟩]) = VecWindow.put X off' size w :=
  View.read_writes_rep_unit M.view X inb w h

/-- The same for two such stores. -/
theorem read_put2 {S : Shape} {e : EltTy} (M : Memref sig .tc .vmem S e) (X : S.Idx → Elt F e) {off₁ off₁' size₁ off₂ off₂' size₂ : Fin S.rank → ℕ}
    (inb₁ : ∀ a, off₁ a + size₁ a ≤ S.size a) (w₁ : (Rect.unit off₁ size₁ inb₁).shape.Idx → Elt F e)
    (inb₂ : ∀ a, off₂ a + size₂ a ≤ S.size a) (w₂ : (Rect.unit off₂ size₂ inb₂).shape.Idx → Elt F e) (h₁ : off₁ = off₁') (h₂ : off₂ = off₂') :
    M.view.read (Elt F) (M.view.writes (Elt F) (M.view.rep X) [⟨Rect.unit off₂ size₂ inb₂, w₂⟩, ⟨Rect.unit off₁ size₁ inb₁, w₁⟩])
      = VecWindow.put (VecWindow.put X off₁' size₁ w₁) off₂' size₂ w₂ := by
  rw [View.read_writes_cons_put M.view _ inb₂ w₂ _ h₂]
  exact congrArg (fun z => VecWindow.put z off₂' size₂ w₂) (read_put M X inb₁ w₁ h₁)

/-- The last point's pieces, read back over any contents. -/
theorem read_z (c : Dev nD) (t : Fin cfg0.N) (h1 : ¬ k0_cond1 (grid0.coords t) = 1#1) (h2 : k0_cond2 (grid0.coords t) = 1#1)
    (f : Bf (F := F) c (st0_7 t)) : (st0_7 t).view.read (Elt F) ((st0_7 t).view.writes (Elt F) f (zPieces V c t h1 h2)) = ZV V c t := by
  unfold ZV
  rw [dif_pos ⟨h1, h2⟩]
  exact View.read_writes_eq_canon _ _ _ (zPieces_cover V c t h1 h2)

/-- A scanning point advances what is known of the resident buffers by its rows. -/
theorem known_scan (c : Dev nD) (t : Fin cfg0.N) (ht : t.val < 32) {b : S4096x4096.Idx → Elt F .bf16} {g : S4096x384.Idx → Elt F .f32}
    {d : S4096x128.Idx → Elt F .f32} {ua : S4096x128.Idx → Elt F .bf16} (hK : Known V c t.val b g d ua) :
    Known V c (t.val + 1)
      (VecWindow.put (VecWindow.put b ![128 * t.val, 0] ![128, 2048] (k0_pay6 (iblk0 V c 0 t))) ![128 * t.val, 2048] ![128, 2048] (k0_pay7 (iblk0 V c 1 t)))
      (VecWindow.put g ![128 * t.val, 0] ![128, 384] (k0_pay2 (iblk0 V c 2 t) (iblk0 V c 3 t) (iblk0 V c 4 t)))
      (VecWindow.put d ![128 * t.val, 0] ![128, 128] (k0_pay9 (iblk0 V c 0 t) (iblk0 V c 1 t)))
      (VecWindow.put ua ![128 * t.val, 0] ![128, 128]
        (k0_pay3 (k0_pay8 (iblk0 V c 0 t) (iblk0 V c 1 t)) (iblk0 V c 2 t) (iblk0 V c 3 t) (iblk0 V c 4 t))) := by
  intro _
  obtain ⟨hb, hg, hd, hu⟩ := hK (by omega)
  exact ⟨fun x hx => put_mask V c b t ht hb x hx,
    fun x hx => put_rows (n := 384) (fun t => k0_pay2 (iblk0 V c 2 t) (iblk0 V c 3 t) (iblk0 V c 4 t)) g t ht hg x hx,
    fun x hx => put_rows (n := 128) (fun t => k0_pay9 (iblk0 V c 0 t) (iblk0 V c 1 t)) d t ht hd x hx,
    fun x hx => put_rows (n := 128) (fun t => k0_pay3 (k0_pay8 (iblk0 V c 0 t) (iblk0 V c 1 t)) (iblk0 V c 2 t) (iblk0 V c 3 t) (iblk0 V c 4 t)) ua t ht hu x hx⟩

set_option maxHeartbeats 4000000 in
/-- The body at a scanning point: the output window is handed back as found. -/
theorem sound_scan (c : Dev nD) (t : Fin cfg0.N) (ht : t.val < 32) :
    bodyPre0 V c t ⊢ wp frame (wpE (defs₀ (F := F)) Variants.none c none) Set.univ (bodyAt0 t)
      (fun _ => bodyPost0 V c t iprop(∃ d, owns (c : Thread nD τ) (st0_7 t) fullShare ((dat0 V c).before 7 t d))) := by
  have h1 : k0_cond1 (grid0.coords t) = 1#1 := (cond1_iff t).mpr ht
  have h2 : ¬ k0_cond2 (grid0.coords t) = 1#1 := fun h => by have := (cond2_iff t).mp h; omega
  unfold bodyPre0 bodyPost0 bodyAt0
  simp only [before0_0, before0_1, before0_2, before0_3, before0_4, before0_5, before0_6]
  rw [show (dat0 V c).Φ t.succ = Phi0 V c t.succ from rfl, show (dat0 V c).Φ t.castSucc = Phi0 V c t.castSucc from rfl,
    show (dat0 V c).owesAt () t.succ = (dat0 V c).owesAt () t.castSucc from rfl,
    after0_0, after0_1, after0_2, after0_3, after0_4, after0_5, after0_6]
  unfold Phi0
  iintro ⟨⟨⟨%b, %g, %d, %ua, %ub, %u2, %g2, %hK, S0, S1, S2, S3, S4, S5, S6⟩, Hrest, Hp⟩, Ho, ⟨%d0, H0⟩, ⟨%d1, H1⟩, ⟨%d2, H2⟩, ⟨%d3, H3⟩, ⟨%d4, H4⟩, ⟨%d5, H5⟩, ⟨%d6, H6⟩, H7⟩
  ihave H0 := (pt_of_owns c (st0_0 t) (iblk0 V c 0 t)) $$ H0
  ihave H1 := (pt_of_owns c (st0_1 t) (iblk0 V c 1 t)) $$ H1
  ihave H2 := (pt_of_owns c (st0_2 t) (iblk0 V c 2 t)) $$ H2
  ihave H3 := (pt_of_owns c (st0_3 t) (iblk0 V c 3 t)) $$ H3
  ihave H4 := (pt_of_owns c (st0_4 t) (iblk0 V c 4 t)) $$ H4
  ihave S0 := (pt_of_owns c (Memref.whole cc0_scratch0) b) $$ S0
  ihave S1 := (pt_of_owns c (Memref.whole cc0_scratch1) g) $$ S1
  ihave S2 := (pt_of_owns c (Memref.whole cc0_scratch2) d) $$ S2
  ihave S3 := (pt_of_owns c (Memref.whole cc0_scratch3) ua) $$ S3
  iapply (scanRun (F := F) c (grid0.coords t) h1 h2 _ _ _ _ _ _ _ _ _ _ _ _ _ _ _ _ _ (Memref.isWhole_whole _) _ (Memref.isWhole_whole _) _ (Memref.isWhole_whole _)
    _ (Memref.isWhole_whole _) _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  iintro ⟨H0, H1, H2, H3, H4, S0, S1, S2, S3⟩
  simp only [ldA_rep, ldX_rep, ldW_rep, ldB_rep]
  isplitl [S0 S1 S2 S3 S4 S5 S6 Hrest Hp]
  · isplitl [S0 S1 S2 S3 S4 S5 S6]
    · iexists (VecWindow.put (VecWindow.put b ![128 * t.val, 0] ![128, 2048] (k0_pay6 (iblk0 V c 0 t))) ![128 * t.val, 2048] ![128, 2048] (k0_pay7 (iblk0 V c 1 t))),
        (VecWindow.put g ![128 * t.val, 0] ![128, 384] (k0_pay2 (iblk0 V c 2 t) (iblk0 V c 3 t) (iblk0 V c 4 t))),
        (VecWindow.put d ![128 * t.val, 0] ![128, 128] (k0_pay9 (iblk0 V c 0 t) (iblk0 V c 1 t))),
        (VecWindow.put ua ![128 * t.val, 0] ![128, 128]
          (k0_pay3 (k0_pay8 (iblk0 V c 0 t) (iblk0 V c 1 t)) (iblk0 V c 2 t) (iblk0 V c 3 t) (iblk0 V c 4 t))), ub, u2, g2
      isplitr
      · ipureintro; exact known_scan V c t ht hK
      isplitl [S0]
      · iapply (owns_of_pt c (Memref.whole cc0_scratch0) _ _ (read_put2 (Memref.whole cc0_scratch0) b _ _ _ _ (off1_eq t ht) (off2_eq t ht)))
        iexact S0
      isplitl [S1]
      · iapply (owns_of_pt c (Memref.whole cc0_scratch1) _ _ (read_put (Memref.whole cc0_scratch1) g _ _ (off4_eq t ht)))
        iexact S1
      isplitl [S2]
      · iapply (owns_of_pt c (Memref.whole cc0_scratch2) _ _ (read_put (Memref.whole cc0_scratch2) d _ _ (off3_eq t ht)))
        iexact S2
      isplitl [S3]
      · iapply (owns_of_pt c (Memref.whole cc0_scratch3) _ _ (read_put (Memref.whole cc0_scratch3) ua _ _ (off3_eq t ht)))
        iexact S3
      isplitl [S4]; · iexact S4
      isplitl [S5]; · iexact S5
      iexact S6
    isplitl [Hrest]; · iexact Hrest
    iexact Hp
  isplitl [Ho]; · iexact Ho
  isplitl [H0]
  · iapply (owns_of_pt_rep c (st0_0 t) (iblk0 V c 0 t)); iexact H0
  isplitl [H1]
  · iapply (owns_of_pt_rep c (st0_1 t) (iblk0 V c 1 t)); iexact H1
  isplitl [H2]
  · iapply (owns_of_pt_rep c (st0_2 t) (iblk0 V c 2 t)); iexact H2
  isplitl [H3]
  · iapply (owns_of_pt_rep c (st0_3 t) (iblk0 V c 3 t)); iexact H3
  isplitl [H4]
  · iapply (owns_of_pt_rep c (st0_4 t) (iblk0 V c 4 t)); iexact H4
  isplitl [H5]; · iexact H5
  isplitl [H6]; · iexact H6
  iexact H7

set_option maxHeartbeats 4000000 in
/-- The body at the last point: the output window is left at `ZV`. -/
theorem sound_hops (c : Dev nD) (t : Fin cfg0.N) (ht : t.val = 32) :
    bodyPre0 V c t ⊢ wp frame (wpE (defs₀ (F := F)) Variants.none c none) Set.univ (bodyAt0 t)
      (fun _ => bodyPost0 V c t (owns (c : Thread nD τ) (st0_7 t) fullShare ((dat0 V c).after 7 t))) := by
  have h1 : ¬ k0_cond1 (grid0.coords t) = 1#1 := fun h => by have := (cond1_iff t).mp h; omega
  have h2 : k0_cond2 (grid0.coords t) = 1#1 := (cond2_iff t).mpr ht
  unfold bodyPre0 bodyPost0 bodyAt0
  simp only [before0_0, before0_1, before0_2, before0_3, before0_4, before0_5, before0_6]
  rw [show (dat0 V c).Φ t.succ = Phi0 V c t.succ from rfl, show (dat0 V c).Φ t.castSucc = Phi0 V c t.castSucc from rfl,
    show (dat0 V c).owesAt () t.succ = (dat0 V c).owesAt () t.castSucc from rfl,
    after0_0, after0_1, after0_2, after0_3, after0_4, after0_5, after0_6, after0_7]
  unfold Phi0
  iintro ⟨⟨⟨%b, %g, %d, %ua, %ub, %u2, %g2, %hK, S0, S1, S2, S3, S4, S5, S6⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨hb, hg, hd, hu⟩ := hK (by show t.val ≤ 32; omega)
  have hall : ∀ n : Fin 4096, n.val < 128 * t.val := fun n => by have := n.isLt; omega
  obtain rfl : b = BV V c := funext fun x => hb x (hall (x 0))
  obtain rfl : g = GV V c := funext fun x => hg x (hall (x 0))
  obtain rfl : d = DV V c := funext fun x => hd x (hall (x 0))
  obtain rfl : ua = UAV V c := funext fun x => hu x (hall (x 0))
  ihave H5 := (pt_of_owns c (st0_5 t) (iblk0 V c 5 t)) $$ H5
  ihave H6 := (pt_of_owns c (st0_6 t) (iblk0 V c 6 t)) $$ H6
  ihave H7 := (pt_of_owns c (st0_7 t) _) $$ H7
  ihave S0 := (pt_of_owns c (Memref.whole cc0_scratch0) (BV V c)) $$ S0
  ihave S1 := (pt_of_owns c (Memref.whole cc0_scratch1) (GV V c)) $$ S1
  ihave S2 := (pt_of_owns c (Memref.whole cc0_scratch2) (DV V c)) $$ S2
  ihave S3 := (pt_of_owns c (Memref.whole cc0_scratch3) (UAV V c)) $$ S3
  ihave S4 := (pt_of_owns c (Memref.whole cc0_scratch4) ub) $$ S4
  ihave S5 := (pt_of_owns c (Memref.whole cc0_scratch5) u2) $$ S5
  ihave S6 := (pt_of_owns c (Memref.whole cc0_scratch6) g2) $$ S6
  iapply ((hopsRun (F := F) c (grid0.coords t) h1 h2 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    ((st0_5 t).view.rep (iblk0 V c 5 t)) ((st0_6 t).view.rep (iblk0 V c 6 t))
    ((Memref.whole cc0_scratch0).view.rep (BV V c)) ((Memref.whole cc0_scratch1).view.rep (GV V c))
    ((Memref.whole cc0_scratch2).view.rep (DV V c)) ((Memref.whole cc0_scratch3).view.rep (UAV V c))).2 _ _ _ _ Set.univ _)
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H5, H6, H7, S0, S1, S2, S3, S4, S5, S6⟩
  ihave S0 := (owns_of_pt_rep c (Memref.whole cc0_scratch0) (BV V c)) $$ S0
  ihave S1 := (owns_of_pt_rep c (Memref.whole cc0_scratch1) (GV V c)) $$ S1
  ihave S2 := (owns_of_pt_rep c (Memref.whole cc0_scratch2) (DV V c)) $$ S2
  ihave S3 := (owns_any c (Memref.whole cc0_scratch3)) $$ S3
  ihave S4 := (owns_any c (Memref.whole cc0_scratch4)) $$ S4
  ihave S5 := (owns_any c (Memref.whole cc0_scratch5)) $$ S5
  ihave S6 := (owns_any c (Memref.whole cc0_scratch6)) $$ S6
  icases S3 with ⟨%ua', S3⟩
  icases S4 with ⟨%ub', S4⟩
  icases S5 with ⟨%u2', S5⟩
  icases S6 with ⟨%g2', S6⟩
  isplitl [S0 S1 S2 S3 S4 S5 S6 Hrest Hp]
  · isplitl [S0 S1 S2 S3 S4 S5 S6]
    · iexists (BV V c), (GV V c), (DV V c), ua', ub', u2', g2'
      isplitr
      · ipureintro
        exact fun h => absurd (show t.val + 1 ≤ 32 from h) (by omega)
      isplitl [S0]; · iexact S0
      isplitl [S1]; · iexact S1
      isplitl [S2]; · iexact S2
      isplitl [S3]; · iexact S3
      isplitl [S4]; · iexact S4
      isplitl [S5]; · iexact S5
      iexact S6
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]
  · iapply (owns_of_pt_rep c (st0_5 t) (iblk0 V c 5 t)); iexact H5
  isplitl [H6]
  · iapply (owns_of_pt_rep c (st0_6 t) (iblk0 V c 6 t)); iexact H6
  iapply (owns_of_pt c (st0_7 t) _ _ (read_z V c t h1 h2 _))
  iexact H7

/-- The invariant before the first point, from the scoped buffers at whatever they hold. -/
theorem phi0_open (c : Dev nD) :
    (iprop(Pipeline.scopedRest (Ix := Unit) (Name := ℕ) (U := UR sig nD τ) (Lvl := ℕ) (Val := Elt F) spec0 c ∗ ∃ r, prngReg c r) : sProp 𝕄) ⊢ Phi0 V c 0 := by
  rw [scopedRest0_split]
  unfold Phi0
  simp only [owns_whole]
  iintro ⟨⟨⟨⟨%b, S0⟩, ⟨%g, S1⟩, ⟨%d, S2⟩, ⟨%ua, S3⟩, ⟨%ub, S4⟩, ⟨%u2, S5⟩, ⟨%g2, S6⟩⟩, Hrest⟩, Hp⟩
  isplitl [S0 S1 S2 S3 S4 S5 S6]
  · iexists b, g, d, ua, ub, u2, g2
    isplitr
    · ipureintro
      exact fun _ => ⟨fun x h => absurd h (by simp), fun x h => absurd h (by simp), fun x h => absurd h (by simp), fun x h => absurd h (by simp)⟩
    isplitl [S0]; · iexact S0
    isplitl [S1]; · iexact S1
    isplitl [S2]; · iexact S2
    isplitl [S3]; · iexact S3
    isplitl [S4]; · iexact S4
    isplitl [S5]; · iexact S5
    iexact S6
  isplitl [Hrest]; · iexact Hrest
  iexact Hp

/-- The invariant gives the scoped buffers back. -/
theorem phi0_close (c : Dev nD) (t : Fin (cfg0.N + 1)) :
    Phi0 V c t ⊢ (iprop(Pipeline.scopedRest (Ix := Unit) (Name := ℕ) (U := UR sig nD τ) (Lvl := ℕ) (Val := Elt F) spec0 c ∗ ∃ r, prngReg c r) : sProp 𝕄) := by
  rw [scopedRest0_split]
  unfold Phi0
  simp only [owns_whole]
  iintro ⟨⟨%b, %g, %d, %ua, %ub, %u2, %g2, -, S0, S1, S2, S3, S4, S5, S6⟩, Hrest, Hp⟩
  isplitl [S0 S1 S2 S3 S4 S5 S6 Hrest]
  · isplitl [S0 S1 S2 S3 S4 S5 S6]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iexists _; iexact S6
    iexact Hrest
  iexact Hp

/-- The body table's row at point `t`'s slots is the body at `t`. -/
theorem defs₀_row0 (t : Fin cfg0.N) :
    defs₀ (F := F) .tc cfg0.body (cfg0.bodyArgs t (cfg0.slots t)) = bodyAt0 t := by
  unfold defs₀; rw [Defs.onTc_tc]

theorem idle7 (t : Fin cfg0.N) (ht : t.val < 32) : cfg0.idle 7 (cfg0.grid.coords t) = true := by
  show (!(k0_cond2 (grid0.coords t) == 1#1)) = true
  have h : ¬ k0_cond2 (grid0.coords t) = 1#1 := fun h => by have := (cond2_iff t).mp h; omega
  simp [h]
theorem busy7 (t : Fin cfg0.N) (ht : t.val = 32) : cfg0.idle 7 (cfg0.grid.coords t) = false := by
  show (!(k0_cond2 (grid0.coords t) == 1#1)) = false
  simp [(cond2_iff t).mpr ht]
theorem noflush7 (t : Fin cfg0.N) (ht : t.val < 32) : (cfg0.win 7).flush t = false := by
  rw [Bool.eq_false_iff]; intro h; have := (flush0_7 t).mp h; omega

/-- The body's obligation, at every point. -/
theorem body_obligation0 (c : Dev nD) : BodyObligation (dat0 (F := F) V c) (defs₀ (F := F)) Variants.none () Set.univ := fun t => by
  rw [bigSep_W0, bigSep_W0, defs₀_row0]
  by_cases ht : t.val < 32
  · rw [idle7 t ht, noflush7 t ht]
    exact triple_restated (sound_scan V c t ht) rfl .rfl fun _ => .rfl
  · have ht' : t.val = 32 := by have : t.val < 33 := t.isLt; omega
    rw [busy7 t ht']
    exact triple_restated (sound_hops V c t ht') rfl .rfl fun _ => .rfl

end Cert.KernelIdeal.Enc

end
-- ==== Proof.Calls.lean ====
/-
  The three calls after the encoder: per call, what each window holds after the body at a point, and the obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1024x16 := Rect.unit (s := S1024x16) ![0, 0] S1024x16.size inb_S1024x16_S1024x16_0_0
abbrev r1_1 : Rect S16x16 := Rect.unit (s := S16x16) ![0, 0] S16x16.size inb_S16x16_S16x16_0_0
abbrev r1_2 : Rect S16x32 := Rect.unit (s := S16x32) ![0, 0] S16x32.size inb_S16x32_S16x32_0_0
abbrev r1_3 : Rect S32 := Rect.unit (s := S32) ![0] S32.size inb_S32_S32_0
abbrev r1_4 : Rect S1024x32 := Rect.unit (s := S1024x32) ![0, 0] S1024x32.size inb_S1024x32_S1024x32_0_0
abbrev r1_5 : Rect S32x32 := Rect.unit (s := S32x32) ![0, 0] S32x32.size inb_S32x32_S32x32_0_0

/-! ## What the body leaves in each output window's buffer -/

/-! ### Values of the body that the stores' payloads, spelt out, would write more than once

    Each is a vector the body binds (often a part call's result), stated over the input windows' blocks and
    numbered on from the skeleton's payload functions (`k1_pay5` …, after `k1_pay4`), so that
    `out1_W` and the values after it name it instead of spelling it out (`unfold_out out1_W` opens a canon
    with them, `unfold_payloads` opens them with the payloads); the comment after each is the printed function's
    name for the value (a count appended where that name is bound again). -/

def k1_pay5 (x0 : Vec F S1024x16 .f32) (x1 : Vec F S16x16 .f32) (x2 : Vec F S16x32 .f32) (x3 : Vec F S32 .f32) (x4 : Vec F S32x32 .f32) : FVec F S1024x32 .f32 :=
  k1_pay4 (View.ld x0 r1_0) (View.ld x2 r1_2) (View.ld x3 r1_3) -- `v37`

/-- Window 5's staging buffer after the body, from the input windows' blocks: its 1 store as pieces, LAST
    FIRST. -/
def out1_5 (x0 : Vec F S1024x16 .f32) (x1 : Vec F S16x16 .f32) (x2 : Vec F S16x32 .f32) (x3 : Vec F S32 .f32) (x4 : Vec F S32x32 .f32) : Vec F S1024x16 .f32 :=
  View.canon [⟨r1_0, k1_pay3 (View.ld x0 r1_0) (View.ld x1 r1_1)⟩]

/-- Its stores tile the buffer (checked by evaluation), so they cover it. -/
theorem cover1_5 (p0 : Vec F S1024x16 .f32) (y : S1024x16.Idx) :
    ∃ pc ∈ ([⟨r1_0, p0⟩] : List (View.Piece (Elt F) S1024x16 .f32)), y ∈ pc.1.set :=
  View.cover_of_tiled [⟨r1_0, p0⟩] S1024x16.size (by rfl) y

/-- Window 6's staging buffer after the body, from the input windows' blocks: its 1 store as pieces, LAST
    FIRST. -/
def out1_6 (x0 : Vec F S1024x16 .f32) (x1 : Vec F S16x16 .f32) (x2 : Vec F S16x32 .f32) (x3 : Vec F S32 .f32) (x4 : Vec F S32x32 .f32) : Vec F S1024x32 .f32 :=
  View.canon [⟨r1_4, k1_pay1 (k1_pay5 x0 x1 x2 x3 x4) (View.ld x4 r1_5)⟩]

/-- Its stores tile the buffer (checked by evaluation), so they cover it. -/
theorem cover1_6 (p0 : Vec F S1024x32 .f32) (y : S1024x32.Idx) :
    ∃ pc ∈ ([⟨r1_4, p0⟩] : List (View.Piece (Elt F) S1024x32 .f32)), y ∈ pc.1.set :=
  View.cover_of_tiled [⟨r1_4, p0⟩] S1024x32.size (by rfl) y

/-- Window 7's staging buffer after the body, from the input windows' blocks: its 1 store as pieces, LAST
    FIRST. -/
def out1_7 (x0 : Vec F S1024x16 .f32) (x1 : Vec F S16x16 .f32) (x2 : Vec F S16x32 .f32) (x3 : Vec F S32 .f32) (x4 : Vec F S32x32 .f32) : Vec F S1024x32 .f32 :=
  View.canon [⟨r1_4, k1_pay5 x0 x1 x2 x3 x4⟩]

/-- Its stores tile the buffer (checked by evaluation), so they cover it. -/
theorem cover1_7 (p0 : Vec F S1024x32 .f32) (y : S1024x32.Idx) :
    ∃ pc ∈ ([⟨r1_4, p0⟩] : List (View.Piece (Elt F) S1024x32 .f32)), y ∈ pc.1.set :=
  View.cover_of_tiled [⟨r1_4, p0⟩] S1024x32.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs, through every part call. -/
theorem sound_kernel1 (c : Dev nD) (E : Set ℕ) (i : grid1.Coords) (arg1 : Memref sig .tc .vmem S1024x16 .f32) (harg1 : arg1.IsWhole) (arg2 : Memref sig .tc .vmem S16x16 .f32) (harg2 : arg2.IsWhole) (arg3 : Memref sig .tc .vmem S16x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S1024x16 .f32) (harg6 : arg6.IsWhole) (arg7 : Memref sig .tc .vmem S1024x32 .f32) (harg7 : arg7.IsWhole) (arg8 : Memref sig .tc .vmem S1024x32 .f32) (harg8 : arg8.IsWhole)
    (x0 : Vec F S1024x16 .f32) (x1 : Vec F S16x16 .f32) (x2 : Vec F S16x32 .f32) (x3 : Vec F S32 .f32) (x4 : Vec F S32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x2 x3 x4) ∗ owns (c : Thread nD τ) arg8 fullShare (out1_7 x0 x1 x2 x3 x4)) -∗ K ⟨⟩))
      ⊢ wp frame (wpE (defs₀ (F := F)) Variants.none c none) E (cc1__zq_kernel i arg1 harg1 arg2 harg2 arg3 harg3 arg4 harg4 arg5 harg5 arg6 harg6 arg7 harg7 arg8 harg8) K := by
  simp only [cc1__zq_kernel_eq_skeleton]; unfold cc1__zq_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_5 _)).trans ?_
    rfl
  isplitl [H6]
  · iexists _; isplitr
    swap; · iexact H6
    ipureintro
    refine (View.read_writes_eq_canon _ _ _ (cover1_6 _)).trans ?_
    rfl
  iexists _; isplitr
  swap; · iexact H7
  ipureintro
  refine (View.read_writes_eq_canon _ _ _ (cover1_7 _)).trans ?_
  rfl

/-! ## The pipeline's proof data -/

/-- The proof data of pipeline 1 on core `c`: the arrays as the region finds them (`V`); after the body at
    point `t` each input's buffer at its block and each output's at `out1_W` of the input blocks; the invariant the
    class's; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2__aout_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2048x32 := Rect.unit (s := S2048x32) ![0, 0] S2048x32.size inb_S2048x32_S2048x32_0_0
abbrev r2_1 : Rect S2048x2048 := Rect.unit (s := S2048x2048) ![0, 0] S2048x2048.size inb_S2048x2048_S2048x2048_0_0

/-! ## What the body leaves in each output window's buffer -/

/-- Window 2's staging buffer after the body, from the input windows' blocks: its 1 store as pieces, LAST
    FIRST. -/
def out2_2 (x0 : Vec F S2048x32 .f32) (x1 : Vec F S2048x32 .f32) : Vec F S2048x2048 .f32 :=
  View.canon [⟨r2_1, k2_pay1 (View.ld x0 r2_0) (View.ld x1 r2_0)⟩]

/-- Its stores tile the buffer (checked by evaluation), so they cover it. -/
theorem cover2_2 (p0 : Vec F S2048x2048 .f32) (y : S2048x2048.Idx) :
    ∃ pc ∈ ([⟨r2_1, p0⟩] : List (View.Piece (Elt F) S2048x2048 .f32)), y ∈ pc.1.set :=
  View.cover_of_tiled [⟨r2_1, p0⟩] S2048x2048.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs, through every part call. -/
theorem sound_kernel2 (c : Dev nD) (E : Set ℕ) (i : grid2.Coords) (arg2 : Memref sig .tc .vmem S2048x32 .f32) (harg2 : arg2.IsWhole) (arg3 : Memref sig .tc .vmem S2048x32 .f32) (harg3 : arg3.IsWhole) (arg4 : Memref sig .tc .vmem S2048x2048 .f32) (harg4 : arg4.IsWhole)
    (x0 : Vec F S2048x32 .f32) (x1 : Vec F S2048x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__aout_kernel i arg2 harg2 arg3 harg3 arg4 harg4) K := by
  simp only [cc2__aout_kernel_eq_skeleton]; unfold cc2__aout_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and each output's at `out2_W` of the input blocks; the invariant the
    class's; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! # REGION 3 of @main: custom_call 3, `cc3__decx_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds its block at every point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's staging buffer holds its block at every point. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's staging buffer holds its block at every point. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's staging buffer holds its block at every point. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's staging buffer holds its block at every point. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
/-- Input window 9's staging buffer holds its block at every point. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S512x16 := Rect.unit (s := S512x16) ![0, 0] S512x16.size inb_S512x16_S512x16_0_0
abbrev r3_1 : Rect S16x128 := Rect.unit (s := S16x128) ![0, 0] S16x128.size inb_S16x128_S16x128_0_0
abbrev r3_2 : Rect S128 := Rect.unit (s := S128) ![0] S128.size inb_S128_S128_0
abbrev r3_3 : Rect S128x256 := Rect.unit (s := S128x256) ![0, 0] S128x256.size inb_S128x256_S128x256_0_0
abbrev r3_4 : Rect S256 := Rect.unit (s := S256) ![0] S256.size inb_S256_S256_0
abbrev r3_5 : Rect S256x512 := Rect.unit (s := S256x512) ![0, 0] S256x512.size inb_S256x512_S256x512_0_0
abbrev r3_6 : Rect S512 := Rect.unit (s := S512) ![0] S512.size inb_S512_S512_0
abbrev r3_7 : Rect S512x512 := Rect.unit (s := S512x512) ![0, 0] S512x512.size inb_S512x512_S512x512_0_0

/-! ## What the body leaves in each output window's buffer -/

/-! ### Values of the body that the stores' payloads, spelt out, would write more than once

    Each is a vector the body binds (often a part call's result), stated over the input windows' blocks and
    numbered on from the skeleton's payload functions (`k3_pay5` …, after `k3_pay4`), so that
    `out3_W` and the values after it name it instead of spelling it out (`unfold_out out3_W` opens a canon
    with them, `unfold_payloads` opens them with the payloads); the comment after each is the printed function's
    name for the value (a count appended where that name is bound again). -/

def k3_pay5 (x0 : Vec F S512x16 .f32) (x1 : Vec F S16x128 .f32) (x2 : Vec F S128 .f32) (x3 : Vec F S128x256 .f32) (x4 : Vec F S256 .f32) (x5 : Vec F S256x512 .f32) (x6 : Vec F S512 .f32) (x7 : Vec F S512x512 .f32) (x8 : Vec F S512 .f32) (x9 : Vec F S512x512 .f32) (x10 : Vec F S512 .f32) (x11 : Vec F S512x512 .f32) (x12 : Vec F S512 .f32) : FVec F S512x512 .f32 :=
  k3_pay3 (View.ld x0 r3_0) (View.ld x1 r3_1) (View.ld x2 r3_2) (View.ld x3 r3_3) (View.ld x4 r3_4) (View.ld x5 r3_5) (View.ld x6 r3_6) -- `v26`

/-- Window 13's staging buffer after the body, from the input windows' blocks: its 1 store as pieces, LAST
    FIRST. -/
def out3_13 (x0 : Vec F S512x16 .f32) (x1 : Vec F S16x128 .f32) (x2 : Vec F S128 .f32) (x3 : Vec F S128x256 .f32) (x4 : Vec F S256 .f32) (x5 : Vec F S256x512 .f32) (x6 : Vec F S512 .f32) (x7 : Vec F S512x512 .f32) (x8 : Vec F S512 .f32) (x9 : Vec F S512x512 .f32) (x10 : Vec F S512 .f32) (x11 : Vec F S512x512 .f32) (x12 : Vec F S512 .f32) : Vec F S512x512 .f32 :=
  View.canon [⟨r3_7, k3_pay4 (View.ld x0 r3_0) (View.ld x1 r3_1) (View.ld x2 r3_2) (View.ld x3 r3_3) (View.ld x4 r3_4) (View.ld x5 r3_5) (View.ld x6 r3_6) (View.ld x7 r3_7) (View.ld x8 r3_6)⟩]

/-- Its stores tile the buffer (checked by evaluation), so they cover it. -/
theorem cover3_13 (p0 : Vec F S512x512 .f32) (y : S512x512.Idx) :
    ∃ pc ∈ ([⟨r3_7, p0⟩] : List (View.Piece (Elt F) S512x512 .f32)), y ∈ pc.1.set :=
  View.cover_of_tiled [⟨r3_7, p0⟩] S512x512.size (by rfl) y

/-- Window 14's staging buffer after the body, from the input windows' blocks: its 1 store as pieces, LAST
    FIRST. -/
def out3_14 (x0 : Vec F S512x16 .f32) (x1 : Vec F S16x128 .f32) (x2 : Vec F S128 .f32) (x3 : Vec F S128x256 .f32) (x4 : Vec F S256 .f32) (x5 : Vec F S256x512 .f32) (x6 : Vec F S512 .f32) (x7 : Vec F S512x512 .f32) (x8 : Vec F S512 .f32) (x9 : Vec F S512x512 .f32) (x10 : Vec F S512 .f32) (x11 : Vec F S512x512 .f32) (x12 : Vec F S512 .f32) : Vec F S512x512 .f32 :=
  View.canon [⟨r3_7, k3_pay1 (k3_pay5 x0 x1 x2 x3 x4 x5 x6 x7 x8 x9 x10 x11 x12) (View.ld x9 r3_7) (View.ld x10 r3_6)⟩]

/-- Its stores tile the buffer (checked by evaluation), so they cover it. -/
theorem cover3_14 (p0 : Vec F S512x512 .f32) (y : S512x512.Idx) :
    ∃ pc ∈ ([⟨r3_7, p0⟩] : List (View.Piece (Elt F) S512x512 .f32)), y ∈ pc.1.set :=
  View.cover_of_tiled [⟨r3_7, p0⟩] S512x512.size (by rfl) y

/-- Window 15's staging buffer after the body, from the input windows' blocks: its 1 store as pieces, LAST
    FIRST. -/
def out3_15 (x0 : Vec F S512x16 .f32) (x1 : Vec F S16x128 .f32) (x2 : Vec F S128 .f32) (x3 : Vec F S128x256 .f32) (x4 : Vec F S256 .f32) (x5 : Vec F S256x512 .f32) (x6 : Vec F S512 .f32) (x7 : Vec F S512x512 .f32) (x8 : Vec F S512 .f32) (x9 : Vec F S512x512 .f32) (x10 : Vec F S512 .f32) (x11 : Vec F S512x512 .f32) (x12 : Vec F S512 .f32) : Vec F S512x512 .f32 :=
  View.canon [⟨r3_7, k3_pay2 (k3_pay5 x0 x1 x2 x3 x4 x5 x6 x7 x8 x9 x10 x11 x12) (View.ld x11 r3_7) (View.ld x12 r3_6)⟩]

/-- Its stores tile the buffer (checked by evaluation), so they cover it. -/
theorem cover3_15 (p0 : Vec F S512x512 .f32) (y : S512x512.Idx) :
    ∃ pc ∈ ([⟨r3_7, p0⟩] : List (View.Piece (Elt F) S512x512 .f32)), y ∈ pc.1.set :=
  View.cover_of_tiled [⟨r3_7, p0⟩] S512x512.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs, through every part call. -/
theorem sound_kernel3 (c : Dev nD) (E : Set ℕ) (i : grid3.Coords) (arg1 : Memref sig .tc .vmem S512x16 .f32) (harg1 : arg1.IsWhole) (arg2 : Memref sig .tc .vmem S16x128 .f32) (harg2 : arg2.IsWhole) (arg3 : Memref sig .tc .vmem S128 .f32) (harg3 : arg3.IsWhole) (arg4 : Memref sig .tc .vmem S128x256 .f32) (harg4 : arg4.IsWhole) (arg5 : Memref sig .tc .vmem S256 .f32) (harg5 : arg5.IsWhole) (arg6 : Memref sig .tc .vmem S256x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole)
    (x0 : Vec F S512x16 .f32) (x1 : Vec F S16x128 .f32) (x2 : Vec F S128 .f32) (x3 : Vec F S128x256 .f32) (x4 : Vec F S256 .f32) (x5 : Vec F S256x512 .f32) (x6 : Vec F S512 .f32) (x7 : Vec F S512x512 .f32) (x8 : Vec F S512 .f32) (x9 : Vec F S512x512 .f32) (x10 : Vec F S512 .f32) (x11 : Vec F S512x512 .f32) (x12 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out3_13 x0 x1 x2 x3 x4 x5 x6 x7 x8 x9 x10 x11 x12) ∗ owns (c : Thread nD τ) arg15 fullShare (out3_14 x0 x1 x2 x3 x4 x5 x6 x7 x8 x9 x10 x11 x12) ∗ owns (c : Thread nD τ) arg16 fullShare (out3_15 x0 x1 x2 x3 x4 x5 x6 x7 x8 x9 x10 x11 x12)) -∗ K ⟨⟩))
      ⊢ wp frame (wpE (defs₀ (F := F)) Variants.none c none) E (cc3__decx_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc3__decx_kernel_eq_skeleton]; unfold cc3__decx_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover3_13 _)).trans ?_
    rfl
  isplitl [H14]
  · iexists _; isplitr
    swap; · iexact H14
    ipureintro
    refine (View.read_writes_eq_canon _ _ _ (cover3_14 _)).trans ?_
    rfl
  iexists _; isplitr
  swap; · iexact H15
  ipureintro
  refine (View.read_writes_eq_canon _ _ _ (cover3_15 _)).trans ?_
  rfl

/-! ## The pipeline's proof data -/

/-- The proof data of pipeline 3 on core `c`: the arrays as the region finds them (`V`); after the body at
    point `t` each input's buffer at its block and each output's at `out3_W` of the input blocks; the invariant the
    class's; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => out3_13 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t)
    | ⟨14, _⟩ => out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t)
    | ⟨15, _⟩ => out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t)
    | ⟨_ + 16, h⟩ => absurd h (Nat.not_lt.2 (Nat.le_add_left _ _))
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = out3_13 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) := by dsimp only [dat3]
theorem after3_14 (c : Dev nD) (t : Fin cfg3.N) : (dat3 V c).after 14 t = out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) := by dsimp only [dat3]
theorem after3_15 (c : Dev nD) (t : Fin cfg3.N) : (dat3 V c).after 15 t = out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel3 c Set.univ (grid3.coords t) _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Calls

end
-- ==== Proof.Run.lean ====
/-
  The run: the buffers between the calls, each call over them, and the frame.
-/
module

public import proofs.«01_k».proof.Proof.Enc.Body
public import proofs.«01_k».proof.Proof.Calls
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal Cert.KernelIdeal.Gen Cert.KernelIdeal.Enc Cert.KernelIdeal.Calls
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_cst, main_v3, main_v4, main_cst_0, main_v5, main_v6, main_c, main_v7, main_v8, main_v9, main_c_1, main_v10, main_v11, main_v12, main_c_2, main_v13, main_v14, main_v15, main_c_3, main_v16, main_v17, main_cst_4, main_v18, main_c_5, main_v19, main_v20, main_cst_6, main_v21, main_v22, main_c_7, main_v23, main_c_8, main_v24, main_v25, main_v26, main_cst_9, main_v27, main_c_10, main_v28, main_v29, main_cst_11, main_v30, main_c_12, main_v31, main_v32]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v37, main_v38]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (region 3's entry). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded: `Dat.arrAt … N`), every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After `hostOps4`. -/
abbrev W6 : Dev nD → Valuation τ sig (Elt F) := fun c => StableHlo.after hostOps4 (W5 m ρ c)
/-- A reference `hostOps4` does not write keeps its contents across it. -/
theorem W6_of (c : Dev nD) (r : Ref sig .tc) (h : r ∉ hostOps4_W) : W6 m ρ c (Proc.devRef .tc r) = W5 m ρ c (Proc.devRef .tc r) :=
  StableHlo.after_of_writes_sub hostOps4 _ hostOps4_writes h
theorem W6_args (c : Dev nD) : ∀ a ∈ argRefs, W6 m ρ c (Proc.devRef .tc a) = m ((c : Thread nD τ).loc a) :=
  fun a ha => (W6_of m ρ c a (hostOps4_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
theorem W6_main_arg9 (c : Dev nD) : W6 m ρ c (Proc.devRef .tc main_arg9) = m ((c : Thread nD τ).loc main_arg9) :=
  W6_args m ρ c main_arg9 (by decide)
theorem W6_main_arg10 (c : Dev nD) : W6 m ρ c (Proc.devRef .tc main_arg10) = m ((c : Thread nD τ).loc main_arg10) :=
  W6_args m ρ c main_arg10 (by decide)
theorem W6_main_arg11 (c : Dev nD) : W6 m ρ c (Proc.devRef .tc main_arg11) = m ((c : Thread nD τ).loc main_arg11) :=
  W6_args m ρ c main_arg11 (by decide)
theorem W6_main_arg12 (c : Dev nD) : W6 m ρ c (Proc.devRef .tc main_arg12) = m ((c : Thread nD τ).loc main_arg12) :=
  W6_args m ρ c main_arg12 (by decide)
theorem W6_main_arg13 (c : Dev nD) : W6 m ρ c (Proc.devRef .tc main_arg13) = m ((c : Thread nD τ).loc main_arg13) :=
  W6_args m ρ c main_arg13 (by decide)
theorem W6_main_arg14 (c : Dev nD) : W6 m ρ c (Proc.devRef .tc main_arg14) = m ((c : Thread nD τ).loc main_arg14) :=
  W6_args m ρ c main_arg14 (by decide)
theorem W6_main_arg15 (c : Dev nD) : W6 m ρ c (Proc.devRef .tc main_arg15) = m ((c : Thread nD τ).loc main_arg15) :=
  W6_args m ρ c main_arg15 (by decide)
theorem W6_main_arg16 (c : Dev nD) : W6 m ρ c (Proc.devRef .tc main_arg16) = m ((c : Thread nD τ).loc main_arg16) :=
  W6_args m ρ c main_arg16 (by decide)
theorem W6_main_arg17 (c : Dev nD) : W6 m ρ c (Proc.devRef .tc main_arg17) = m ((c : Thread nD τ).loc main_arg17) :=
  W6_args m ρ c main_arg17 (by decide)
theorem W6_main_arg18 (c : Dev nD) : W6 m ρ c (Proc.devRef .tc main_arg18) = m ((c : Thread nD τ).loc main_arg18) :=
  W6_args m ρ c main_arg18 (by decide)
theorem W6_main_arg19 (c : Dev nD) : W6 m ρ c (Proc.devRef .tc main_arg19) = m ((c : Thread nD τ).loc main_arg19) :=
  W6_args m ρ c main_arg19 (by decide)
theorem W6_main_arg20 (c : Dev nD) : W6 m ρ c (Proc.devRef .tc main_arg20) = m ((c : Thread nD τ).loc main_arg20) :=
  W6_args m ρ c main_arg20 (by decide)
theorem W6_main_arg21 (c : Dev nD) : W6 m ρ c (Proc.devRef .tc main_arg21) = m ((c : Thread nD τ).loc main_arg21) :=
  W6_args m ρ c main_arg21 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Phi0 (V1 m ρ) c 0 from rfl]
    iintro ⟨Hp, -, Hr⟩
    iapply (phi0_open (V1 m ρ) c)
    isplitl [Hr] <;> iassumption
  hout c := by
    rw [Pipeline.ownSems0_none, show (pdats m ρ 0 c).Φ (Fin.last _) = Phi0 (V1 m ρ) c (Fin.last _) from rfl]
    iintro H
    ihave H := (phi0_close (V1 m ρ) c (Fin.last _)) $$ H
    icases H with ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .host (hseg hostOps4 hostOps4_sub hostOps4_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- At any `F`, from any memory with zero counters, every weakly fair execution of @main on the TensorCores terminates, nothing
    faulting, and every final state has each unscoped buffer at the fold through @main's items, and every semaphore counter at
    zero: the launch over the segments, the last thread state read against the final state. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- A final state with the buffers at the fold has every argument array as launched. -/
theorem args_kept {s : (ℓ : Loc nD τ sig) → Buf (Elt F) ℓ} (c : Dev nD) (h : ∀ b ∈ Pipeline.ucRefs τ sig, s (((c : Thread nD τ)).1, b) = W6 m ρ c b) :
      s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8)
      ∧ s ((c.tc : Thread nD τ).loc main_arg9) = m ((c.tc : Thread nD τ).loc main_arg9)
      ∧ s ((c.tc : Thread nD τ).loc main_arg10) = m ((c.tc : Thread nD τ).loc main_arg10)
      ∧ s ((c.tc : Thread nD τ).loc main_arg11) = m ((c.tc : Thread nD τ).loc main_arg11)
      ∧ s ((c.tc : Thread nD τ).loc main_arg12) = m ((c.tc : Thread nD τ).loc main_arg12)
      ∧ s ((c.tc : Thread nD τ).loc main_arg13) = m ((c.tc : Thread nD τ).loc main_arg13)
      ∧ s ((c.tc : Thread nD τ).loc main_arg14) = m ((c.tc : Thread nD τ).loc main_arg14)
      ∧ s ((c.tc : Thread nD τ).loc main_arg15) = m ((c.tc : Thread nD τ).loc main_arg15)
      ∧ s ((c.tc : Thread nD τ).loc main_arg16) = m ((c.tc : Thread nD τ).loc main_arg16)
      ∧ s ((c.tc : Thread nD τ).loc main_arg17) = m ((c.tc : Thread nD τ).loc main_arg17)
      ∧ s ((c.tc : Thread nD τ).loc main_arg18) = m ((c.tc : Thread nD τ).loc main_arg18)
      ∧ s ((c.tc : Thread nD τ).loc main_arg19) = m ((c.tc : Thread nD τ).loc main_arg19)
      ∧ s ((c.tc : Thread nD τ).loc main_arg20) = m ((c.tc : Thread nD τ).loc main_arg20)
      ∧ s ((c.tc : Thread nD τ).loc main_arg21) = m ((c.tc : Thread nD τ).loc main_arg21) :=
      ⟨(h _ (mem_uc main_arg0 (by decide))).trans (W6_main_arg0 m ρ c),
       (h _ (mem_uc main_arg1 (by decide))).trans (W6_main_arg1 m ρ c),
       (h _ (mem_uc main_arg2 (by decide))).trans (W6_main_arg2 m ρ c),
       (h _ (mem_uc main_arg3 (by decide))).trans (W6_main_arg3 m ρ c),
       (h _ (mem_uc main_arg4 (by decide))).trans (W6_main_arg4 m ρ c),
       (h _ (mem_uc main_arg5 (by decide))).trans (W6_main_arg5 m ρ c),
       (h _ (mem_uc main_arg6 (by decide))).trans (W6_main_arg6 m ρ c),
       (h _ (mem_uc main_arg7 (by decide))).trans (W6_main_arg7 m ρ c),
       (h _ (mem_uc main_arg8 (by decide))).trans (W6_main_arg8 m ρ c),
       (h _ (mem_uc main_arg9 (by decide))).trans (W6_main_arg9 m ρ c),
       (h _ (mem_uc main_arg10 (by decide))).trans (W6_main_arg10 m ρ c),
       (h _ (mem_uc main_arg11 (by decide))).trans (W6_main_arg11 m ρ c),
       (h _ (mem_uc main_arg12 (by decide))).trans (W6_main_arg12 m ρ c),
       (h _ (mem_uc main_arg13 (by decide))).trans (W6_main_arg13 m ρ c),
       (h _ (mem_uc main_arg14 (by decide))).trans (W6_main_arg14 m ρ c),
       (h _ (mem_uc main_arg15 (by decide))).trans (W6_main_arg15 m ρ c),
       (h _ (mem_uc main_arg16 (by decide))).trans (W6_main_arg16 m ρ c),
       (h _ (mem_uc main_arg17 (by decide))).trans (W6_main_arg17 m ρ c),
       (h _ (mem_uc main_arg18 (by decide))).trans (W6_main_arg18 m ρ c),
       (h _ (mem_uc main_arg19 (by decide))).trans (W6_main_arg19 m ρ c),
       (h _ (mem_uc main_arg20 (by decide))).trans (W6_main_arg20 m ρ c),
       (h _ (mem_uc main_arg21 (by decide))).trans (W6_main_arg21 m ρ c)⟩

/-- THE FRAME: `Cert.quiescent_KernelIdeal`'s statement (Defs.lean) at any `F`: every weakly fair execution of @main on the
    TensorCores terminates, nothing faulting, with the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) := by
  refine (θ_run _ _ _).mono ?_ (run_all m ρ)
  exact fun r h => ⟨fun c => args_kept m ρ c (h.1 c), h.2⟩

end Cert.KernelIdeal.Run

end
-- ==== Proof.Val.Hosts.lean ====
/-
  The arrays the operations before the calls leave, read at an index: the rearranged weights, the padded biases, the
  padded centres and the padded decoder weights.
-/
module

public import proofs.«01_k».proof.Proof.Run
public import Idealize.ShloMosaic.Lib.Pipeline.ValueKit
public import Idealize.ShloMosaic.Lib.Routing.OpsSet

@[expose] public section

set_option maxRecDepth 16384

noncomputable section

namespace Cert.KernelIdeal.Val

open Cert.KernelIdeal Cert.KernelIdeal.Gen Cert.KernelIdeal.Enc Cert.KernelIdeal.Run
open Idealize.ShloMosaic Idealize.ShloMosaic.TcCoe Idealize.SL.Sem Idealize.ShloMosaic.StableHlo

/-- Setting a window of a matrix at a corner, read at an entry: the update's entry inside the window, else the matrix's. -/
theorem set2 {α : Type} {R C U W w : ℕ} {si : Shape} (d : ScatterDims ⟨2, ![R, C]⟩ si ⟨2, ![U, W]⟩) (x0 : (⟨2, ![R, C]⟩ : Shape).Idx → α) (idx : IVec si w)
    (upd : (⟨2, ![U, W]⟩ : Shape).Idx → α) (o0 o1 : ℕ) (h0 : ∀ k, d.start k idx 0 + (d.window k 0 : Int) = o0 + ((k 0).val : Int))
    (h1 : ∀ k, d.start k idx 1 + (d.window k 1 : Int) = o1 + ((k 1).val : Int)) (r : Fin R) (c : Fin C) :
    Host.scatter d (fun _ b => b) x0 idx upd (ix2 r c)
      = if h : (o0 ≤ r.val ∧ r.val < o0 + U) ∧ o1 ≤ c.val ∧ c.val < o1 + W then upd (ix2 ⟨r.val - o0, by omega⟩ ⟨c.val - o1, by omega⟩) else x0 (ix2 r c) := by
  have key : ∀ k : (⟨2, ![U, W]⟩ : Shape).Idx, d.resultIdx? k idx = some (ix2 r c) ↔ (o0 + ((k 0).val : Int) = r.val ∧ o1 + ((k 1).val : Int) = c.val) := fun k => by
    have := Routing.resultIdx?_ix2 d k idx r c
    rw [h0, h1] at this
    exact this
  by_cases h : (o0 ≤ r.val ∧ r.val < o0 + U) ∧ o1 ≤ c.val ∧ c.val < o1 + W
  · rw [dif_pos h]
    refine Routing.scatter_set_hit d x0 idx upd _ _ (fun k hk => congrArg upd ?_) (ix2 ⟨r.val - o0, by omega⟩ ⟨c.val - o1, by omega⟩) ((key _).2 ⟨?_, ?_⟩)
    · obtain ⟨e0, e1⟩ := (key k).1 hk
      funext a
      match a with
      | ⟨0, _⟩ => exact Fin.ext (show (k 0).val = r.val - o0 by omega)
      | ⟨1, _⟩ => exact Fin.ext (show (k 1).val = c.val - o1 by omega)
    · show (o0 : Int) + ((r.val - o0 : ℕ) : Int) = _
      omega
    · show (o1 : Int) + ((c.val - o1 : ℕ) : Int) = _
      omega
  · rw [dif_neg h]
    refine Routing.scatter_set_miss d x0 idx upd _ fun k hk => h ?_
    obtain ⟨e0, e1⟩ := (key k).1 hk
    have b0 : (k 0).val < U := (k 0).isLt
    have b1 : (k 1).val < W := (k 1).isLt
    omega

/-- Setting a window of a vector, read at an entry. -/
theorem set1 {α : Type} {R U w : ℕ} {si : Shape} (d : ScatterDims ⟨1, ![R]⟩ si ⟨1, ![U]⟩) (x0 : (⟨1, ![R]⟩ : Shape).Idx → α) (idx : IVec si w)
    (upd : (⟨1, ![U]⟩ : Shape).Idx → α) (o0 : ℕ) (h0 : ∀ k, d.start k idx 0 + (d.window k 0 : Int) = o0 + ((k 0).val : Int)) (r : Fin R) :
    Host.scatter d (fun _ b => b) x0 idx upd (ix1 r)
      = if h : o0 ≤ r.val ∧ r.val < o0 + U then upd (ix1 ⟨r.val - o0, by omega⟩) else x0 (ix1 r) := by
  have key : ∀ k : (⟨1, ![U]⟩ : Shape).Idx, d.resultIdx? k idx = some (ix1 r) ↔ o0 + ((k 0).val : Int) = r.val := fun k => by
    have := Routing.resultIdx?_ix1 d k idx r
    rw [h0] at this
    exact this
  by_cases h : o0 ≤ r.val ∧ r.val < o0 + U
  · rw [dif_pos h]
    refine Routing.scatter_set_hit d x0 idx upd _ _ (fun k hk => congrArg upd ?_) (ix1 ⟨r.val - o0, by omega⟩) ((key _).2 ?_)
    · have e0 := (key k).1 hk
      funext a
      match a with
      | ⟨0, _⟩ => exact Fin.ext (show (k 0).val = r.val - o0 by omega)
    · show (o0 : Int) + ((r.val - o0 : ℕ) : Int) = _
      omega
  · rw [dif_neg h]
    refine Routing.scatter_set_miss d x0 idx upd _ fun k hk => h ?_
    have e0 := (key k).1 hk
    have b0 : (k 0).val < U := (k 0).isLt
    omega

variable (m : (ℓ : Loc nD τ sig) → Buf (Elt Ideal) ℓ) (ρ : Dev nD → PrngReg) (c : Dev nD)

/-- Splitting the rows by four, bringing the four beside each other and joining them to the columns, read at an entry. -/
theorem side_by_side (A2 : S2048x128.Idx → EReal) (l j : Fin 512) :
    shapeCast S512x512 (transpose S512x4x128 [1, 0, 2] (shapeCast S4x512x128 A2 shapeCasts_S2048x128_S4x512x128) transposes_S4x512x128_S512x4x128_1_0_2) shapeCasts_S512x4x128_S512x512 (ix2 l j)
      = A2 (ix2 ⟨512 * (j.val / 128) + l.val, by omega⟩ ⟨j.val % 128, by omega⟩) := by
  have e1 : ∀ x : S512x4x128.Idx → EReal, shapeCast S512x512 x shapeCasts_S512x4x128_S512x512 (ix2 l j) = x (ix3 l ⟨j.val / 128, by omega⟩ ⟨j.val % 128, by omega⟩) := by
    intro x
    pointwise
  have e2 : ∀ (x : S4x512x128.Idx → EReal) (a : Fin 512) (b : Fin 4) (d : Fin 128), transpose S512x4x128 [1, 0, 2] x transposes_S4x512x128_S512x4x128_1_0_2 (ix3 a b d) = x (ix3 b a d) := by
    intro x a b d
    pointwise
  have e3 : ∀ (x : S2048x128.Idx → EReal) (a : Fin 4) (b : Fin 512) (d : Fin 128), shapeCast S4x512x128 x shapeCasts_S2048x128_S4x512x128 (ix3 a b d) = x (ix2 ⟨512 * a.val + b.val, by omega⟩ d) := by
    intro x a b d
    pointwise
    exact congrArg (fun n => x (ix2 n d)) (Fin.ext (by dsimp only; omega))
  rw [e1, e2, e3]

/-- The first layer's weights side by side, read at an entry. -/
theorem host_v2 {A2 : S2048x128.Idx → EReal} (hA : m ((c : Thread nD τ).loc main_arg2) = A2) (l j : Fin 512) : (V1 m ρ c main_v2 : S512x512.Idx → EReal) (ix2 l j)
    = A2 (ix2 ⟨512 * (j.val / 128) + l.val, by omega⟩ ⟨j.val % 128, by omega⟩) := by
  have e : (V1 m ρ c main_v2 : S512x512.Idx → EReal) = shapeCast S512x512 (transpose S512x4x128 [1, 0, 2] (shapeCast S4x512x128 A2 shapeCasts_S2048x128_S4x512x128) transposes_S4x512x128_S512x4x128_1_0_2) shapeCasts_S512x4x128_S512x512 := by
    rw [← hA]
    unfold V1 W1
    after_results
    rfl
  rw [e]
  exact side_by_side A2 l j

/-- The first layer's bias padded by zeros. -/
theorem host_v4 {A3 : S128.Idx → EReal} (hA : m ((c : Thread nD τ).loc main_arg3) = A3) (j : Fin 512) : (V1 m ρ c main_v4 : S512.Idx → EReal) (ix1 j)
    = if h : j.val < 128 then A3 (ix1 ⟨j.val, h⟩) else (0 : EReal) := by
  have e : (V1 m ρ c main_v4 : S512.Idx → EReal) = concatenate S512 0 [⟨S128, A3⟩, ⟨S384, broadcastInDim S384 ![] bcast_S_S384 (constant (F := Ideal) S_ .f32 0x00000000#32)⟩] concatenates_S128_S384_S512_d0 := by
    rw [← hA]
    unfold V1 W1
    after_results
  rw [e]
  pointwise

/-- Four windows of the second layer's weights set beside each other, sixteen columns apart. -/
theorem host_v17 {A4 : S512x15.Idx → EReal} (hA : m ((c : Thread nD τ).loc main_arg4) = A4) (l : Fin 128) (j : Fin 64) : (V1 m ρ c main_v17 : S128x64.Idx → EReal) (ix2 l j)
    = if h : j.val % 16 < 15 then A4 (ix2 ⟨128 * (j.val / 16) + l.val, by omega⟩ ⟨j.val % 16, h⟩) else (0 : EReal) := by
  have e : (V1 m ρ c main_v17 : S128x64.Idx → EReal) =
      Host.scatter scatter_S128x64_S1_S128x15_01_n_1_0 (fun _ b => b) (Host.scatter scatter_S128x64_S1_S128x15_01_n_1_0 (fun _ b => b) (Host.scatter scatter_S128x64_S1_S128x15_01_n_1_0 (fun _ b => b) (Host.scatter scatter_S128x64_S1_S128x15_01_n_1_0 (fun _ b => b) (broadcastInDim S128x64 ![] bcast_S_S128x64 (constant (F := Ideal) S_ .f32 0x00000000#32))
        (broadcastInDim S1 ![] bcast_S_S1 (constantI S_ 32 0#32)) (extractStridedSlice S128x15 ![0, 0] A4 slices_S512x15_S128x15_0_0))
        (broadcastInDim S1 ![] bcast_S_S1 (constantI S_ 32 16#32)) (extractStridedSlice S128x15 ![128, 0] A4 slices_S512x15_S128x15_128_0))
        (broadcastInDim S1 ![] bcast_S_S1 (constantI S_ 32 32#32)) (extractStridedSlice S128x15 ![256, 0] A4 slices_S512x15_S128x15_256_0))
        (broadcastInDim S1 ![] bcast_S_S1 (constantI S_ 32 48#32)) (extractStridedSlice S128x15 ![384, 0] A4 slices_S512x15_S128x15_384_0) := by
    rw [← hA]
    unfold V1 W1
    after_results
  have slice : ∀ (o : ℕ) (h : S512x15.Slices ![o, 0] S128x15) (a : Fin 128) (b : Fin 15) (n : Fin 512) (b' : Fin 15) (hn : n.val = o + a.val) (hb : b'.val = b.val), extractStridedSlice S128x15 ![o, 0] A4 h (ix2 a b) = A4 (ix2 n b') := by
    intro o h a b n b' hn hb
    refine congrArg A4 (funext fun q => ?_)
    match q with
    | ⟨0, _⟩ => exact Fin.ext hn.symm
    | ⟨1, _⟩ => exact Fin.ext (show 0 + b.val = b'.val by omega)
  have z : (broadcastInDim S128x64 ![] bcast_S_S128x64 (constant (F := Ideal) S_ .f32 0x00000000#32) : S128x64.Idx → EReal) (ix2 l j) = 0 := by
    pointwise
  rw [e, set2 _ _ _ _ 0 48 (fun k => rfl) (fun k => rfl), set2 _ _ _ _ 0 32 (fun k => rfl) (fun k => rfl), set2 _ _ _ _ 0 16 (fun k => rfl) (fun k => rfl), set2 _ _ _ _ 0 0 (fun k => rfl) (fun k => rfl), z]
  have hj := j.isLt
  have hl := l.isLt
  split_ifs <;> first | rfl | omega | exact slice _ _ _ _ _ _ (by dsimp only; omega) (by dsimp only; omega)

/-- The second layer's bias set into zeros. -/
theorem host_v20 {A5 : S15.Idx → EReal} (hA : m ((c : Thread nD τ).loc main_arg5) = A5) (j : Fin 64) : (V1 m ρ c main_v20 : S64.Idx → EReal) (ix1 j)
    = if h : j.val < 15 then A5 (ix1 ⟨j.val, h⟩) else (0 : EReal) := by
  have e : (V1 m ρ c main_v20 : S64.Idx → EReal) =
      Host.scatter scatter_S64_S1_S15_0_n_0_0 (fun _ b => b) (broadcastInDim S64 ![] bcast_S_S64 (constant (F := Ideal) S_ .f32 0x00000000#32)) (broadcastInDim S1 ![] bcast_S_S1 (constantI S_ 32 0#32)) A5 := by
    rw [← hA]
    unfold V1 W1
    after_results
  have z : (broadcastInDim S64 ![] bcast_S_S64 (constant (F := Ideal) S_ .f32 0x00000000#32) : S64.Idx → EReal) (ix1 j) = 0 := by
    pointwise
  rw [e, set1 _ _ _ _ 0 (fun k => rfl), z]
  split_ifs <;> first | rfl | omega

/-- The centres, transposed and set into zeros. -/
theorem host_v26 {A6 : S15x15.Idx → EReal} (hA : m ((c : Thread nD τ).loc main_arg6) = A6) (l j : Fin 16) : (V1 m ρ c main_v26 : S16x16.Idx → EReal) (ix2 l j)
    = if h : l.val < 15 ∧ j.val < 15 then A6 (ix2 ⟨j.val, h.2⟩ ⟨l.val, h.1⟩) else (0 : EReal) := by
  have e : (V1 m ρ c main_v26 : S16x16.Idx → EReal) =
      Host.scatter scatter_S16x16_S2_S15x15_01_n_01_0 (fun _ b => b) (broadcastInDim S16x16 ![] bcast_S_S16x16 (constant (F := Ideal) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0) (transpose S15x15 [1, 0] A6 transposes_S15x15_S15x15_1_0) := by
    rw [← hA]
    unfold V1 W1
    after_results
  have z : (broadcastInDim S16x16 ![] bcast_S_S16x16 (constant (F := Ideal) S_ .f32 0x00000000#32) : S16x16.Idx → EReal) (ix2 l j) = 0 := by
    pointwise
  have t : ∀ a b : Fin 15, transpose S15x15 [1, 0] A6 transposes_S15x15_S15x15_1_0 (ix2 a b) = A6 (ix2 b a) := by
    intro a b
    pointwise
  rw [e, set2 _ _ _ _ 0 0 (fun k => rfl) (fun k => rfl), z]
  split_ifs <;> first | rfl | omega | exact t _ _

/-- The first decoder's weights with a row of zeros below. -/
theorem host_v29 {A7 : S15x32.Idx → EReal} (hA : m ((c : Thread nD τ).loc main_arg7) = A7) (l : Fin 16) (j : Fin 32) : (V1 m ρ c main_v29 : S16x32.Idx → EReal) (ix2 l j)
    = if h : l.val < 15 then A7 (ix2 ⟨l.val, h⟩ j) else (0 : EReal) := by
  have e : (V1 m ρ c main_v29 : S16x32.Idx → EReal) =
      Host.scatter scatter_S16x32_S1_S15x32_01_n_0_0 (fun _ b => b) (broadcastInDim S16x32 ![] bcast_S_S16x32 (constant (F := Ideal) S_ .f32 0x00000000#32)) (broadcastInDim S1 ![] bcast_S_S1 (constantI S_ 32 0#32)) A7 := by
    rw [← hA]
    unfold V1 W1
    after_results
  have z : (broadcastInDim S16x32 ![] bcast_S_S16x32 (constant (F := Ideal) S_ .f32 0x00000000#32) : S16x32.Idx → EReal) (ix2 l j) = 0 := by
    pointwise
  have hj := j.isLt
  rw [e, set2 _ _ _ _ 0 0 (fun k => rfl) (fun k => rfl), z]
  split_ifs <;> first | rfl | omega

/-- The second decoder's first weights with a row of zeros below. -/
theorem host_v32 {A10 : S15x128.Idx → EReal} (hA : m ((c : Thread nD τ).loc main_arg10) = A10) (l : Fin 16) (j : Fin 128) : (V1 m ρ c main_v32 : S16x128.Idx → EReal) (ix2 l j)
    = if h : l.val < 15 then A10 (ix2 ⟨l.val, h⟩ j) else (0 : EReal) := by
  have e : (V1 m ρ c main_v32 : S16x128.Idx → EReal) =
      Host.scatter scatter_S16x128_S1_S15x128_01_n_0_0 (fun _ b => b) (broadcastInDim S16x128 ![] bcast_S_S16x128 (constant (F := Ideal) S_ .f32 0x00000000#32)) (broadcastInDim S1 ![] bcast_S_S1 (constantI S_ 32 0#32)) A10 := by
    rw [← hA]
    unfold V1 W1
    after_results
  have z : (broadcastInDim S16x128 ![] bcast_S_S16x128 (constant (F := Ideal) S_ .f32 0x00000000#32) : S16x128.Idx → EReal) (ix2 l j) = 0 := by
    pointwise
  have hj := j.isLt
  rw [e, set2 _ _ _ _ 0 0 (fun k => rfl) (fun k => rfl), z]
  split_ifs <;> first | rfl | omega

end Cert.KernelIdeal.Val
-- ==== Proof.Val.Dec.lean ====
/-
  The three calls after the encoder: what their result arrays hold, an entry at a time.
-/
module

public import proofs.«01_k».proof.Proof.Calls
public import Idealize.ShloMosaic.Lib.Pipeline.ValueKit

@[expose] public section

set_option maxRecDepth 16384

noncomputable section

namespace Cert.KernelIdeal.Val

open Cert.KernelIdeal Cert.KernelIdeal.Gen Cert.KernelIdeal.Calls
open Idealize.ShloMosaic Idealize.ShloMosaic.TcCoe Idealize.SL.Sem

/-! ## The decoders' functions, a row at a time -/

/-- A dense layer: a row times a matrix, plus a bias. -/
def lin {K J : ℕ} (r : Fin K → EReal) (w : Fin K → Fin J → EReal) (b : Fin J → EReal) (j : Fin J) : EReal := ∑ x, r x * w x j + b j
/-- The positive part, entry by entry. -/
def relu {J : ℕ} (f : Fin J → EReal) (j : Fin J) : EReal := max (f j) 0
/-- Three dense layers, each followed by the positive part. -/
def hidden {K : ℕ} (r : Fin K → EReal) (w1 : Fin K → Fin 128 → EReal) (b1 : Fin 128 → EReal) (w2 : Fin 128 → Fin 256 → EReal) (b2 : Fin 256 → EReal)
    (w3 : Fin 256 → Fin 512 → EReal) (b3 : Fin 512 → EReal) : Fin 512 → EReal := relu (lin (relu (lin (relu (lin r w1 b1)) w2 b2)) w3 b3)
/-- The dispersion head: the clipped softplus. -/
def dispF (t : EReal) : EReal := min (Ideal.ofBits .f32 1176256512#32) (max (Ideal.ofBits .f32 953267991#32) (max t 0 + Ideal.log1p (Ideal.exp (0 - FloatOps.absf (F := Ideal) (φ := .f32) t))))
/-- The mean head: the clipped exponential. -/
def meanF (t : EReal) : EReal := min (Ideal.ofBits .f32 1232348160#32) (max (Ideal.ofBits .f32 925353388#32) (Ideal.exp t))
/-- A row times a matrix, paired with another row. -/
def bil (r s : Fin 32 → EReal) (w : Fin 32 → Fin 32 → EReal) : EReal := ∑ x, (∑ y, r y * w y x) * s x
/-- The unnormalised cluster weight of a row at a centre, by the expanded square, masked past the last centre. -/
def qraw (r : Fin 16 → EReal) (mu : Fin 16 → Fin 16 → EReal) (j : Fin 16) : EReal :=
  Scalar.select (IntOp.cmpi CmpIPredicate.slt (BitVec.ofNat 32 j.val) 15#32)
    (Ideal.div 1 (1 + (∑ x, r x * r x - Ideal.ofBits .f32 1073741824#32 * ∑ x, r x * mu x j + ∑ x, mu x j * mu x j))) 0
/-- The cluster weight: the unnormalised one over its row's sum. -/
def qK (r : Fin 16 → EReal) (mu : Fin 16 → Fin 16 → EReal) (j : Fin 16) : EReal := Ideal.div (qraw r mu j) (∑ x, qraw r mu x)
/-- A matrix's entries. -/
def mat {R C : ℕ} (A : (⟨2, ![R, C]⟩ : Shape).Idx → EReal) (i : Fin R) (j : Fin C) : EReal := A (ix2 i j)
/-- A vector's entries. -/
def vec {R : ℕ} (A : (⟨1, ![R]⟩ : Shape).Idx → EReal) (i : Fin R) : EReal := A (ix1 i)

/-! ## The bodies' values at an entry -/

theorem pay_hd (v0 : Vec Ideal S1024x16 .f32) (v31 : Vec Ideal S16x32 .f32) (v34 : Vec Ideal S32 .f32) (i : Fin 1024) (j : Fin 32) :
    k1_pay4 v0 v31 v34 (ix2 i j) = lin (mat v0 i) (mat v31) (vec v34) j := by
  pointwise [k1_pay4, k1_pay2]
  rfl
theorem pay_m (v0 : FVec Ideal S1024x32 .f32) (v31 : Vec Ideal S32x32 .f32) (i : Fin 1024) (j : Fin 32) :
    k1_pay1 v0 v31 (ix2 i j) = ∑ x, mat v0 i x * mat v31 x j := by
  pointwise [k1_pay1]
  rfl
theorem pay_q (v0 : Vec Ideal S1024x16 .f32) (v31 : Vec Ideal S16x16 .f32) (i : Fin 1024) (j : Fin 16) :
    k1_pay3 v0 v31 (ix2 i j) = qK (mat v0 i) (mat v31) j := by
  pointwise [k1_pay3, k1_pay2]
  rfl
theorem pay_a (v0 : Vec Ideal S2048x32 .f32) (v31 : Vec Ideal S2048x32 .f32) (i : Fin 2048) (j : Fin 2048) :
    k2_pay1 v0 v31 (ix2 i j) = Ideal.logistic (∑ x, mat v0 i x * mat v31 j x) := by
  pointwise [k2_pay1]
  rfl
theorem pay_h3 (v0 : Vec Ideal S512x16 .f32) (v2 : Vec Ideal S16x128 .f32) (v5 : Vec Ideal S128 .f32) (v11 : Vec Ideal S128x256 .f32) (v13 : Vec Ideal S256 .f32) (v19 : Vec Ideal S256x512 .f32) (v21 : Vec Ideal S512 .f32) (i : Fin 512) (j : Fin 512) :
    k3_pay3 v0 v2 v5 v11 v13 v19 v21 (ix2 i j) = hidden (mat v0 i) (mat v2) (vec v5) (mat v11) (vec v13) (mat v19) (vec v21) j := by
  pointwise [k3_pay3]
  rfl
theorem pay_pi (v0 : Vec Ideal S512x16 .f32) (v2 : Vec Ideal S16x128 .f32) (v5 : Vec Ideal S128 .f32) (v11 : Vec Ideal S128x256 .f32) (v13 : Vec Ideal S256 .f32) (v19 : Vec Ideal S256x512 .f32) (v21 : Vec Ideal S512 .f32) (v27 : Vec Ideal S512x512 .f32) (v29 : Vec Ideal S512 .f32) (i : Fin 512) (j : Fin 512) :
    k3_pay4 v0 v2 v5 v11 v13 v19 v21 v27 v29 (ix2 i j) = Ideal.logistic (lin (mat (k3_pay3 v0 v2 v5 v11 v13 v19 v21) i) (mat v27) (vec v29) j) := by
  pointwise [k3_pay4]
  rfl
theorem pay_disp (h : FVec Ideal S512x512 .f32) (v27 : Vec Ideal S512x512 .f32) (v29 : Vec Ideal S512 .f32) (i : Fin 512) (j : Fin 512) :
    k3_pay1 h v27 v29 (ix2 i j) = dispF (lin (mat h i) (mat v27) (vec v29) j) := by
  pointwise [k3_pay1]
  rfl
theorem pay_mean (h : FVec Ideal S512x512 .f32) (v27 : Vec Ideal S512x512 .f32) (v29 : Vec Ideal S512 .f32) (i : Fin 512) (j : Fin 512) :
    k3_pay2 h v27 v29 (ix2 i j) = meanF (lin (mat h i) (mat v27) (vec v29) j) := by
  pointwise [k3_pay2]
  rfl

section Blocks

variable (V : (c : Dev nD) → (b : Ref sig .tc) → Buf (Elt Ideal) ((c : Thread nD τ).loc b)) (c : Dev nD)

/-- The windows' index maps of the second call, all points at once. -/
theorem idx1 : ∀ t : Fin cfg1.N, win1_0.index t = ![t.val, 0] ∧ win1_1.index t = ![0, 0] ∧ win1_2.index t = ![0, 0] ∧ win1_3.index t = ![0] ∧ win1_4.index t = ![0, 0]
    ∧ win1_5.index t = ![t.val, 0] ∧ win1_6.index t = ![t.val, 0] ∧ win1_7.index t = ![t.val, 0] :=
  (by decide +kernel : ∀ t : Fin grid1.N, _)
theorem lt1 (t : Fin cfg1.N) : t.val < 4 := lt_of_lt_of_eq t.isLt (by decide +kernel : grid1.N = 4)

theorem blk1_0 (t : Fin cfg1.N) (i : Fin 1024) (j : Fin 16) :
    (iblk1 V c 0 t : S1024x16.Idx → EReal) (ix2 i j) = V c main_v33 (ix2 ⟨t.val * 1024 + i.val, by have := i.isLt; have := lt1 t; omega⟩ j) := by
  blk_ext [iblk1, idx1 t]
theorem blk1_1 (t : Fin cfg1.N) (i : Fin 16) (j : Fin 16) : (iblk1 V c 1 t : S16x16.Idx → EReal) (ix2 i j) = V c main_v26 (ix2 i j) := by
  blk_ext [iblk1, idx1 t]
theorem blk1_2 (t : Fin cfg1.N) (i : Fin 16) (j : Fin 32) : (iblk1 V c 2 t : S16x32.Idx → EReal) (ix2 i j) = V c main_v29 (ix2 i j) := by
  blk_ext [iblk1, idx1 t]
theorem blk1_3 (t : Fin cfg1.N) (j : Fin 32) : (iblk1 V c 3 t : S32.Idx → EReal) (ix1 j) = V c main_arg8 (ix1 j) := by
  blk_ext [iblk1, idx1 t]
theorem blk1_4 (t : Fin cfg1.N) (i : Fin 32) (j : Fin 32) : (iblk1 V c 4 t : S32x32.Idx → EReal) (ix2 i j) = V c main_arg9 (ix2 i j) := by
  blk_ext [iblk1, idx1 t]

/-- The first decoder's row after the call. -/
def hdK (V : (c : Dev nD) → (b : Ref sig .tc) → Buf (Elt Ideal) ((c : Thread nD τ).loc b)) (c : Dev nD) (i : Fin 4096) : Fin 32 → EReal :=
  lin (mat (R := 4096) (C := 16) (V c main_v33) i) (mat (R := 16) (C := 32) (V c main_v29)) (vec (R := 32) (V c main_arg8))

/-- A row of the second call's staged rows is a row of the encoder's result. -/
def at1 (t : Fin cfg1.N) (i : Fin 1024) : Fin 4096 := ⟨t.val * 1024 + i.val, by have := i.isLt; have := lt1 t; omega⟩

theorem pay5_blk (t : Fin cfg1.N) (p : Fin 1024) : mat (k1_pay5 (iblk1 V c 0 t) (iblk1 V c 1 t) (iblk1 V c 2 t) (iblk1 V c 3 t) (iblk1 V c 4 t)) p = hdK V c (at1 t p) := by
  funext q
  have e : k1_pay5 (iblk1 V c 0 t) (iblk1 V c 1 t) (iblk1 V c 2 t) (iblk1 V c 3 t) (iblk1 V c 4 t) = k1_pay4 (F := Ideal) (iblk1 V c 0 t) (iblk1 V c 2 t) (iblk1 V c 3 t) := by
    unfold k1_pay5
    simp (disch := decide) only [View.ld_unit_lit]
  rw [mat, e, pay_hd]
  unfold hdK lin mat vec
  simp only [blk1_0, blk1_2, blk1_3]
  rfl

/-- The first decoder's rows after the call. -/
theorem arr1_7 (i : Fin 4096) (j : Fin 32) : ((dat1 V c).arrAt 7 cfg1.N : S4096x32.Idx → EReal) (ix2 i j) = hdK V c i j := by
  have h : (dat1 V c).arrAt 7 cfg1.N = (fun y : S4096x32.Idx => hdK V c (y 0) (y 1)) := by
    refine (dat1 V c).arrAt_eq_of_covers 7 _ (by decide +kernel) fun t ht y => ?_
    rw [after1_7]
    frame_out
    have e : ∀ (p : Fin 1024) (q : Fin 32), (win1_7.blk t).view.emb (ix2 p q) = (ix2 (at1 t p) q : S4096x32.Idx) := fun p q => by blk_ext [idx1 t, at1]
    obtain ⟨p, q, rfl⟩ : ∃ p q, y = ix2 p q := ⟨y 0, y 1, by blk_ext⟩
    refine Eq.trans ?_ (congrArg (fun y : S4096x32.Idx => hdK V c (y 0) (y 1)) (e p q)).symm
    exact congrFun (pay5_blk V c t p) q
  rw [h]; rfl

/-- The first decoder's rows times the bilinear form's matrix. -/
def mK (V : (c : Dev nD) → (b : Ref sig .tc) → Buf (Elt Ideal) ((c : Thread nD τ).loc b)) (c : Dev nD) (i : Fin 4096) (j : Fin 32) : EReal :=
  ∑ x, hdK V c i x * mat (R := 32) (C := 32) (V c main_arg9) x j

theorem pay1_blk (t : Fin cfg1.N) (p : Fin 1024) (q : Fin 32) :
    k1_pay1 (k1_pay5 (iblk1 V c 0 t) (iblk1 V c 1 t) (iblk1 V c 2 t) (iblk1 V c 3 t) (iblk1 V c 4 t)) (iblk1 V c 4 t) (ix2 p q) = mK V c (at1 t p) q := by
  rw [pay_m, pay5_blk]
  unfold mK mat
  simp only [blk1_4]

/-- Those rows' array after the call. -/
theorem arr1_6 (i : Fin 4096) (j : Fin 32) : ((dat1 V c).arrAt 6 cfg1.N : S4096x32.Idx → EReal) (ix2 i j) = mK V c i j := by
  have h : (dat1 V c).arrAt 6 cfg1.N = (fun y : S4096x32.Idx => mK V c (y 0) (y 1)) := by
    refine (dat1 V c).arrAt_eq_of_covers 6 _ (by decide +kernel) fun t ht y => ?_
    rw [after1_6]
    frame_out
    have e : ∀ (p : Fin 1024) (q : Fin 32), (win1_6.blk t).view.emb (ix2 p q) = (ix2 (at1 t p) q : S4096x32.Idx) := fun p q => by blk_ext [idx1 t, at1]
    obtain ⟨p, q, rfl⟩ : ∃ p q, y = ix2 p q := ⟨y 0, y 1, by blk_ext⟩
    refine Eq.trans ?_ (congrArg (fun y : S4096x32.Idx => mK V c (y 0) (y 1)) (e p q)).symm
    exact pay1_blk V c t p q
  rw [h]; rfl

/-- The cluster weights of a row of the encoder's result. -/
def qKV (V : (c : Dev nD) → (b : Ref sig .tc) → Buf (Elt Ideal) ((c : Thread nD τ).loc b)) (c : Dev nD) (i : Fin 4096) : Fin 16 → EReal :=
  qK (mat (R := 4096) (C := 16) (V c main_v33) i) (mat (R := 16) (C := 16) (V c main_v26))

theorem pay3_blk (t : Fin cfg1.N) (p : Fin 1024) (q : Fin 16) :
    k1_pay3 (F := Ideal) (iblk1 V c 0 t) (iblk1 V c 1 t) (ix2 p q) = qKV V c (at1 t p) q := by
  rw [pay_q]
  have e0 : mat (R := 1024) (C := 16) (iblk1 V c 0 t) p = mat (R := 4096) (C := 16) (V c main_v33) (at1 t p) := funext fun k => blk1_0 V c t p k
  have e1 : mat (R := 16) (C := 16) (iblk1 V c 1 t) = mat (R := 16) (C := 16) (V c main_v26) := funext fun k => funext fun l => blk1_1 V c t k l
  exact congrArg₂ (fun a b => qK a b q) e0 e1

/-- The cluster weights after the call. -/
theorem arr1_5 (i : Fin 4096) (j : Fin 16) : ((dat1 V c).arrAt 5 cfg1.N : S4096x16.Idx → EReal) (ix2 i j) = qKV V c i j := by
  have h : (dat1 V c).arrAt 5 cfg1.N = (fun y : S4096x16.Idx => qKV V c (y 0) (y 1)) := by
    refine (dat1 V c).arrAt_eq_of_covers 5 _ (by decide +kernel) fun t ht y => ?_
    rw [after1_5]
    frame_out
    have e : ∀ (p : Fin 1024) (q : Fin 16), (win1_5.blk t).view.emb (ix2 p q) = (ix2 (at1 t p) q : S4096x16.Idx) := fun p q => by blk_ext [idx1 t, at1]
    obtain ⟨p, q, rfl⟩ : ∃ p q, y = ix2 p q := ⟨y 0, y 1, by blk_ext⟩
    refine Eq.trans ?_ (congrArg (fun y : S4096x16.Idx => qKV V c (y 0) (y 1)) (e p q)).symm
    exact pay3_blk V c t p q
  rw [h]; rfl

/-- The windows' index maps of the third call, all points at once. -/
theorem idx2 : ∀ t : Fin cfg2.N, win2_0.index t = ![t.val / 2, 0] ∧ win2_1.index t = ![t.val % 2, 0] ∧ win2_2.index t = ![t.val / 2, t.val % 2] :=
  (by decide +kernel : ∀ t : Fin grid2.N, _)
theorem lt2 (t : Fin cfg2.N) : t.val < 4 := lt_of_lt_of_eq t.isLt (by decide +kernel : grid2.N = 4)
/-- The row of a block's row in the third call. -/
def at2 (t : Fin cfg2.N) (i : Fin 2048) : Fin 4096 := ⟨t.val / 2 * 2048 + i.val, by have := i.isLt; have := lt2 t; omega⟩
/-- The column of a block's column in the third call. -/
def at2' (t : Fin cfg2.N) (i : Fin 2048) : Fin 4096 := ⟨t.val % 2 * 2048 + i.val, by have := i.isLt; have := lt2 t; omega⟩
theorem blk2_0 (t : Fin cfg2.N) (i : Fin 2048) (j : Fin 32) : (iblk2 V c 0 t : S2048x32.Idx → EReal) (ix2 i j) = V c main_v34_1 (ix2 (at2 t i) j) := by
  blk_ext [iblk2, idx2 t, at2]
theorem blk2_1 (t : Fin cfg2.N) (i : Fin 2048) (j : Fin 32) : (iblk2 V c 1 t : S2048x32.Idx → EReal) (ix2 i j) = V c main_v34_2 (ix2 (at2' t i) j) := by
  blk_ext [iblk2, idx2 t, at2']

/-- The reconstructed adjacency's entry from the two arrays the third call reads. -/
def aK (V : (c : Dev nD) → (b : Ref sig .tc) → Buf (Elt Ideal) ((c : Thread nD τ).loc b)) (c : Dev nD) (i j : Fin 4096) : EReal :=
  Ideal.logistic (∑ x, mat (R := 4096) (C := 32) (V c main_v34_1) i x * mat (R := 4096) (C := 32) (V c main_v34_2) j x)

theorem pay21_blk (t : Fin cfg2.N) (p q : Fin 2048) :
    k2_pay1 (F := Ideal) (iblk2 V c 0 t) (iblk2 V c 1 t) (ix2 p q) = aK V c (at2 t p) (at2' t q) := by
  rw [pay_a]
  unfold aK mat
  simp only [blk2_0, blk2_1]

/-- The reconstructed adjacency after the call. -/
theorem arr2_2 (i : Fin 4096) (j : Fin 4096) : ((dat2 V c).arrAt 2 cfg2.N : S4096x4096.Idx → EReal) (ix2 i j) = aK V c i j := by
  have h : (dat2 V c).arrAt 2 cfg2.N = (fun y : S4096x4096.Idx => aK V c (y 0) (y 1)) := by
    refine (dat2 V c).arrAt_eq_of_covers 2 _ (by decide +kernel) fun t ht y => ?_
    rw [after2_2]
    frame_out
    have e : ∀ (p : Fin 2048) (q : Fin 2048), (win2_2.blk t).view.emb (ix2 p q) = (ix2 (at2 t p) (at2' t q) : S4096x4096.Idx) := fun p q => by blk_ext [idx2 t, at2, at2']
    obtain ⟨p, q, rfl⟩ : ∃ p q, y = ix2 p q := ⟨y 0, y 1, by blk_ext⟩
    refine Eq.trans ?_ (congrArg (fun y : S4096x4096.Idx => aK V c (y 0) (y 1)) (e p q)).symm
    exact pay21_blk V c t p q
  rw [h]; rfl

/-- The windows' index maps of the fourth call, all points at once. -/
theorem idx3 : ∀ t : Fin cfg3.N, win3_0.index t = ![t.val, 0] ∧ win3_1.index t = ![0, 0] ∧ win3_2.index t = ![0] ∧ win3_3.index t = ![0, 0] ∧ win3_4.index t = ![0] ∧ win3_5.index t = ![0, 0] ∧ win3_6.index t = ![0] ∧ win3_7.index t = ![0, 0] ∧ win3_8.index t = ![0] ∧ win3_9.index t = ![0, 0] ∧ win3_10.index t = ![0] ∧ win3_11.index t = ![0, 0] ∧ win3_12.index t = ![0] ∧ win3_13.index t = ![t.val, 0] ∧ win3_14.index t = ![t.val, 0] ∧ win3_15.index t = ![t.val, 0] :=
  (by decide +kernel : ∀ t : Fin grid3.N, _)
theorem lt3 (t : Fin cfg3.N) : t.val < 8 := lt_of_lt_of_eq t.isLt (by decide +kernel : grid3.N = 8)
/-- The row of a block's row in the fourth call. -/
def at3 (t : Fin cfg3.N) (i : Fin 512) : Fin 4096 := ⟨t.val * 512 + i.val, by have := i.isLt; have := lt3 t; omega⟩
theorem blk3_0 (t : Fin cfg3.N) (i : Fin 512) : mat (R := 512) (C := 16) (iblk3 V c 0 t) i = mat (R := 4096) (C := 16) (V c main_v33) (at3 t i) := by
  funext j
  show (iblk3 V c 0 t : S512x16.Idx → EReal) (ix2 i j) = V c main_v33 (ix2 (at3 t i) j)
  blk_ext [iblk3, idx3 t, at3]
theorem blk3_1 (t : Fin cfg3.N) : mat (R := 16) (C := 128) (iblk3 V c 1 t) = mat (R := 16) (C := 128) (V c main_v32) := by
  funext i j
  show (iblk3 V c 1 t : S16x128.Idx → EReal) (ix2 i j) = V c main_v32 (ix2 i j)
  blk_ext [iblk3, idx3 t]
theorem blk3_2 (t : Fin cfg3.N) : vec (R := 128) (iblk3 V c 2 t) = vec (R := 128) (V c main_arg11) := by
  funext i
  show (iblk3 V c 2 t : S128.Idx → EReal) (ix1 i) = V c main_arg11 (ix1 i)
  blk_ext [iblk3, idx3 t]
theorem blk3_3 (t : Fin cfg3.N) : mat (R := 128) (C := 256) (iblk3 V c 3 t) = mat (R := 128) (C := 256) (V c main_arg12) := by
  funext i j
  show (iblk3 V c 3 t : S128x256.Idx → EReal) (ix2 i j) = V c main_arg12 (ix2 i j)
  blk_ext [iblk3, idx3 t]
theorem blk3_4 (t : Fin cfg3.N) : vec (R := 256) (iblk3 V c 4 t) = vec (R := 256) (V c main_arg13) := by
  funext i
  show (iblk3 V c 4 t : S256.Idx → EReal) (ix1 i) = V c main_arg13 (ix1 i)
  blk_ext [iblk3, idx3 t]
theorem blk3_5 (t : Fin cfg3.N) : mat (R := 256) (C := 512) (iblk3 V c 5 t) = mat (R := 256) (C := 512) (V c main_arg14) := by
  funext i j
  show (iblk3 V c 5 t : S256x512.Idx → EReal) (ix2 i j) = V c main_arg14 (ix2 i j)
  blk_ext [iblk3, idx3 t]
theorem blk3_6 (t : Fin cfg3.N) : vec (R := 512) (iblk3 V c 6 t) = vec (R := 512) (V c main_arg15) := by
  funext i
  show (iblk3 V c 6 t : S512.Idx → EReal) (ix1 i) = V c main_arg15 (ix1 i)
  blk_ext [iblk3, idx3 t]
theorem blk3_7 (t : Fin cfg3.N) : mat (R := 512) (C := 512) (iblk3 V c 7 t) = mat (R := 512) (C := 512) (V c main_arg16) := by
  funext i j
  show (iblk3 V c 7 t : S512x512.Idx → EReal) (ix2 i j) = V c main_arg16 (ix2 i j)
  blk_ext [iblk3, idx3 t]
theorem blk3_8 (t : Fin cfg3.N) : vec (R := 512) (iblk3 V c 8 t) = vec (R := 512) (V c main_arg17) := by
  funext i
  show (iblk3 V c 8 t : S512.Idx → EReal) (ix1 i) = V c main_arg17 (ix1 i)
  blk_ext [iblk3, idx3 t]
theorem blk3_9 (t : Fin cfg3.N) : mat (R := 512) (C := 512) (iblk3 V c 9 t) = mat (R := 512) (C := 512) (V c main_arg18) := by
  funext i j
  show (iblk3 V c 9 t : S512x512.Idx → EReal) (ix2 i j) = V c main_arg18 (ix2 i j)
  blk_ext [iblk3, idx3 t]
theorem blk3_10 (t : Fin cfg3.N) : vec (R := 512) (iblk3 V c 10 t) = vec (R := 512) (V c main_arg19) := by
  funext i
  show (iblk3 V c 10 t : S512.Idx → EReal) (ix1 i) = V c main_arg19 (ix1 i)
  blk_ext [iblk3, idx3 t]
theorem blk3_11 (t : Fin cfg3.N) : mat (R := 512) (C := 512) (iblk3 V c 11 t) = mat (R := 512) (C := 512) (V c main_arg20) := by
  funext i j
  show (iblk3 V c 11 t : S512x512.Idx → EReal) (ix2 i j) = V c main_arg20 (ix2 i j)
  blk_ext [iblk3, idx3 t]
theorem blk3_12 (t : Fin cfg3.N) : vec (R := 512) (iblk3 V c 12 t) = vec (R := 512) (V c main_arg21) := by
  funext i
  show (iblk3 V c 12 t : S512.Idx → EReal) (ix1 i) = V c main_arg21 (ix1 i)
  blk_ext [iblk3, idx3 t]

/-- The second decoder's hidden row. -/
def hxK (V : (c : Dev nD) → (b : Ref sig .tc) → Buf (Elt Ideal) ((c : Thread nD τ).loc b)) (c : Dev nD) (i : Fin 4096) : Fin 512 → EReal :=
  hidden (mat (R := 4096) (C := 16) (V c main_v33) i) (mat (R := 16) (C := 128) (V c main_v32)) (vec (R := 128) (V c main_arg11)) (mat (R := 128) (C := 256) (V c main_arg12)) (vec (R := 256) (V c main_arg13))
    (mat (R := 256) (C := 512) (V c main_arg14)) (vec (R := 512) (V c main_arg15))
/-- The dropout head. -/
def piK (V : (c : Dev nD) → (b : Ref sig .tc) → Buf (Elt Ideal) ((c : Thread nD τ).loc b)) (c : Dev nD) (i : Fin 4096) (j : Fin 512) : EReal :=
  Ideal.logistic (lin (hxK V c i) (mat (R := 512) (C := 512) (V c main_arg16)) (vec (R := 512) (V c main_arg17)) j)
/-- The dispersion head. -/
def dispK (V : (c : Dev nD) → (b : Ref sig .tc) → Buf (Elt Ideal) ((c : Thread nD τ).loc b)) (c : Dev nD) (i : Fin 4096) (j : Fin 512) : EReal :=
  dispF (lin (hxK V c i) (mat (R := 512) (C := 512) (V c main_arg18)) (vec (R := 512) (V c main_arg19)) j)
/-- The mean head. -/
def meanK (V : (c : Dev nD) → (b : Ref sig .tc) → Buf (Elt Ideal) ((c : Thread nD τ).loc b)) (c : Dev nD) (i : Fin 4096) (j : Fin 512) : EReal :=
  meanF (lin (hxK V c i) (mat (R := 512) (C := 512) (V c main_arg20)) (vec (R := 512) (V c main_arg21)) j)

/-- The hidden rows of a block. -/
theorem pay33_blk (t : Fin cfg3.N) (p : Fin 512) :
    mat (k3_pay3 (F := Ideal) (iblk3 V c 0 t) (iblk3 V c 1 t) (iblk3 V c 2 t) (iblk3 V c 3 t) (iblk3 V c 4 t) (iblk3 V c 5 t) (iblk3 V c 6 t)) p = hxK V c (at3 t p) := by
  funext q
  rw [mat, pay_h3]
  unfold hxK
  rw [← blk3_0 V c t p, ← blk3_1 V c t, ← blk3_2 V c t, ← blk3_3 V c t, ← blk3_4 V c t, ← blk3_5 V c t, ← blk3_6 V c t]

theorem pay35 (t : Fin cfg3.N) : k3_pay5 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t)
    = k3_pay3 (F := Ideal) (iblk3 V c 0 t) (iblk3 V c 1 t) (iblk3 V c 2 t) (iblk3 V c 3 t) (iblk3 V c 4 t) (iblk3 V c 5 t) (iblk3 V c 6 t) := by
  unfold k3_pay5
  simp (disch := decide) only [View.ld_unit_lit]

theorem pi_blk (t : Fin cfg3.N) (p q : Fin 512) :
    k3_pay4 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) (ix2 p q) = piK V c (at3 t p) q := by
  rw [pay_pi, pay33_blk]
  unfold piK
  rw [← blk3_7 V c t, ← blk3_8 V c t]
theorem disp_blk (t : Fin cfg3.N) (p q : Fin 512) :
    k3_pay1 (k3_pay5 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t)) (iblk3 V c 9 t) (iblk3 V c 10 t) (ix2 p q) = dispK V c (at3 t p) q := by
  rw [pay35, pay_disp, pay33_blk]
  unfold dispK
  rw [← blk3_9 V c t, ← blk3_10 V c t]
theorem mean_blk (t : Fin cfg3.N) (p q : Fin 512) :
    k3_pay2 (k3_pay5 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t)) (iblk3 V c 11 t) (iblk3 V c 12 t) (ix2 p q) = meanK V c (at3 t p) q := by
  rw [pay35, pay_mean, pay33_blk]
  unfold meanK
  rw [← blk3_11 V c t, ← blk3_12 V c t]

/-- The dropout head after the call. -/
theorem arr3_13 (i : Fin 4096) (j : Fin 512) : ((dat3 V c).arrAt 13 cfg3.N : S4096x512.Idx → EReal) (ix2 i j) = piK V c i j := by
  have h : (dat3 V c).arrAt 13 cfg3.N = (fun y : S4096x512.Idx => piK V c (y 0) (y 1)) := by
    refine (dat3 V c).arrAt_eq_of_covers 13 _ (by decide +kernel) fun t ht y => ?_
    rw [after3_13]
    frame_out
    have e : ∀ (p : Fin 512) (q : Fin 512), (win3_13.blk t).view.emb (ix2 p q) = (ix2 (at3 t p) q : S4096x512.Idx) := fun p q => by blk_ext [idx3 t, at3]
    obtain ⟨p, q, rfl⟩ : ∃ p q, y = ix2 p q := ⟨y 0, y 1, by blk_ext⟩
    refine Eq.trans ?_ (congrArg (fun y : S4096x512.Idx => piK V c (y 0) (y 1)) (e p q)).symm
    exact pi_blk V c t p q
  rw [h]; rfl

/-- The dispersion head after the call. -/
theorem arr3_14 (i : Fin 4096) (j : Fin 512) : ((dat3 V c).arrAt 14 cfg3.N : S4096x512.Idx → EReal) (ix2 i j) = dispK V c i j := by
  have h : (dat3 V c).arrAt 14 cfg3.N = (fun y : S4096x512.Idx => dispK V c (y 0) (y 1)) := by
    refine (dat3 V c).arrAt_eq_of_covers 14 _ (by decide +kernel) fun t ht y => ?_
    rw [after3_14]
    frame_out
    have e : ∀ (p : Fin 512) (q : Fin 512), (win3_14.blk t).view.emb (ix2 p q) = (ix2 (at3 t p) q : S4096x512.Idx) := fun p q => by blk_ext [idx3 t, at3]
    obtain ⟨p, q, rfl⟩ : ∃ p q, y = ix2 p q := ⟨y 0, y 1, by blk_ext⟩
    refine Eq.trans ?_ (congrArg (fun y : S4096x512.Idx => dispK V c (y 0) (y 1)) (e p q)).symm
    exact disp_blk V c t p q
  rw [h]; rfl

/-- The mean head after the call. -/
theorem arr3_15 (i : Fin 4096) (j : Fin 512) : ((dat3 V c).arrAt 15 cfg3.N : S4096x512.Idx → EReal) (ix2 i j) = meanK V c i j := by
  have h : (dat3 V c).arrAt 15 cfg3.N = (fun y : S4096x512.Idx => meanK V c (y 0) (y 1)) := by
    refine (dat3 V c).arrAt_eq_of_covers 15 _ (by decide +kernel) fun t ht y => ?_
    rw [after3_15]
    frame_out
    have e : ∀ (p : Fin 512) (q : Fin 512), (win3_15.blk t).view.emb (ix2 p q) = (ix2 (at3 t p) q : S4096x512.Idx) := fun p q => by blk_ext [idx3 t, at3]
    obtain ⟨p, q, rfl⟩ : ∃ p q, y = ix2 p q := ⟨y 0, y 1, by blk_ext⟩
    refine Eq.trans ?_ (congrArg (fun y : S4096x512.Idx => meanK V c (y 0) (y 1)) (e p q)).symm
    exact mean_blk V c t p q
  rw [h]; rfl

end Blocks

end Cert.KernelIdeal.Val
-- ==== Proof.Val.Out.lean ====
/-
  What the kernel's six results hold at the end, an entry at a time, from the encoder's result and the arguments.
-/
module

public import proofs.«01_k».proof.Proof.Val.Hosts
public import proofs.«01_k».proof.Proof.Val.Dec

@[expose] public section

set_option maxRecDepth 16384

noncomputable section

namespace Cert.KernelIdeal.Val

open Cert.KernelIdeal Cert.KernelIdeal.Gen Cert.KernelIdeal.Enc Cert.KernelIdeal.Calls Cert.KernelIdeal.Run
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The encoder's result as an array of entries. -/
def Zk (m : (ℓ : Loc nD τ sig) → Buf (Elt Ideal) ℓ) (ρ : Dev nD → PrngReg) (c : Dev nD) : Fin 4096 → Fin 16 → EReal :=
  mat (R := 4096) (C := 16) ((dat0 (V1 m ρ) c).arrAt 7 cfg0.N)

theorem V2_z : V2 m ρ c main_v33 = (dat0 (V1 m ρ) c).arrAt 7 cfg0.N := W2_arr m ρ c 7
theorem V3_z : V3 m ρ c main_v33 = (dat0 (V1 m ρ) c).arrAt 7 cfg0.N := (W3_of m ρ c main_v33 (by decide +kernel)).trans (V2_z m ρ c)
theorem V4_z : V4 m ρ c main_v33 = (dat0 (V1 m ρ) c).arrAt 7 cfg0.N := (W4_of m ρ c main_v33 (by decide +kernel)).trans (V3_z m ρ c)
theorem V5_z : V5 m ρ c main_v33 = (dat0 (V1 m ρ) c).arrAt 7 cfg0.N := (W5_of m ρ c main_v33 (by decide +kernel)).trans (V4_z m ρ c)
theorem V2_v26 : V2 m ρ c main_v26 = V1 m ρ c main_v26 := W2_of m ρ c main_v26 (by decide +kernel)
theorem V2_v29 : V2 m ρ c main_v29 = V1 m ρ c main_v29 := W2_of m ρ c main_v29 (by decide +kernel)
theorem V4_v32 : V4 m ρ c main_v32 = V1 m ρ c main_v32 :=
  (W4_of m ρ c main_v32 (by decide +kernel)).trans ((W3_of m ρ c main_v32 (by decide +kernel)).trans (W2_of m ρ c main_v32 (by decide +kernel)))
theorem V2_arg (a : Ref sig .tc) (h : a ∈ argRefs) : V2 m ρ c a = m ((c : Thread nD τ).loc a) := W2_args m ρ c a h
theorem V4_arg (a : Ref sig .tc) (h : a ∈ argRefs) : V4 m ρ c a = m ((c : Thread nD τ).loc a) := W4_args m ρ c a h

/-- The latent rows. -/
theorem out_z (i : Fin 4096) (j : Fin 15) : (W6 m ρ c main_v37 : S4096x15.Idx → EReal) (ix2 i j) = Zk m ρ c i (j.castSucc) := by
  have e : (W6 m ρ c main_v37 : S4096x15.Idx → EReal) = extractStridedSlice S4096x15 ![0, 0] ((dat0 (V1 m ρ) c).arrAt 7 cfg0.N : S4096x16.Idx → EReal) slices_S4096x16_S4096x15_0_0 := by
    rw [← V5_z m ρ c]
    unfold W6
    after_results
  rw [e]
  pointwise
  rfl

/-- The cluster weights. -/
theorem out_q (i : Fin 4096) (j : Fin 15) : (W6 m ρ c main_v38 : S4096x15.Idx → EReal) (ix2 i j) = qK (Zk m ρ c i) (mat (R := 16) (C := 16) (V1 m ρ c main_v26)) j.castSucc := by
  have q : V5 m ρ c main_v34_0 = (dat1 (V2 m ρ) c).arrAt 5 cfg1.N :=
    (W5_of m ρ c main_v34_0 (by decide +kernel)).trans ((W4_of m ρ c main_v34_0 (by decide +kernel)).trans (W3_arr m ρ c 5))
  have e : (W6 m ρ c main_v38 : S4096x15.Idx → EReal) = extractStridedSlice S4096x15 ![0, 0] ((dat1 (V2 m ρ) c).arrAt 5 cfg1.N : S4096x16.Idx → EReal) slices_S4096x16_S4096x15_0_0 := by
    rw [← q]
    unfold W6
    after_results
  rw [e]
  pointwise
  refine (arr1_5 (V2 m ρ) c i j.castSucc).trans ?_
  unfold qKV Zk
  rw [V2_z, V2_v26]

/-- The first decoder's row, from the encoder's result. -/
def hdZ (m : (ℓ : Loc nD τ sig) → Buf (Elt Ideal) ℓ) (ρ : Dev nD → PrngReg) (c : Dev nD) (i : Fin 4096) : Fin 32 → EReal :=
  lin (Zk m ρ c i) (mat (R := 16) (C := 32) (V1 m ρ c main_v29)) (vec (R := 32) (m ((c : Thread nD τ).loc main_arg8)))

theorem hdK_eq : hdK (V2 m ρ) c = hdZ m ρ c := by
  funext i
  unfold hdK hdZ Zk
  rw [V2_z, V2_v29, V2_arg m ρ c main_arg8 (by decide +kernel)]

/-- The reconstructed adjacency. -/
theorem out_a (i j : Fin 4096) : (W6 m ρ c main_v35 : S4096x4096.Idx → EReal) (ix2 i j)
    = Ideal.logistic (bil (hdZ m ρ c i) (hdZ m ρ c j) (mat (R := 32) (C := 32) (m ((c : Thread nD τ).loc main_arg9)))) := by
  have q : W6 m ρ c main_v35 = (dat2 (V3 m ρ) c).arrAt 2 cfg2.N :=
    (W6_of m ρ c main_v35 (by decide +kernel)).trans ((W5_of m ρ c main_v35 (by decide +kernel)).trans (W4_arr m ρ c 2))
  have e1 : V3 m ρ c main_v34_1 = (dat1 (V2 m ρ) c).arrAt 6 cfg1.N := W3_arr m ρ c 6
  have e2 : V3 m ρ c main_v34_2 = (dat1 (V2 m ρ) c).arrAt 7 cfg1.N := W3_arr m ρ c 7
  rw [q]
  refine (arr2_2 (V3 m ρ) c i j).trans ?_
  unfold aK bil
  rw [e1, e2]
  refine congrArg Ideal.logistic (Finset.sum_congr rfl fun x _ => ?_)
  refine congrArg₂ (· * ·) ((arr1_6 (V2 m ρ) c i x).trans ?_) ((arr1_7 (V2 m ρ) c j x).trans (by rw [hdK_eq]))
  unfold mK
  rw [hdK_eq, V2_arg m ρ c main_arg9 (by decide +kernel)]

/-- The second decoder's hidden row, from the encoder's result. -/
def hxZ (m : (ℓ : Loc nD τ sig) → Buf (Elt Ideal) ℓ) (ρ : Dev nD → PrngReg) (c : Dev nD) (i : Fin 4096) : Fin 512 → EReal :=
  hidden (Zk m ρ c i) (mat (R := 16) (C := 128) (V1 m ρ c main_v32)) (vec (R := 128) (m ((c : Thread nD τ).loc main_arg11))) (mat (R := 128) (C := 256) (m ((c : Thread nD τ).loc main_arg12)))
    (vec (R := 256) (m ((c : Thread nD τ).loc main_arg13))) (mat (R := 256) (C := 512) (m ((c : Thread nD τ).loc main_arg14))) (vec (R := 512) (m ((c : Thread nD τ).loc main_arg15)))

theorem hxK_eq : hxK (V4 m ρ) c = hxZ m ρ c := by
  funext i
  unfold hxK hxZ Zk
  rw [V4_z, V4_v32, V4_arg m ρ c main_arg11 (by decide +kernel), V4_arg m ρ c main_arg12 (by decide +kernel), V4_arg m ρ c main_arg13 (by decide +kernel),
    V4_arg m ρ c main_arg14 (by decide +kernel), V4_arg m ρ c main_arg15 (by decide +kernel)]

/-- The dropout head. -/
theorem out_pi (i : Fin 4096) (j : Fin 512) : (W6 m ρ c main_v36_0 : S4096x512.Idx → EReal) (ix2 i j)
    = Ideal.logistic (lin (hxZ m ρ c i) (mat (R := 512) (C := 512) (m ((c : Thread nD τ).loc main_arg16))) (vec (R := 512) (m ((c : Thread nD τ).loc main_arg17))) j) := by
  rw [(W6_of m ρ c main_v36_0 (by decide +kernel)).trans (W5_arr m ρ c 13)]
  refine (arr3_13 (V4 m ρ) c i j).trans ?_
  unfold piK
  rw [hxK_eq, V4_arg m ρ c main_arg16 (by decide +kernel), V4_arg m ρ c main_arg17 (by decide +kernel)]
/-- The dispersion head. -/
theorem out_disp (i : Fin 4096) (j : Fin 512) : (W6 m ρ c main_v36_1 : S4096x512.Idx → EReal) (ix2 i j)
    = dispF (lin (hxZ m ρ c i) (mat (R := 512) (C := 512) (m ((c : Thread nD τ).loc main_arg18))) (vec (R := 512) (m ((c : Thread nD τ).loc main_arg19))) j) := by
  rw [(W6_of m ρ c main_v36_1 (by decide +kernel)).trans (W5_arr m ρ c 14)]
  refine (arr3_14 (V4 m ρ) c i j).trans ?_
  unfold dispK
  rw [hxK_eq, V4_arg m ρ c main_arg18 (by decide +kernel), V4_arg m ρ c main_arg19 (by decide +kernel)]
/-- The mean head. -/
theorem out_mean (i : Fin 4096) (j : Fin 512) : (W6 m ρ c main_v36_2 : S4096x512.Idx → EReal) (ix2 i j)
    = meanF (lin (hxZ m ρ c i) (mat (R := 512) (C := 512) (m ((c : Thread nD τ).loc main_arg20))) (vec (R := 512) (m ((c : Thread nD τ).loc main_arg21))) j) := by
  rw [(W6_of m ρ c main_v36_2 (by decide +kernel)).trans (W5_arr m ρ c 15)]
  refine (arr3_15 (V4 m ρ) c i j).trans ?_
  unfold meanK
  rw [hxK_eq, V4_arg m ρ c main_arg20 (by decide +kernel), V4_arg m ρ c main_arg21 (by decide +kernel)]

end Cert.KernelIdeal.Val
-- ==== Proof.Val.Ref.lean ====
/-
  The reference's six results, an entry at a time, as functions of the arguments.
-/
module

public import proofs.«01_k».proof.Proof.Reference
public import proofs.«01_k».proof.Proof.Val.Dec

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.SL.Sem
open Cert.KernelIdeal.Val (lin relu hidden dispF meanF bil mat vec)

/-! ## The layers, as the reference writes them -/

/-- The adjacency times 512 columns. -/
def hop512 (A : S4096x4096.Idx → EReal) (x : S4096x512.Idx → EReal) : S4096x512.Idx → EReal :=
  Host.dotGeneral (F := Ideal) (φ₁ := .f32) (φ₂ := .f32) dot_S4096x4096_S4096x512_S4096x512_1_0_0_1_n_n none A x
theorem hop512_at (A : S4096x4096.Idx → EReal) (x : S4096x512.Idx → EReal) (i : Fin 4096) (j : Fin 512) :
    hop512 A x (ix2 i j) = ∑ k, mat A i k * mat x k j := by
  pointwise [hop512]
  rfl
/-- The four powers of the adjacency applied to 512 columns, side by side. -/
def feats512 (A : S4096x4096.Idx → EReal) (x : S4096x512.Idx → EReal) : S4096x2048.Idx → EReal :=
  fn_main_v3 (F := Ideal) x (hop512 A x) (hop512 A (hop512 A x)) (hop512 A (hop512 A (hop512 A x)))
/-- The adjacency times 128 columns. -/
def hop128 (A : S4096x4096.Idx → EReal) (x : S4096x128.Idx → EReal) : S4096x128.Idx → EReal :=
  Host.dotGeneral (F := Ideal) (φ₁ := .f32) (φ₂ := .f32) dot_S4096x4096_S4096x128_S4096x128_1_0_0_1_n_n none A x
theorem hop128_at (A : S4096x4096.Idx → EReal) (x : S4096x128.Idx → EReal) (i : Fin 4096) (j : Fin 128) :
    hop128 A x (ix2 i j) = ∑ k, mat A i k * mat x k j := by
  pointwise [hop128]
  rfl
/-- The four powers of the adjacency applied to 128 columns, side by side. -/
def feats128 (A : S4096x4096.Idx → EReal) (x : S4096x128.Idx → EReal) : S4096x512.Idx → EReal :=
  fn_main_v12 (F := Ideal) x (hop128 A x) (hop128 A (hop128 A x)) (hop128 A (hop128 A (hop128 A x)))
/-- The dense layer from 2048 to 128 columns. -/
def lin2048 (x : S4096x2048.Idx → EReal) (w : S2048x128.Idx → EReal) (b : S128.Idx → EReal) : S4096x128.Idx → EReal :=
  addf (F := Ideal) (φ := .f32) (Host.dotGeneral (F := Ideal) (φ₁ := .f32) (φ₂ := .f32) dot_S4096x2048_S2048x128_S4096x128_1_0_0_1_n_n none x w) (broadcastInDim S4096x128 ![0, 1] bcast_S1x128_S4096x128_0_1 (broadcastInDim S1x128 ![1] bcast_S128_S1x128_1 b))
theorem lin2048_at (x : S4096x2048.Idx → EReal) (w : S2048x128.Idx → EReal) (b : S128.Idx → EReal) (i : Fin 4096) (j : Fin 128) :
    lin2048 x w b (ix2 i j) = lin (mat x i) (mat w) (vec b) j := by
  pointwise [lin2048]
  rfl
/-- The dense layer from 512 to 15 columns. -/
def lin512 (x : S4096x512.Idx → EReal) (w : S512x15.Idx → EReal) (b : S15.Idx → EReal) : S4096x15.Idx → EReal :=
  addf (F := Ideal) (φ := .f32) (Host.dotGeneral (F := Ideal) (φ₁ := .f32) (φ₂ := .f32) dot_S4096x512_S512x15_S4096x15_1_0_0_1_n_n none x w) (broadcastInDim S4096x15 ![0, 1] bcast_S1x15_S4096x15_0_1 (broadcastInDim S1x15 ![1] bcast_S15_S1x15_1 b))
theorem lin512_at (x : S4096x512.Idx → EReal) (w : S512x15.Idx → EReal) (b : S15.Idx → EReal) (i : Fin 4096) (j : Fin 15) :
    lin512 x w b (ix2 i j) = lin (mat x i) (mat w) (vec b) j := by
  pointwise [lin512]
  rfl
/-- The dense layer from 15 to 32 columns. -/
def linA (x : S4096x15.Idx → EReal) (w : S15x32.Idx → EReal) (b : S32.Idx → EReal) : S4096x32.Idx → EReal :=
  addf (F := Ideal) (φ := .f32) (Host.dotGeneral (F := Ideal) (φ₁ := .f32) (φ₂ := .f32) dot_S4096x15_S15x32_S4096x32_1_0_0_1_n_n none x w) (broadcastInDim S4096x32 ![0, 1] bcast_S1x32_S4096x32_0_1 (broadcastInDim S1x32 ![1] bcast_S32_S1x32_1 b))
theorem linA_at (x : S4096x15.Idx → EReal) (w : S15x32.Idx → EReal) (b : S32.Idx → EReal) (i : Fin 4096) (j : Fin 32) :
    linA x w b (ix2 i j) = lin (mat x i) (mat w) (vec b) j := by
  pointwise [linA]
  rfl
/-- The dense layer from 15 to 128 columns. -/
def linX1 (x : S4096x15.Idx → EReal) (w : S15x128.Idx → EReal) (b : S128.Idx → EReal) : S4096x128.Idx → EReal :=
  addf (F := Ideal) (φ := .f32) (Host.dotGeneral (F := Ideal) (φ₁ := .f32) (φ₂ := .f32) dot_S4096x15_S15x128_S4096x128_1_0_0_1_n_n none x w) (broadcastInDim S4096x128 ![0, 1] bcast_S1x128_S4096x128_0_1 (broadcastInDim S1x128 ![1] bcast_S128_S1x128_1 b))
theorem linX1_at (x : S4096x15.Idx → EReal) (w : S15x128.Idx → EReal) (b : S128.Idx → EReal) (i : Fin 4096) (j : Fin 128) :
    linX1 x w b (ix2 i j) = lin (mat x i) (mat w) (vec b) j := by
  pointwise [linX1]
  rfl
/-- The dense layer from 128 to 256 columns. -/
def linX2 (x : S4096x128.Idx → EReal) (w : S128x256.Idx → EReal) (b : S256.Idx → EReal) : S4096x256.Idx → EReal :=
  addf (F := Ideal) (φ := .f32) (Host.dotGeneral (F := Ideal) (φ₁ := .f32) (φ₂ := .f32) dot_S4096x128_S128x256_S4096x256_1_0_0_1_n_n none x w) (broadcastInDim S4096x256 ![0, 1] bcast_S1x256_S4096x256_0_1 (broadcastInDim S1x256 ![1] bcast_S256_S1x256_1 b))
theorem linX2_at (x : S4096x128.Idx → EReal) (w : S128x256.Idx → EReal) (b : S256.Idx → EReal) (i : Fin 4096) (j : Fin 256) :
    linX2 x w b (ix2 i j) = lin (mat x i) (mat w) (vec b) j := by
  pointwise [linX2]
  rfl
/-- The dense layer from 256 to 512 columns. -/
def linX3 (x : S4096x256.Idx → EReal) (w : S256x512.Idx → EReal) (b : S512.Idx → EReal) : S4096x512.Idx → EReal :=
  addf (F := Ideal) (φ := .f32) (Host.dotGeneral (F := Ideal) (φ₁ := .f32) (φ₂ := .f32) dot_S4096x256_S256x512_S4096x512_1_0_0_1_n_n none x w) (broadcastInDim S4096x512 ![0, 1] bcast_S1x512_S4096x512_0_1 (broadcastInDim S1x512 ![1] bcast_S512_S1x512_1 b))
theorem linX3_at (x : S4096x256.Idx → EReal) (w : S256x512.Idx → EReal) (b : S512.Idx → EReal) (i : Fin 4096) (j : Fin 512) :
    linX3 x w b (ix2 i j) = lin (mat x i) (mat w) (vec b) j := by
  pointwise [linX3]
  rfl
/-- The dense layer from 512 to 512 columns. -/
def linH (x : S4096x512.Idx → EReal) (w : S512x512.Idx → EReal) (b : S512.Idx → EReal) : S4096x512.Idx → EReal :=
  addf (F := Ideal) (φ := .f32) (Host.dotGeneral (F := Ideal) (φ₁ := .f32) (φ₂ := .f32) dot_S4096x512_S512x512_S4096x512_1_0_0_1_n_n none x w) (broadcastInDim S4096x512 ![0, 1] bcast_S1x512_S4096x512_0_1 (broadcastInDim S1x512 ![1] bcast_S512_S1x512_1 b))
theorem linH_at (x : S4096x512.Idx → EReal) (w : S512x512.Idx → EReal) (b : S512.Idx → EReal) (i : Fin 4096) (j : Fin 512) :
    linH x w b (ix2 i j) = lin (mat x i) (mat w) (vec b) j := by
  pointwise [linH]
  rfl
/-- The positive part on 128 columns. -/
def pos128 (x : S4096x128.Idx → EReal) : S4096x128.Idx → EReal :=
  maximumf (F := Ideal) (φ := .f32) x (broadcastInDim S4096x128 ![] bcast_S_S4096x128 (constant (F := Ideal) S_ .f32 0x00000000#32))
theorem pos128_at (x : S4096x128.Idx → EReal) (i : Fin 4096) (j : Fin 128) : pos128 x (ix2 i j) = relu (mat x i) j := by
  pointwise [pos128]
  rfl
/-- The positive part on 256 columns. -/
def pos256 (x : S4096x256.Idx → EReal) : S4096x256.Idx → EReal :=
  maximumf (F := Ideal) (φ := .f32) x (broadcastInDim S4096x256 ![] bcast_S_S4096x256 (constant (F := Ideal) S_ .f32 0x00000000#32))
theorem pos256_at (x : S4096x256.Idx → EReal) (i : Fin 4096) (j : Fin 256) : pos256 x (ix2 i j) = relu (mat x i) j := by
  pointwise [pos256]
  rfl
/-- The positive part on 512 columns. -/
def pos512 (x : S4096x512.Idx → EReal) : S4096x512.Idx → EReal :=
  maximumf (F := Ideal) (φ := .f32) x (broadcastInDim S4096x512 ![] bcast_S_S4096x512 (constant (F := Ideal) S_ .f32 0x00000000#32))
theorem pos512_at (x : S4096x512.Idx → EReal) (i : Fin 4096) (j : Fin 512) : pos512 x (ix2 i j) = relu (mat x i) j := by
  pointwise [pos512]
  rfl
/-- The encoder. -/
def zR (A : S4096x4096.Idx → EReal) (X : S4096x512.Idx → EReal) (w1 : S2048x128.Idx → EReal) (b1 : S128.Idx → EReal) (w2 : S512x15.Idx → EReal) (b2 : S15.Idx → EReal) : S4096x15.Idx → EReal :=
  lin512 (feats128 A (pos128 (lin2048 (feats512 A X) w1 b1))) w2 b2
/-- One over one plus the exponential of the negation, on the adjacency's shape. -/
def sigA (x : S4096x4096.Idx → EReal) : S4096x4096.Idx → EReal :=
  Host.divf (F := Ideal) (φ := .f32) (broadcastInDim S4096x4096 ![] bcast_S_S4096x4096 (constant (F := Ideal) S_ .f32 0x3F800000#32)) (addf (F := Ideal) (φ := .f32) (broadcastInDim S4096x4096 ![] bcast_S_S4096x4096 (constant (F := Ideal) S_ .f32 0x3F800000#32)) (Host.exp (F := Ideal) (φ := .f32) (Host.negf (F := Ideal) (φ := .f32) x)))
/-- The same on a head's shape. -/
def sigH (x : S4096x512.Idx → EReal) : S4096x512.Idx → EReal :=
  Host.divf (F := Ideal) (φ := .f32) (broadcastInDim S4096x512 ![] bcast_S_S4096x512 (constant (F := Ideal) S_ .f32 0x3F800000#32)) (addf (F := Ideal) (φ := .f32) (broadcastInDim S4096x512 ![] bcast_S_S4096x512 (constant (F := Ideal) S_ .f32 0x3F800000#32)) (Host.exp (F := Ideal) (φ := .f32) (Host.negf (F := Ideal) (φ := .f32) x)))
theorem sigA_at (x : S4096x4096.Idx → EReal) (i j : Fin 4096) : sigA x (ix2 i j) = Ideal.logistic (x (ix2 i j)) := by
  pointwise [sigA]
  rfl
theorem sigH_at (x : S4096x512.Idx → EReal) (i : Fin 4096) (j : Fin 512) : sigH x (ix2 i j) = Ideal.logistic (x (ix2 i j)) := by
  pointwise [sigH]
  rfl
/-- The bilinear form of the rows. -/
def bilA (x : S4096x32.Idx → EReal) (w : S32x32.Idx → EReal) : S4096x4096.Idx → EReal :=
  Host.dotGeneral (F := Ideal) (φ₁ := .f32) (φ₂ := .f32) dot_S4096x32_S32x4096_S4096x4096_1_0_0_1_n_n none (Host.dotGeneral (F := Ideal) (φ₁ := .f32) (φ₂ := .f32) dot_S4096x32_S32x32_S4096x32_1_0_0_1_n_n none x w) (transpose S32x4096 [1, 0] x transposes_S4096x32_S32x4096_1_0)
theorem bilA_at (x : S4096x32.Idx → EReal) (w : S32x32.Idx → EReal) (i j : Fin 4096) : bilA x w (ix2 i j) = bil (mat x i) (mat x j) (mat w) := by
  pointwise [bilA]
  rfl
/-- The clipped softplus. -/
def softR (t : S4096x512.Idx → EReal) : S4096x512.Idx → EReal :=
  minimumf (F := Ideal) (φ := .f32) (broadcastInDim S4096x512 ![] bcast_S_S4096x512 (id (constant (F := Ideal) S_ .f32 0x461C4000#32))) (maximumf (F := Ideal) (φ := .f32) (broadcastInDim S4096x512 ![] bcast_S_S4096x512 (id (constant (F := Ideal) S_ .f32 0x38D1B717#32))) (select (cmpf (F := Ideal) (φ := .f32) .une (subf (F := Ideal) (φ := .f32) t (broadcastInDim S4096x512 ![] bcast_S_S4096x512 (constant (F := Ideal) S_ .f32 0x00000000#32))) (subf (F := Ideal) (φ := .f32) t (broadcastInDim S4096x512 ![] bcast_S_S4096x512 (constant (F := Ideal) S_ .f32 0x00000000#32)))) (addf (F := Ideal) (φ := .f32) t (broadcastInDim S4096x512 ![] bcast_S_S4096x512 (constant (F := Ideal) S_ .f32 0x00000000#32))) (addf (F := Ideal) (φ := .f32) (maximumf (F := Ideal) (φ := .f32) t (broadcastInDim S4096x512 ![] bcast_S_S4096x512 (constant (F := Ideal) S_ .f32 0x00000000#32))) (Host.log1p (F := Ideal) (φ := .f32) (Host.exp (F := Ideal) (φ := .f32) (Host.negf (F := Ideal) (φ := .f32) (Host.absf (F := Ideal) (φ := .f32) (subf (F := Ideal) (φ := .f32) t (broadcastInDim S4096x512 ![] bcast_S_S4096x512 (constant (F := Ideal) S_ .f32 0x00000000#32))))))))))
theorem softR_at (t : S4096x512.Idx → EReal) (i : Fin 4096) (j : Fin 512) : softR t (ix2 i j) = dispF (t (ix2 i j)) := by
  pointwise [softR]
  rw [if_neg (not_not.mpr rfl)]
  unfold dispF
  rw [zero_sub]
  rfl
/-- The clipped exponential. -/
def meanR (t : S4096x512.Idx → EReal) : S4096x512.Idx → EReal :=
  minimumf (F := Ideal) (φ := .f32) (broadcastInDim S4096x512 ![] bcast_S_S4096x512 (id (constant (F := Ideal) S_ .f32 0x49742400#32))) (maximumf (F := Ideal) (φ := .f32) (broadcastInDim S4096x512 ![] bcast_S_S4096x512 (id (constant (F := Ideal) S_ .f32 0x3727C5AC#32))) (Host.exp (F := Ideal) (φ := .f32) t))
theorem meanR_at (t : S4096x512.Idx → EReal) (i : Fin 4096) (j : Fin 512) : meanR t (ix2 i j) = meanF (t (ix2 i j)) := by
  pointwise [meanR]
  rfl
/-- The hidden rows of the second decoder. -/
def hidR (z : S4096x15.Idx → EReal) (w1 : S15x128.Idx → EReal) (b1 : S128.Idx → EReal) (w2 : S128x256.Idx → EReal) (b2 : S256.Idx → EReal) (w3 : S256x512.Idx → EReal) (b3 : S512.Idx → EReal) : S4096x512.Idx → EReal :=
  pos512 (linX3 (pos256 (linX2 (pos128 (linX1 z w1 b1)) w2 b2)) w3 b3)
theorem hidR_at (z : S4096x15.Idx → EReal) (w1 : S15x128.Idx → EReal) (b1 : S128.Idx → EReal) (w2 : S128x256.Idx → EReal) (b2 : S256.Idx → EReal) (w3 : S256x512.Idx → EReal) (b3 : S512.Idx → EReal) (i : Fin 4096) :
    mat (hidR z w1 b1 w2 b2 w3 b3) i = hidden (mat z i) (mat w1) (vec b1) (mat w2) (vec b2) (mat w3) (vec b3) := by
  have e1 : mat (pos128 (linX1 z w1 b1)) i = relu (lin (mat z i) (mat w1) (vec b1)) := by
    funext j; exact (pos128_at _ i j).trans (congrArg (fun f => relu f j) (funext fun k => linX1_at z w1 b1 i k))
  have e2 : mat (pos256 (linX2 (pos128 (linX1 z w1 b1)) w2 b2)) i = relu (lin (relu (lin (mat z i) (mat w1) (vec b1))) (mat w2) (vec b2)) := by
    funext j; exact (pos256_at _ i j).trans (congrArg (fun f => relu f j) (funext fun k => (linX2_at _ w2 b2 i k).trans (by rw [e1])))
  funext j
  exact (pos512_at _ i j).trans (congrArg (fun f => relu f j) (funext fun k => (linX3_at _ w3 b3 i k).trans (by rw [e2])))
/-- The unnormalised cluster weights. -/
def studR (z : S4096x15.Idx → EReal) (mu : S15x15.Idx → EReal) : S4096x15.Idx → EReal :=
  Host.divf (F := Ideal) (φ := .f32) (broadcastInDim S4096x15 ![] bcast_S_S4096x15 (constant (F := Ideal) S_ .f32 0x3F800000#32)) (addf (F := Ideal) (φ := .f32) (broadcastInDim S4096x15 ![] bcast_S_S4096x15 (constant (F := Ideal) S_ .f32 0x3F800000#32)) (Host.reduceAdd (F := Ideal) (φ := .f32) (mulf (F := Ideal) (φ := .f32) (subf (F := Ideal) (φ := .f32) (broadcastInDim S4096x15x15 ![0, 1, 2] bcast_S4096x1x15_S4096x15x15_0_1_2 (broadcastInDim S4096x1x15 ![0, 2] bcast_S4096x15_S4096x1x15_0_2 z)) (broadcastInDim S4096x15x15 ![0, 1, 2] bcast_S1x15x15_S4096x15x15_0_1_2 (broadcastInDim S1x15x15 ![1, 2] bcast_S15x15_S1x15x15_1_2 mu))) (subf (F := Ideal) (φ := .f32) (broadcastInDim S4096x15x15 ![0, 1, 2] bcast_S4096x1x15_S4096x15x15_0_1_2 (broadcastInDim S4096x1x15 ![0, 2] bcast_S4096x15_S4096x1x15_0_2 z)) (broadcastInDim S4096x15x15 ![0, 1, 2] bcast_S1x15x15_S4096x15x15_0_1_2 (broadcastInDim S1x15x15 ![1, 2] bcast_S15x15_S1x15x15_1_2 mu)))) (constant (F := Ideal) S_ .f32 0x00000000#32) reducesTo_S4096x15x15_S4096x15_d2 h_S_))
theorem studR_at (z : S4096x15.Idx → EReal) (mu : S15x15.Idx → EReal) (i : Fin 4096) (j : Fin 15) :
    studR z mu (ix2 i j) = Ideal.div 1 (1 + ∑ x, (mat z i x - mat mu j x) * (mat z i x - mat mu j x)) := by
  pointwise [studR]
  rfl
/-- The cluster weights. -/
def qR (z : S4096x15.Idx → EReal) (mu : S15x15.Idx → EReal) : S4096x15.Idx → EReal :=
  Host.divf (F := Ideal) (φ := .f32) (studR z mu) (broadcastInDim S4096x15 ![0, 1] bcast_S4096x1_S4096x15_0_1 (broadcastInDim S4096x1 ![0] bcast_S4096_S4096x1_0 (Host.reduceAdd (F := Ideal) (φ := .f32) (studR z mu) (constant (F := Ideal) S_ .f32 0x00000000#32) reducesTo_S4096x15_S4096_d1 h_S_)))
theorem qR_at (z : S4096x15.Idx → EReal) (mu : S15x15.Idx → EReal) (i : Fin 4096) (j : Fin 15) :
    qR z mu (ix2 i j) = Ideal.div (mat (studR z mu) i j) (∑ x, mat (studR z mu) i x) := by
  unfold qR
  generalize studR z mu = s
  pointwise
  rfl

end Cert.ReferenceIdeal.Val
-- ==== Proof.Val.Pay.lean ====
/-
  What the encoder's vector expressions compute over the reals, one lemma per expression, for operands all of whose
  elements are real numbers.
-/
module

public import proofs.«01_k».proof.Proof.Gen.KernelIdeal.Skeleton
public import Idealize.ShloMosaic.Lib.Pointwise
public import Idealize.ShloMosaic.Lib.ValueIdx

@[expose] public section

set_option maxRecDepth 16384

noncomputable section

namespace Cert.KernelIdeal.Val

open Cert.KernelIdeal Cert.KernelIdeal.Gen
open Idealize.ShloMosaic Idealize.ShloMosaic.TcCoe Idealize.SL.Sem

/-- A sum of real numbers is the same taken over the extended reals. -/
theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

/-- The larger of a real number and zero is the same taken over the extended reals. -/
theorem coe_relu (a : ℝ) : max (a : EReal) 0 = ((max a 0 : ℝ) : EReal) :=
  (EReal.coe_strictMono.monotone.map_max (a := a) (b := 0)).symm

section Rows

variable {v6 : Vec Ideal S1024x4096 .bf16} {v9 : Vec Ideal S1024x128 .f32} {v10 : Vec Ideal S1024x384 .f32}
  {b : Fin 1024 → Fin 4096 → ℝ} {d : Fin 1024 → ℝ} {g : Fin 1024 → Fin 384 → ℝ}
  (hb : ∀ i k, v6 (ix2 i k) = (b i k : EReal)) (hd : ∀ i j, v9 (ix2 i j) = (d i : EReal)) (hg : ∀ i j, v10 (ix2 i j) = (g i j : EReal))

include hb hd hg

/-- One 128-wide propagation step on 1024 rows, from the third column group of `g`. -/
theorem pay10_real {v7 : Vec Ideal S4096x128 .bf16} {u : Fin 4096 → Fin 128 → ℝ} (hu : ∀ k j, v7 (ix2 k j) = (u k j : EReal))
    (i : Fin 1024) (j : Fin 128) :
    k0_pay10 (F := Ideal) v6 v7 v9 v10 (ix2 i j)
      = ((d i * (g i ⟨256 + j.val, by omega⟩ + d i * ∑ k, b i k * u k j) : ℝ) : EReal) := by
  pointwise [k0_pay10]
  simp only [hb, hd, hg, hu, ← EReal.coe_mul, ← EReal.coe_add, coe_sum, zero_add]

/-- One 128-wide propagation step on 1024 rows, from the second column group of `g`. -/
theorem pay17_real {v7 : Vec Ideal S4096x128 .bf16} {u : Fin 4096 → Fin 128 → ℝ} (hu : ∀ k j, v7 (ix2 k j) = (u k j : EReal))
    (i : Fin 1024) (j : Fin 128) :
    k0_pay17 (F := Ideal) v6 v7 v9 v10 (ix2 i j)
      = ((d i * (g i ⟨128 + j.val, by omega⟩ + d i * ∑ k, b i k * u k j) : ℝ) : EReal) := by
  pointwise [k0_pay17]
  simp only [hb, hd, hg, hu, ← EReal.coe_mul, ← EReal.coe_add, coe_sum, zero_add]

/-- The first layer's last step with its rectifier, followed by the second layer's product and bias, on 1024 rows. -/
theorem pay20_real {v7 : Vec Ideal S4096x128 .bf16} {u : Fin 4096 → Fin 128 → ℝ} (hu : ∀ k j, v7 (ix2 k j) = (u k j : EReal))
    {w : Vec Ideal S128x64 .f32} {β : Vec Ideal S64 .f32} {w2 : Fin 128 → Fin 64 → ℝ} {b2 : Fin 64 → ℝ} {γ : Fin 64 → EReal}
    (hw : ∀ k j, w (ix2 k j) = (w2 k j : EReal)) (hβ : ∀ j, β (ix1 j) = (b2 j : EReal) + γ j) (i : Fin 1024) (j : Fin 64) :
    k0_pay20 (F := Ideal) v6 v7 v9 v10 w β (ix2 i j)
      = ((∑ l : Fin 128, max (g i ⟨l.val, by omega⟩ + d i * ∑ k, b i k * u k l) 0 * w2 l j + b2 j : ℝ) : EReal) + γ j := by
  pointwise [k0_pay20]
  rw [hβ, ← add_assoc]
  refine congrArg (· + γ j) ?_
  simp only [hb, hd, hg, hu, hw, ← EReal.coe_mul, ← EReal.coe_add, coe_sum, zero_add]
  simp only [coe_relu, ← EReal.coe_mul, ← EReal.coe_add, coe_sum]

end Rows

/-- A 16-wide real array beside 16 columns of zeros: the array and its rounding error, in exact arithmetic. -/
def hilo {n : ℕ} (u : Fin n → Fin 16 → ℝ) (k : Fin n) (j : Fin 32) : ℝ := if h : j.val < 16 then u k ⟨j.val, h⟩ else 0

/-- Storing a real array and its rounding error: in exact arithmetic the error is zero. -/
theorem pay24_real {x y : FVec Ideal S1024x16 .f32} {a a' : Fin 1024 → Fin 16 → ℝ} (hx : ∀ i j, x (ix2 i j) = (a i j : EReal))
    (hy : ∀ i j, y (ix2 i j) = (a' i j : EReal)) (i : Fin 1024) (j : Fin 32) :
    k0_pay24 (F := Ideal) x y (ix2 i j) = ((hilo (fun i j => a i j * a' i j) i j : ℝ) : EReal) := by
  pointwise [k0_pay24]
  unfold hilo
  by_cases h : j.val < 16
  · simp only [dif_pos h, hx, hy, ← EReal.coe_mul]
  · simp only [dif_neg h, hx, hy, ← EReal.coe_mul, ← EReal.coe_sub, sub_self]

section Narrow

variable {v6 : Vec Ideal S1024x4096 .bf16} {v7 : Vec Ideal S4096x32 .bf16} {v9 : Vec Ideal S1024x128 .f32} {v10 : Vec Ideal S1024x64 .f32}
  {b : Fin 1024 → Fin 4096 → ℝ} {d : Fin 1024 → ℝ} {g : Fin 1024 → Fin 64 → ℝ} {u : Fin 4096 → Fin 16 → ℝ} {γ : Fin 64 → EReal}
  (hb : ∀ i k, v6 (ix2 i k) = (b i k : EReal)) (hd : ∀ i j, v9 (ix2 i j) = (d i : EReal)) (hg : ∀ i j, v10 (ix2 i j) = (g i j : EReal) + γ j)
  (hγ : ∀ j : Fin 64, 16 ≤ j.val → γ j = 0)
  (hu : ∀ k j, v7 (ix2 k j) = ((hilo u k j : ℝ) : EReal))

/-- The sum of the array's and the error's product with a row of `b` is the array's. -/
theorem two_sums (hb : ∀ i k, v6 (ix2 i k) = (b i k : EReal)) (hu : ∀ k j, v7 (ix2 k j) = ((hilo u k j : ℝ) : EReal))
    (i : Fin 1024) (j : Fin 32) (j' : Fin 32) (h : j.val < 16) (h' : ¬ j'.val < 16) :
    ∑ x, v6 (ix2 i x) * v7 (ix2 x j) + ∑ x, v6 (ix2 i x) * v7 (ix2 x j') = ((∑ k, b i k * u k ⟨j.val, h⟩ : ℝ) : EReal) := by
  simp only [hb, hu, hilo, dif_pos h, dif_neg h', ← EReal.coe_mul, ← EReal.coe_add, coe_sum, mul_zero, Finset.sum_const_zero, add_zero]

include hg

include hγ in
/-- Beyond the first column group `v10` is real. -/
theorem g_real (i : Fin 1024) (j : Fin 64) (h : 16 ≤ j.val) : v10 (ix2 i j) = (g i j : EReal) := by
  rw [hg, hγ j h, add_zero]

include hb hd hu

include hγ in
/-- One 16-wide propagation step on 1024 rows, from the third column group of `g`. -/
theorem pay37_real (i : Fin 1024) (j : Fin 32) :
    k0_pay37 (F := Ideal) v6 v7 v9 v10 (ix2 i j)
      = ((hilo (fun i (j : Fin 16) => d i * (g i ⟨32 + j.val, by omega⟩ + d i * ∑ k, b i k * u k j)) i j : ℝ) : EReal) := by
  pointwise [k0_pay37]
  unfold hilo
  by_cases h : j.val < 16
  · simp only [dif_pos h]
    rw [two_sums hb hu i j ⟨16 + j.val, by omega⟩ h (by show ¬ 16 + j.val < 16; omega), hd, g_real hg hγ i ⟨32 + j.val, by omega⟩ (by show 16 ≤ 32 + j.val; omega), ← EReal.coe_mul, ← EReal.coe_add, ← EReal.coe_mul]
  · simp only [dif_neg h]
    rw [two_sums hb hu i ⟨j.val - 16, by omega⟩ ⟨16 + (j.val - 16), by omega⟩ (by show j.val - 16 < 16; omega) (by show ¬ 16 + (j.val - 16) < 16; omega), hd, g_real hg hγ i ⟨32 + (j.val - 16), by omega⟩ (by show 16 ≤ 32 + (j.val - 16); omega), ← EReal.coe_mul,
      ← EReal.coe_add, ← EReal.coe_mul, ← EReal.coe_sub, sub_self]

include hγ in
/-- One 16-wide propagation step on 1024 rows, from the second column group of `g`. -/
theorem pay40_real (i : Fin 1024) (j : Fin 32) :
    k0_pay40 (F := Ideal) v6 v7 v9 v10 (ix2 i j)
      = ((hilo (fun i (j : Fin 16) => d i * (g i ⟨16 + j.val, by omega⟩ + d i * ∑ k, b i k * u k j)) i j : ℝ) : EReal) := by
  pointwise [k0_pay40]
  unfold hilo
  by_cases h : j.val < 16
  · simp only [dif_pos h]
    rw [two_sums hb hu i j ⟨16 + j.val, by omega⟩ h (by show ¬ 16 + j.val < 16; omega), hd, g_real hg hγ i ⟨16 + j.val, by omega⟩ (by show 16 ≤ 16 + j.val; omega), ← EReal.coe_mul, ← EReal.coe_add, ← EReal.coe_mul]
  · simp only [dif_neg h]
    rw [two_sums hb hu i ⟨j.val - 16, by omega⟩ ⟨16 + (j.val - 16), by omega⟩ (by show j.val - 16 < 16; omega) (by show ¬ 16 + (j.val - 16) < 16; omega), hd, g_real hg hγ i ⟨16 + (j.val - 16), by omega⟩ (by show 16 ≤ 16 + (j.val - 16); omega), ← EReal.coe_mul,
      ← EReal.coe_add, ← EReal.coe_mul, ← EReal.coe_sub, sub_self]

/-- The last 16-wide step on 1024 rows: the encoder's output. -/
theorem pay47_real (i : Fin 1024) (j : Fin 16) :
    k0_pay47 (F := Ideal) v6 v7 v10 v9 (ix2 i j)
      = ((g i ⟨j.val, by omega⟩ + d i * ∑ k, b i k * u k j : ℝ) : EReal) + γ ⟨j.val, by omega⟩ := by
  pointwise [k0_pay47]
  rw [two_sums hb hu i ⟨j.val, by omega⟩ ⟨16 + j.val, by omega⟩ j.isLt (by show ¬ 16 + j.val < 16; omega), hd, hg, ← EReal.coe_mul, add_right_comm, ← EReal.coe_add]

end Narrow

/-! ## The other chunks' expressions are the same -/

theorem pay11_eq : @k0_pay11 Ideal _ = @k0_pay10 Ideal _ := rfl
theorem pay13_eq (v6 : Vec Ideal S1024x4096 .bf16) (v7 : Vec Ideal S4096x128 .bf16) (v9 : Vec Ideal S1024x128 .f32) (v10 : Vec Ideal S1024x384 .f32) :
    k0_pay13 (k0_pay12 v6 v7) v9 v10 = k0_pay10 v6 v7 v9 v10 := rfl
theorem pay14_eq : @k0_pay14 Ideal _ = @k0_pay10 Ideal _ := rfl
theorem pay16_eq (v6 : Vec Ideal S1024x4096 .bf16) (v7 : Vec Ideal S4096x128 .bf16) (v9 : Vec Ideal S1024x128 .f32) (v10 : Vec Ideal S1024x384 .f32) :
    k0_pay16 (k0_pay15 v6 v7 v9 v10) = k0_pay17 v6 v7 v9 v10 := rfl
theorem pay18_eq : @k0_pay18 Ideal _ = @k0_pay17 Ideal _ := rfl
theorem pay19_eq : @k0_pay19 Ideal _ = @k0_pay17 Ideal _ := rfl
theorem pay21_eq (v6 : Vec Ideal S1024x4096 .bf16) (v7 : Vec Ideal S4096x128 .bf16) (v9 : Vec Ideal S1024x128 .f32) (v10 : Vec Ideal S1024x384 .f32)
    (w : Vec Ideal S128x64 .f32) (β : Vec Ideal S64 .f32) : k0_pay21 v6 v7 v9 v10 w β = k0_pay20 v6 v7 v9 v10 w β := by
  funext x; idx_vars x; pointwise [k0_pay21]
theorem pay26_eq : @k0_pay26 Ideal _ = @k0_pay21 Ideal _ := rfl
theorem pay30_eq : @k0_pay30 Ideal _ = @k0_pay21 Ideal _ := rfl
theorem pay33_eq : @k0_pay33 Ideal _ = @k0_pay21 Ideal _ := rfl
theorem pay28_eq (v6 : Vec Ideal S1024x4096 .bf16) (v7 : Vec Ideal S4096x128 .bf16) (v9 : Vec Ideal S1024x128 .f32) (v10 : Vec Ideal S1024x384 .f32)
    (w : Vec Ideal S128x64 .f32) (β : Vec Ideal S64 .f32) : k0_pay28 (k0_pay27 v6 v7 v9 v10 w β) = k0_pay24 (k0_pay22 v9) (k0_pay23 v6 v7 v9 v10 w β) := rfl
theorem pay31_eq (v6 : Vec Ideal S1024x4096 .bf16) (v7 : Vec Ideal S4096x128 .bf16) (v9 : Vec Ideal S1024x128 .f32) (v10 : Vec Ideal S1024x384 .f32)
    (w : Vec Ideal S128x64 .f32) (β : Vec Ideal S64 .f32) : k0_pay31 v6 v7 v9 v10 w β = k0_pay24 (k0_pay22 v9) (k0_pay23 v6 v7 v9 v10 w β) := rfl
theorem pay34_eq (v6 : Vec Ideal S1024x4096 .bf16) (v7 : Vec Ideal S4096x128 .bf16) (v9 : Vec Ideal S1024x128 .f32) (v10 : Vec Ideal S1024x384 .f32)
    (w : Vec Ideal S128x64 .f32) (β : Vec Ideal S64 .f32) : k0_pay34 v6 v7 v9 v10 w β = k0_pay24 (k0_pay22 v9) (k0_pay23 v6 v7 v9 v10 w β) := rfl
theorem pay36_eq (v6 : Vec Ideal S1024x4096 .bf16) (v7 : Vec Ideal S4096x32 .bf16) (v9 : Vec Ideal S1024x128 .f32) (v10 : Vec Ideal S1024x64 .f32) :
    k0_pay36 (k0_pay35 v6 v7) v9 v10 = k0_pay37 v6 v7 v9 v10 := rfl
theorem pay38_eq : @k0_pay38 Ideal _ = @k0_pay37 Ideal _ := rfl
theorem pay39_eq : @k0_pay39 Ideal _ = @k0_pay37 Ideal _ := rfl
theorem pay42_eq (v6 : Vec Ideal S1024x4096 .bf16) (v7 : Vec Ideal S4096x32 .bf16) (v9 : Vec Ideal S1024x128 .f32) (v10 : Vec Ideal S1024x64 .f32) :
    k0_pay42 (k0_pay41 v6 v7 v9 v10) = k0_pay40 v6 v7 v9 v10 := rfl
theorem pay43_eq : @k0_pay43 Ideal _ = @k0_pay40 Ideal _ := rfl
theorem pay46_eq (v6 : Vec Ideal S1024x4096 .bf16) (v7 : Vec Ideal S4096x32 .bf16) (v9 : Vec Ideal S1024x128 .f32) (v10 : Vec Ideal S1024x64 .f32) :
    k0_pay46 (k0_pay44 v9) (k0_pay45 v6 v7 v9 v10) = k0_pay40 v6 v7 v9 v10 := rfl
theorem pay48_eq : @k0_pay48 Ideal _ = @k0_pay47 Ideal _ := rfl
theorem pay49_eq : @k0_pay49 Ideal _ = @k0_pay47 Ideal _ := rfl
theorem pay50_eq : @k0_pay50 Ideal _ = @k0_pay47 Ideal _ := rfl

end Cert.KernelIdeal.Val

end
-- ==== Proof.Val.Steps.lean ====
/-
  The encoder's propagation steps over the reals: if the mask, the scaling, the first layer's products and the second
  layer's weights are real arrays, what every buffer of the last grid point holds, stage by stage.
-/
module

public import proofs.«01_k».proof.Proof.Enc.Hops
public import proofs.«01_k».proof.Proof.Val.Pay
public import Idealize.ShloMosaic.Lib.Pipeline.Value
public import Idealize.ShloMosaic.Lib.Pipeline.CanonAppend

@[expose] public section

set_option maxRecDepth 16384

noncomputable section

namespace Cert.KernelIdeal.Val

open Cert.KernelIdeal Cert.KernelIdeal.Gen Cert.KernelIdeal.Enc
open Idealize.ShloMosaic Idealize.ShloMosaic.TcCoe Idealize.SL.Sem

/-! ## Rectangles of whole rows -/

/-- Where a rectangle at rows from `o` and columns from `c` puts its element `(i, j)`. -/
theorem emb_at {n m r k o c : ℕ} (inb : ∀ a : Fin 2, (![o, c] : Fin 2 → ℕ) a + (![r, k] : Fin 2 → ℕ) a ≤ (![n, m] : Fin 2 → ℕ) a) (i : Fin r) (j : Fin k) :
    (Rect.unit (s := ⟨2, ![n, m]⟩) ![o, c] ![r, k] inb).emb (ix2 i j)
      = ix2 ⟨o + i.val, by have h : o + r ≤ n := inb 0; omega⟩ ⟨c + j.val, by have h : c + k ≤ m := inb 1; omega⟩ := by
  funext a
  match a with
  | ⟨0, _⟩ => exact Fin.ext (by show o + 1 * i.val = o + i.val; omega)
  | ⟨1, _⟩ => exact Fin.ext (by show c + 1 * j.val = c + j.val; omega)

/-- The same of a load's rectangle. -/
theorem idx_at {n m r k o c : ℕ} (inb : ∀ a : Fin 2, (![o, c] : Fin 2 → ℕ) a + (![r, k] : Fin 2 → ℕ) a ≤ (![n, m] : Fin 2 → ℕ) a) (i : Fin r) (j : Fin k) :
    (Rect.unit (s := ⟨2, ![n, m]⟩) ![o, c] ![r, k] inb).toLoadRect.idx (ix2 i j)
      = ix2 ⟨o + i.val, by have h : o + r ≤ n := inb 0; omega⟩ ⟨c + j.val, by have h : c + k ≤ m := inb 1; omega⟩ :=
  emb_at inb i j

/-- A load of a buffer that holds `X`, at the element `(i, j)` of its rectangle. -/
theorem load_at {sp : Space} {e : EltTy} {n m r k o c : ℕ} (v : View sig .tc sp ⟨2, ![n, m]⟩ e) (X : (⟨2, ![n, m]⟩ : Shape).Idx → Elt Ideal e)
    (inb : ∀ a : Fin 2, (![o, c] : Fin 2 → ℕ) a + (![r, k] : Fin 2 → ℕ) a ≤ (![n, m] : Fin 2 → ℕ) a) (i : Fin r) (j : Fin k) :
    v.readAt (Elt Ideal) (Rect.unit (s := ⟨2, ![n, m]⟩) ![o, c] ![r, k] inb).toLoadRect (v.rep X) (ix2 i j)
      = X (ix2 ⟨o + i.val, by have h : o + r ≤ n := inb 0; omega⟩ ⟨c + j.val, by have h : c + k ≤ m := inb 1; omega⟩) := by
  rw [View.readAt_rep]; exact congrArg X (idx_at inb i j)

/-- A load of a buffer through its written pieces, at the element `(i, j)` of its rectangle. -/
theorem cov_at {sp : Space} {e : EltTy} {n m r k o c : ℕ} (v : View sig .tc sp ⟨2, ![n, m]⟩ e) (L : List (View.Piece (Elt Ideal) ⟨2, ![n, m]⟩ e))
    (inb : ∀ a : Fin 2, (![o, c] : Fin 2 → ℕ) a + (![r, k] : Fin 2 → ℕ) a ≤ (![n, m] : Fin 2 → ℕ) a) (i : Fin r) (j : Fin k) :
    v.readCov L (Rect.unit (s := ⟨2, ![n, m]⟩) ![o, c] ![r, k] inb).toLoadRect (ix2 i j)
      = View.canon L (ix2 ⟨o + i.val, by have h : o + r ≤ n := inb 0; omega⟩ ⟨c + j.val, by have h : c + k ≤ m := inb 1; omega⟩) := by
  rw [View.readCov_eq_canon']; exact congrArg (View.canon L) (idx_at inb i j)

/-! ## The stages' real arrays -/

variable (b : Fin 4096 → Fin 4096 → ℝ) (d : Fin 4096 → ℝ) (g : Fin 4096 → Fin 384 → ℝ) (u : Fin 4096 → Fin 128 → ℝ)
  (w2 : Fin 128 → Fin 64 → ℝ) (b2 : Fin 64 → ℝ)

/-- After the first step. -/
def rUB (i : Fin 4096) (j : Fin 128) : ℝ := d i * (g i ⟨256 + j.val, by omega⟩ + d i * ∑ k, b i k * u k j)
/-- After the second step. -/
def rUA (i : Fin 4096) (j : Fin 128) : ℝ := d i * (g i ⟨128 + j.val, by omega⟩ + d i * ∑ k, b i k * rUB b d g u k j)
/-- The second layer's products after the rectified last step from `s`. -/
def rP (s : Fin 4096 → Fin 128 → ℝ) (i : Fin 4096) (j : Fin 64) : ℝ :=
  ∑ l : Fin 128, max (g i ⟨l.val, by omega⟩ + d i * ∑ k, b i k * s k l) 0 * w2 l j + b2 j

/-- The second layer's products, its four column groups side by side. -/
def rG2 : Fin 4096 → Fin 64 → ℝ := rP b d g w2 b2 (rUA b d g u)
/-- The second layer's last column group, scaled. -/
def rU3 (i : Fin 4096) (j : Fin 16) : ℝ := d i * rG2 b d g u w2 b2 i ⟨48 + j.val, by omega⟩
/-- After the second layer's first step. -/
def rU2 (i : Fin 4096) (j : Fin 16) : ℝ := d i * (rG2 b d g u w2 b2 i ⟨32 + j.val, by omega⟩ + d i * ∑ k, b i k * rU3 b d g u w2 b2 k j)
/-- After the second layer's second step. -/
def rU1 (i : Fin 4096) (j : Fin 16) : ℝ := d i * (rG2 b d g u w2 b2 i ⟨16 + j.val, by omega⟩ + d i * ∑ k, b i k * rU2 b d g u w2 b2 k j)
/-- The encoder's output. -/
def rZ (i : Fin 4096) (j : Fin 16) : ℝ := rG2 b d g u w2 b2 i ⟨j.val, by omega⟩ + d i * ∑ k, b i k * rU1 b d g u w2 b2 k j

/-- A real array as contents of a buffer. -/
def lift {m : ℕ} (r : Fin 4096 → Fin m → ℝ) : (⟨2, ![4096, m]⟩ : Shape).Idx → EReal := fun y => ((r (y 0) (y 1) : ℝ) : EReal)

/-- An array and its rounding errors in either half of the 64 columns, as contents of a buffer. -/
def lift2 (r : Fin 4096 → Fin 16 → ℝ) : S4096x64.Idx → EReal := fun y => ((hilo r (y 0) ⟨(y 1).val % 32, Nat.mod_lt _ (by decide)⟩ : ℝ) : EReal)

/-- A real array and a vector added to its rows, as contents of a buffer. -/
def liftγ {m : ℕ} (r : Fin 4096 → Fin m → ℝ) (γ : Fin m → EReal) : (⟨2, ![4096, m]⟩ : Shape).Idx → EReal := fun y => ((r (y 0) (y 1) : ℝ) : EReal) + γ (y 1)

/-- `lift2` at a chunk's element. -/
theorem lift2_emb (r : Fin 4096 → Fin 16 → ℝ) {o co : ℕ} (ho : o + 1024 ≤ 4096) (hco : co % 32 = 0)
    (inb : ∀ a : Fin 2, (![o, co] : Fin 2 → ℕ) a + (![1024, 32] : Fin 2 → ℕ) a ≤ (![4096, 64] : Fin 2 → ℕ) a) (i : Fin 1024) (j : Fin 32) :
    lift2 r ((Rect.unit (s := S4096x64) ![o, co] S1024x32.size inb).emb (ix2 i j)) = ((hilo r ⟨o + i.val, by omega⟩ j : ℝ) : EReal) := by
  rw [emb_at inb]; simp only [lift2, ix2_0, ix2_1]
  rw [show (⟨(co + j.val) % 32, Nat.mod_lt _ (by decide)⟩ : Fin 32) = j from Fin.ext (by show (co + j.val) % 32 = j.val; omega)]

section Stages

variable {b d g u w2 b2}
variable (c : Dev nD) (arg6 : Memref sig .tc .vmem S128x64 .f32) (arg7 : Memref sig .tc .vmem S64 .f32)
    (arg9 : Memref sig .tc .vmem S4096x4096 .bf16) (arg10 : Memref sig .tc .vmem S4096x384 .f32)
    (arg11 : Memref sig .tc .vmem S4096x128 .f32) (arg12 arg13 : Memref sig .tc .vmem S4096x128 .bf16)
    (arg14 : Memref sig .tc .vmem S4096x64 .bf16) (arg15 : Memref sig .tc .vmem S4096x64 .f32)
  {B : S4096x4096.Idx → Elt Ideal .bf16} {G : S4096x384.Idx → Elt Ideal .f32} {D : S4096x128.Idx → Elt Ideal .f32} {U : S4096x128.Idx → Elt Ideal .bf16}
  {W : S128x64.Idx → Elt Ideal .f32} {β : S64.Idx → Elt Ideal .f32}
  (hB : ∀ i k, B (ix2 i k) = (b i k : EReal)) (hG : ∀ i j, G (ix2 i j) = (g i j : EReal)) (hD : ∀ i j, D (ix2 i j) = (d i : EReal))
  (hU : ∀ i j, U (ix2 i j) = (u i j : EReal))
  (hW : ∀ i j, W (ix2 i j) = (w2 i j : EReal)) {γ : Fin 64 → EReal} (hβ : ∀ j, β (ix1 j) = (b2 j : EReal) + γ j) (hγ : ∀ j : Fin 64, 16 ≤ j.val → γ j = 0)

include hB hG hD

omit hG hD in
/-- The mask's rows from `o` on. -/
theorem rowB (o : ℕ) (ho : o + 1024 ≤ 4096)
    (inb : ∀ a : Fin 2, (![o, 0] : Fin 2 → ℕ) a + (![1024, 4096] : Fin 2 → ℕ) a ≤ (![4096, 4096] : Fin 2 → ℕ) a) (i : Fin 1024) (k : Fin 4096) :
    View.readAt (Elt Ideal) arg9.view (Rect.unit (s := S4096x4096) ![o, 0] S1024x4096.size inb).toLoadRect (arg9.view.rep B) (ix2 i k)
      = (b ⟨o + i.val, by omega⟩ k : EReal) := by
  rw [load_at arg9.view B inb, hB]; simp only [zero_add]

omit hB hG in
/-- The scaling's rows from `o` on. -/
theorem rowD (o : ℕ) (ho : o + 1024 ≤ 4096)
    (inb : ∀ a : Fin 2, (![o, 0] : Fin 2 → ℕ) a + (![1024, 128] : Fin 2 → ℕ) a ≤ (![4096, 128] : Fin 2 → ℕ) a) (i : Fin 1024) (j : Fin 128) :
    View.readAt (Elt Ideal) arg11.view (Rect.unit (s := S4096x128) ![o, 0] S1024x128.size inb).toLoadRect (arg11.view.rep D) (ix2 i j)
      = (d ⟨o + i.val, by omega⟩ : EReal) := by
  rw [load_at arg11.view D inb, hD]

omit hB hD in
/-- The first layer's products, rows from `o` on. -/
theorem rowG (o : ℕ) (ho : o + 1024 ≤ 4096)
    (inb : ∀ a : Fin 2, (![o, 0] : Fin 2 → ℕ) a + (![1024, 384] : Fin 2 → ℕ) a ≤ (![4096, 384] : Fin 2 → ℕ) a) (i : Fin 1024) (j : Fin 384) :
    View.readAt (Elt Ideal) arg10.view (Rect.unit (s := S4096x384) ![o, 0] S1024x384.size inb).toLoadRect (arg10.view.rep G) (ix2 i j)
      = (g ⟨o + i.val, by omega⟩ j : EReal) := by
  rw [load_at arg10.view G inb, hG]; simp only [zero_add]

section Wide

variable (o : ℕ) (ho : o + 1024 ≤ 4096) {v7 : Vec Ideal S4096x128 .bf16} {s : Fin 4096 → Fin 128 → ℝ} (hs : ∀ k j, v7 (ix2 k j) = (s k j : EReal))
    (i1 : ∀ a : Fin 2, (![o, 0] : Fin 2 → ℕ) a + (![1024, 4096] : Fin 2 → ℕ) a ≤ (![4096, 4096] : Fin 2 → ℕ) a)
    (i2 : ∀ a : Fin 2, (![o, 0] : Fin 2 → ℕ) a + (![1024, 128] : Fin 2 → ℕ) a ≤ (![4096, 128] : Fin 2 → ℕ) a)
    (i3 : ∀ a : Fin 2, (![o, 0] : Fin 2 → ℕ) a + (![1024, 384] : Fin 2 → ℕ) a ≤ (![4096, 384] : Fin 2 → ℕ) a)

include ho hs in
/-- One chunk's piece of a step from the third column group. -/
theorem piece10 (x : S1024x128.Idx) :
    k0_pay10 (F := Ideal) (View.readAt (Elt Ideal) arg9.view (Rect.unit (s := S4096x4096) ![o, 0] S1024x4096.size i1).toLoadRect (arg9.view.rep B)) v7
        (View.readAt (Elt Ideal) arg11.view (Rect.unit (s := S4096x128) ![o, 0] S1024x128.size i2).toLoadRect (arg11.view.rep D))
        (View.readAt (Elt Ideal) arg10.view (Rect.unit (s := S4096x384) ![o, 0] S1024x384.size i3).toLoadRect (arg10.view.rep G)) x
      = lift (fun i (j : Fin 128) => d i * (g i ⟨256 + j.val, by omega⟩ + d i * ∑ k, b i k * s k j))
          ((Rect.unit (s := S4096x128) ![o, 0] S1024x128.size i2).emb x) := by
  idx_vars x
  refine (pay10_real (rowB arg9 hB o ho i1) (rowD arg11 hD o ho i2) (rowG arg10 hG o ho i3) hs x0 x1).trans ?_
  rw [emb_at i2]; simp only [lift, zero_add, ix2_0, ix2_1]

include ho hs in
/-- One chunk's piece of a step from the second column group. -/
theorem piece17 (x : S1024x128.Idx) :
    k0_pay17 (F := Ideal) (View.readAt (Elt Ideal) arg9.view (Rect.unit (s := S4096x4096) ![o, 0] S1024x4096.size i1).toLoadRect (arg9.view.rep B)) v7
        (View.readAt (Elt Ideal) arg11.view (Rect.unit (s := S4096x128) ![o, 0] S1024x128.size i2).toLoadRect (arg11.view.rep D))
        (View.readAt (Elt Ideal) arg10.view (Rect.unit (s := S4096x384) ![o, 0] S1024x384.size i3).toLoadRect (arg10.view.rep G)) x
      = lift (fun i (j : Fin 128) => d i * (g i ⟨128 + j.val, by omega⟩ + d i * ∑ k, b i k * s k j))
          ((Rect.unit (s := S4096x128) ![o, 0] S1024x128.size i2).emb x) := by
  idx_vars x
  refine (pay17_real (rowB arg9 hB o ho i1) (rowD arg11 hD o ho i2) (rowG arg10 hG o ho i3) hs x0 x1).trans ?_
  rw [emb_at i2]; simp only [lift, zero_add, ix2_0, ix2_1]

variable {w : Vec Ideal S128x64 .f32} {β' : Vec Ideal S64 .f32}
  (hw : ∀ i j, w (ix2 i j) = (w2 i j : EReal)) (hβ' : ∀ j, β' (ix1 j) = (b2 j : EReal) + γ j)

include ho hs hw hβ' in
/-- One chunk's products of the second layer, at an element. -/
theorem at20 (i : Fin 1024) (j : Fin 64) :
    k0_pay20 (F := Ideal) (View.readAt (Elt Ideal) arg9.view (Rect.unit (s := S4096x4096) ![o, 0] S1024x4096.size i1).toLoadRect (arg9.view.rep B)) v7
        (View.readAt (Elt Ideal) arg11.view (Rect.unit (s := S4096x128) ![o, 0] S1024x128.size i2).toLoadRect (arg11.view.rep D))
        (View.readAt (Elt Ideal) arg10.view (Rect.unit (s := S4096x384) ![o, 0] S1024x384.size i3).toLoadRect (arg10.view.rep G)) w β' (ix2 i j)
      = ((rP b d g w2 b2 s ⟨o + i.val, by omega⟩ j : ℝ) : EReal) + γ j :=
  pay20_real (rowB arg9 hB o ho i1) (rowD arg11 hD o ho i2) (rowG arg10 hG o ho i3) hs hw hβ' i j

include ho hs hw hβ' in
/-- One chunk's piece of the second layer's products. -/
theorem piece21 (i4 : ∀ a : Fin 2, (![o, 0] : Fin 2 → ℕ) a + (![1024, 64] : Fin 2 → ℕ) a ≤ (![4096, 64] : Fin 2 → ℕ) a) (x : S1024x64.Idx) :
    k0_pay21 (F := Ideal) (View.readAt (Elt Ideal) arg9.view (Rect.unit (s := S4096x4096) ![o, 0] S1024x4096.size i1).toLoadRect (arg9.view.rep B)) v7
        (View.readAt (Elt Ideal) arg11.view (Rect.unit (s := S4096x128) ![o, 0] S1024x128.size i2).toLoadRect (arg11.view.rep D))
        (View.readAt (Elt Ideal) arg10.view (Rect.unit (s := S4096x384) ![o, 0] S1024x384.size i3).toLoadRect (arg10.view.rep G)) w β' x
      = liftγ (rP b d g w2 b2 s) γ ((Rect.unit (s := S4096x64) ![o, 0] S1024x64.size i4).emb x) := by
  idx_vars x
  rw [pay21_eq]
  refine (at20 arg9 arg10 arg11 hB hG hD o ho hs i1 i2 i3 hw hβ' x0 x1).trans ?_
  rw [emb_at i4]; simp only [liftγ, zero_add, ix2_0, ix2_1]

include hγ ho hs hw hβ' in
/-- One chunk's piece of the second layer's scaled last column group. -/
theorem piece24 (i4 : ∀ a : Fin 2, (![o, 0] : Fin 2 → ℕ) a + (![1024, 32] : Fin 2 → ℕ) a ≤ (![4096, 64] : Fin 2 → ℕ) a) (x : S1024x32.Idx) :
    k0_pay24 (F := Ideal) (k0_pay22 (View.readAt (Elt Ideal) arg11.view (Rect.unit (s := S4096x128) ![o, 0] S1024x128.size i2).toLoadRect (arg11.view.rep D)))
        (k0_pay23 (View.readAt (Elt Ideal) arg9.view (Rect.unit (s := S4096x4096) ![o, 0] S1024x4096.size i1).toLoadRect (arg9.view.rep B)) v7
        (View.readAt (Elt Ideal) arg11.view (Rect.unit (s := S4096x128) ![o, 0] S1024x128.size i2).toLoadRect (arg11.view.rep D))
        (View.readAt (Elt Ideal) arg10.view (Rect.unit (s := S4096x384) ![o, 0] S1024x384.size i3).toLoadRect (arg10.view.rep G)) w β') x
      = lift2 (fun i (j : Fin 16) => d i * rP b d g w2 b2 s i ⟨48 + j.val, by omega⟩) ((Rect.unit (s := S4096x64) ![o, 0] S1024x32.size i4).emb x) := by
  idx_vars x
  refine (pay24_real (a := fun i j => d ⟨o + i.val, by omega⟩) (a' := fun i j => rP b d g w2 b2 s ⟨o + i.val, by omega⟩ ⟨48 + j.val, by omega⟩)
    (fun i j => ?_) (fun i j => ?_) x0 x1).trans ?_
  · refine Eq.trans ?_ (rowD arg11 hD o ho i2 i ⟨j.val, by omega⟩)
    pointwise [k0_pay22]
  · refine Eq.trans ?_ ((at20 arg9 arg10 arg11 hB hG hD o ho hs i1 i2 i3 hw hβ' i ⟨48 + j.val, by omega⟩).trans (by rw [hγ _ (by show 16 ≤ 48 + j.val; omega), add_zero]))
    pointwise [k0_pay23]
  · rw [lift2_emb _ ho rfl]; rfl

end Wide

section Narrow

variable (o : ℕ) (ho : o + 1024 ≤ 4096) {v7 : Vec Ideal S4096x32 .bf16} {s : Fin 4096 → Fin 16 → ℝ} (hs : ∀ k j, v7 (ix2 k j) = ((hilo s k j : ℝ) : EReal))
    {v15 : Vec Ideal S1024x64 .f32} {p : Fin 4096 → Fin 64 → ℝ} (hp : ∀ i j, v15 (ix2 i j) = (p ⟨o + i.val, by omega⟩ j : EReal) + γ j)
    (i1 : ∀ a : Fin 2, (![o, 0] : Fin 2 → ℕ) a + (![1024, 4096] : Fin 2 → ℕ) a ≤ (![4096, 4096] : Fin 2 → ℕ) a)
    (i2 : ∀ a : Fin 2, (![o, 0] : Fin 2 → ℕ) a + (![1024, 128] : Fin 2 → ℕ) a ≤ (![4096, 128] : Fin 2 → ℕ) a)

omit hG in
include hγ ho hs hp in
/-- One chunk's piece of a 16-wide step from the third column group. -/
theorem piece37 {co : ℕ} (hco : co % 32 = 0) (i4 : ∀ a : Fin 2, (![o, co] : Fin 2 → ℕ) a + (![1024, 32] : Fin 2 → ℕ) a ≤ (![4096, 64] : Fin 2 → ℕ) a) (x : S1024x32.Idx) :
    k0_pay37 (F := Ideal) (View.readAt (Elt Ideal) arg9.view (Rect.unit (s := S4096x4096) ![o, 0] S1024x4096.size i1).toLoadRect (arg9.view.rep B)) v7
        (View.readAt (Elt Ideal) arg11.view (Rect.unit (s := S4096x128) ![o, 0] S1024x128.size i2).toLoadRect (arg11.view.rep D)) v15 x
      = lift2 (fun i (j : Fin 16) => d i * (p i ⟨32 + j.val, by omega⟩ + d i * ∑ k, b i k * s k j))
          ((Rect.unit (s := S4096x64) ![o, co] S1024x32.size i4).emb x) := by
  idx_vars x
  refine (pay37_real (rowB arg9 hB o ho i1) (rowD arg11 hD o ho i2) (g := fun i j => p ⟨o + i.val, by omega⟩ j) hp hγ hs x0 x1).trans ?_
  rw [lift2_emb _ ho hco]; rfl

omit hG in
include hγ ho hs hp in
/-- One chunk's piece of a 16-wide step from the second column group. -/
theorem piece40 {co : ℕ} (hco : co % 32 = 0) (i4 : ∀ a : Fin 2, (![o, co] : Fin 2 → ℕ) a + (![1024, 32] : Fin 2 → ℕ) a ≤ (![4096, 64] : Fin 2 → ℕ) a) (x : S1024x32.Idx) :
    k0_pay40 (F := Ideal) (View.readAt (Elt Ideal) arg9.view (Rect.unit (s := S4096x4096) ![o, 0] S1024x4096.size i1).toLoadRect (arg9.view.rep B)) v7
        (View.readAt (Elt Ideal) arg11.view (Rect.unit (s := S4096x128) ![o, 0] S1024x128.size i2).toLoadRect (arg11.view.rep D)) v15 x
      = lift2 (fun i (j : Fin 16) => d i * (p i ⟨16 + j.val, by omega⟩ + d i * ∑ k, b i k * s k j))
          ((Rect.unit (s := S4096x64) ![o, co] S1024x32.size i4).emb x) := by
  idx_vars x
  refine (pay40_real (rowB arg9 hB o ho i1) (rowD arg11 hD o ho i2) (g := fun i j => p ⟨o + i.val, by omega⟩ j) hp hγ hs x0 x1).trans ?_
  rw [lift2_emb _ ho hco]; rfl

omit hG in
include ho hs hp in
/-- One chunk's piece of the encoder's output. -/
theorem piece47 (i4 : ∀ a : Fin 2, (![o, 0] : Fin 2 → ℕ) a + (![1024, 16] : Fin 2 → ℕ) a ≤ (![4096, 16] : Fin 2 → ℕ) a) (x : S1024x16.Idx) :
    k0_pay47 (F := Ideal) (View.readAt (Elt Ideal) arg9.view (Rect.unit (s := S4096x4096) ![o, 0] S1024x4096.size i1).toLoadRect (arg9.view.rep B)) v7 v15
        (View.readAt (Elt Ideal) arg11.view (Rect.unit (s := S4096x128) ![o, 0] S1024x128.size i2).toLoadRect (arg11.view.rep D)) x
      = liftγ (fun i (j : Fin 16) => p i ⟨j.val, by omega⟩ + d i * ∑ k, b i k * s k j) (fun j => γ ⟨j.val, by omega⟩)
          ((Rect.unit (s := S4096x16) ![o, 0] S1024x16.size i4).emb x) := by
  idx_vars x
  refine (pay47_real (rowB arg9 hB o ho i1) (rowD arg11 hD o ho i2) (g := fun i j => p ⟨o + i.val, by omega⟩ j) hp hs x0 x1).trans ?_
  rw [emb_at i4]; simp only [liftγ, zero_add, ix2_0, ix2_1]

end Narrow

end Stages

end Cert.KernelIdeal.Val

end
-- ==== Proof.Val.Stages.lean ====
/-
  What the buffers of the encoder's last grid point hold, stage by stage, as real arrays.
-/
module

public import proofs.«01_k».proof.Proof.Val.Steps

@[expose] public section

set_option maxRecDepth 16384

noncomputable section

namespace Cert.KernelIdeal.Val

open Cert.KernelIdeal Cert.KernelIdeal.Gen Cert.KernelIdeal.Enc
open Idealize.ShloMosaic Idealize.ShloMosaic.TcCoe Idealize.SL.Sem

/-! # The encoder's last point, stage by stage: what each buffer holds, as real arrays -/

/-- Rows from `o` and columns from `c`: which elements these are. -/
theorem mem_rows {n m r w o c : ℕ} {ib : ∀ a : Fin 2, (![o, c] : Fin 2 → ℕ) a + (![r, w] : Fin 2 → ℕ) a ≤ (![n, m] : Fin 2 → ℕ) a} (i : Fin n) (j : Fin m) :
    ix2 i j ∈ (Rect.unit (s := ⟨2, ![n, m]⟩) ![o, c] ![r, w] ib).set ↔ (o ≤ i.val ∧ i.val < o + r) ∧ (c ≤ j.val ∧ j.val < c + w) := by
  rw [Rect.mem_set_unit]
  constructor
  · intro h; exact ⟨h 0, h 1⟩
  · rintro ⟨h0, h1⟩ a
    match a with
    | ⟨0, _⟩ => exact h0
    | ⟨1, _⟩ => exact h1

/-- Where four pieces of one array cover, the buffer holds that array. -/
theorem canon_four {S : Shape} {e : EltTy} (G : S.Idx → Elt Ideal e) (p3 p2 p1 p0 : View.Piece (Elt Ideal) S e)
    (h0 : ∀ x : p0.1.shape.Idx, p0.2 x = G (p0.1.emb x)) (h1 : ∀ x : p1.1.shape.Idx, p1.2 x = G (p1.1.emb x))
    (h2 : ∀ x : p2.1.shape.Idx, p2.2 x = G (p2.1.emb x)) (h3 : ∀ x : p3.1.shape.Idx, p3.2 x = G (p3.1.emb x))
    (L : List (View.Piece (Elt Ideal) S e)) (y : S.Idx) (hy : y ∈ p3.1.set ∨ y ∈ p2.1.set ∨ y ∈ p1.1.set ∨ y ∈ p0.1.set) :
    View.canon (p3 :: p2 :: p1 :: p0 :: L) y = G y := by
  refine View.canon_append_of_pieces G L [p3, p2, p1, p0] ?_ y ?_
  · intro p hp
    simp only [List.mem_cons, List.not_mem_nil, or_false] at hp
    rcases hp with rfl | rfl | rfl | rfl
    exacts [h3, h2, h1, h0]
  · rcases hy with h | h | h | h
    exacts [⟨p3, by simp, h⟩, ⟨p2, by simp, h⟩, ⟨p1, by simp, h⟩, ⟨p0, by simp, h⟩]

/-- Where four stacked pieces cover, the buffer holds what they hold. -/
theorem canon4 {m w c : ℕ} {e : EltTy} (G : (⟨2, ![4096, m]⟩ : Shape).Idx → Elt Ideal e)
    {i0 : ∀ a : Fin 2, (![0, c] : Fin 2 → ℕ) a + (![1024, w] : Fin 2 → ℕ) a ≤ (![4096, m] : Fin 2 → ℕ) a}
    {i1 : ∀ a : Fin 2, (![1024, c] : Fin 2 → ℕ) a + (![1024, w] : Fin 2 → ℕ) a ≤ (![4096, m] : Fin 2 → ℕ) a}
    {i2 : ∀ a : Fin 2, (![2048, c] : Fin 2 → ℕ) a + (![1024, w] : Fin 2 → ℕ) a ≤ (![4096, m] : Fin 2 → ℕ) a}
    {i3 : ∀ a : Fin 2, (![3072, c] : Fin 2 → ℕ) a + (![1024, w] : Fin 2 → ℕ) a ≤ (![4096, m] : Fin 2 → ℕ) a}
    {x0 x1 x2 x3 : (⟨2, ![1024, w]⟩ : Shape).Idx → Elt Ideal e}
    (h0 : ∀ x, x0 x = G ((Rect.unit (s := ⟨2, ![4096, m]⟩) ![0, c] ![1024, w] i0).emb x))
    (h1 : ∀ x, x1 x = G ((Rect.unit (s := ⟨2, ![4096, m]⟩) ![1024, c] ![1024, w] i1).emb x))
    (h2 : ∀ x, x2 x = G ((Rect.unit (s := ⟨2, ![4096, m]⟩) ![2048, c] ![1024, w] i2).emb x))
    (h3 : ∀ x, x3 x = G ((Rect.unit (s := ⟨2, ![4096, m]⟩) ![3072, c] ![1024, w] i3).emb x))
    (L : List (View.Piece (Elt Ideal) ⟨2, ![4096, m]⟩ e)) (i : Fin 4096) (j : Fin m) (hj : c ≤ j.val ∧ j.val < c + w) :
    View.canon (⟨Rect.unit (s := ⟨2, ![4096, m]⟩) ![3072, c] ![1024, w] i3, x3⟩ :: ⟨Rect.unit (s := ⟨2, ![4096, m]⟩) ![2048, c] ![1024, w] i2, x2⟩
      :: ⟨Rect.unit (s := ⟨2, ![4096, m]⟩) ![1024, c] ![1024, w] i1, x1⟩ :: ⟨Rect.unit (s := ⟨2, ![4096, m]⟩) ![0, c] ![1024, w] i0, x0⟩ :: L) (ix2 i j)
      = G (ix2 i j) := by
  have hi := i.isLt
  refine canon_four G _ _ _ _ h0 h1 h2 h3 L (ix2 i j) ?_
  rcases Nat.lt_or_ge i.val 2048 with hl | hl
  · rcases Nat.lt_or_ge i.val 1024 with hk | hk
    · exact Or.inr (Or.inr (Or.inr ((mem_rows (ib := i0) i j).2 ⟨by omega, hj⟩)))
    · exact Or.inr (Or.inr (Or.inl ((mem_rows (ib := i1) i j).2 ⟨by omega, hj⟩)))
  · rcases Nat.lt_or_ge i.val 3072 with hk | hk
    · exact Or.inr (Or.inl ((mem_rows (ib := i2) i j).2 ⟨by omega, hj⟩))
    · exact Or.inl ((mem_rows (ib := i3) i j).2 ⟨by omega, hj⟩)

/-- A piece in other columns leaves an element. -/
theorem canon_skip {m w c o : ℕ} {e : EltTy}
    {ib : ∀ a : Fin 2, (![o, c] : Fin 2 → ℕ) a + (![1024, w] : Fin 2 → ℕ) a ≤ (![4096, m] : Fin 2 → ℕ) a}
    {x0 : (⟨2, ![1024, w]⟩ : Shape).Idx → Elt Ideal e} (L : List (View.Piece (Elt Ideal) ⟨2, ![4096, m]⟩ e)) (i : Fin 4096) (j : Fin m)
    (hj : ¬ (c ≤ j.val ∧ j.val < c + w)) :
    View.canon (⟨Rect.unit (s := ⟨2, ![4096, m]⟩) ![o, c] ![1024, w] ib, x0⟩ :: L) (ix2 i j) = View.canon L (ix2 i j) :=
  View.canon_cons_of_not_mem _ L fun h => hj ((mem_rows (ib := ib) i j).1 h).2

/-- A half of the 64 columns read back whole. -/
theorem read_half (arg14 : Memref sig .tc .vmem S4096x64 .bf16) (r : Fin 4096 → Fin 16 → ℝ) (L : List (View.Piece (Elt Ideal) S4096x64 .bf16)) {co : ℕ} (hco : co % 32 = 0)
    (inb : ∀ a : Fin 2, (![0, co] : Fin 2 → ℕ) a + (![4096, 32] : Fin 2 → ℕ) a ≤ (![4096, 64] : Fin 2 → ℕ) a)
    (hL : ∀ (i : Fin 4096) (j : Fin 64), co ≤ j.val ∧ j.val < co + 32 → View.canon L (ix2 i j) = lift2 r (ix2 i j)) (k : Fin 4096) (j : Fin 32) :
    arg14.view.readCov L (Rect.unit (s := S4096x64) ![0, co] S4096x32.size inb).toLoadRect (ix2 k j) = ((hilo r k j : ℝ) : EReal) := by
  refine (cov_at _ _ inb k j).trans ((hL _ _ (by simp only []; omega)).trans ?_)
  simp only [lift2, ix2_0, ix2_1, zero_add]
  rw [show (⟨(co + j.val) % 32, Nat.mod_lt _ (by decide)⟩ : Fin 32) = j from Fin.ext (by show (co + j.val) % 32 = j.val; omega)]

section Stages

variable {b : Fin 4096 → Fin 4096 → ℝ} {d : Fin 4096 → ℝ} {g : Fin 4096 → Fin 384 → ℝ} {u : Fin 4096 → Fin 128 → ℝ}
  {w2 : Fin 128 → Fin 64 → ℝ} {b2 : Fin 64 → ℝ}
variable (c : Dev nD) (arg6 : Memref sig .tc .vmem S128x64 .f32) (arg7 : Memref sig .tc .vmem S64 .f32)
    (arg9 : Memref sig .tc .vmem S4096x4096 .bf16) (arg10 : Memref sig .tc .vmem S4096x384 .f32)
    (arg11 : Memref sig .tc .vmem S4096x128 .f32) (arg12 arg13 : Memref sig .tc .vmem S4096x128 .bf16)
    (arg14 : Memref sig .tc .vmem S4096x64 .bf16) (arg15 : Memref sig .tc .vmem S4096x64 .f32)
  {B : S4096x4096.Idx → Elt Ideal .bf16} {G : S4096x384.Idx → Elt Ideal .f32} {D : S4096x128.Idx → Elt Ideal .f32} {U : S4096x128.Idx → Elt Ideal .bf16}
  {W : S128x64.Idx → Elt Ideal .f32} {β : S64.Idx → Elt Ideal .f32}
  (hB : ∀ i k, B (ix2 i k) = (b i k : EReal)) (hG : ∀ i j, G (ix2 i j) = (g i j : EReal)) (hD : ∀ i j, D (ix2 i j) = (d i : EReal))
  (hU : ∀ i j, U (ix2 i j) = (u i j : EReal))
  (hW : ∀ i j, W (ix2 i j) = (w2 i j : EReal)) {γ : Fin 64 → EReal} (hβ : ∀ j, β (ix1 j) = (b2 j : EReal) + γ j) (hγ : ∀ j : Fin 64, 16 ≤ j.val → γ j = 0)

include hU in
/-- The scan's scaled products, read whole. -/
theorem readU (inb : ∀ a : Fin 2, (![0, 0] : Fin 2 → ℕ) a + (![4096, 128] : Fin 2 → ℕ) a ≤ (![4096, 128] : Fin 2 → ℕ) a) (k : Fin 4096) (j : Fin 128) :
    View.readAt (Elt Ideal) arg12.view (Rect.unit (s := S4096x128) ![0, 0] S4096x128.size inb).toLoadRect (arg12.view.rep U) (ix2 k j) = (u k j : EReal) := by
  rw [load_at arg12.view U inb, hU]; simp only [zero_add]

include hW in
/-- The second layer's weights, read whole. -/
theorem readW (inb : ∀ a : Fin 2, (![0, 0] : Fin 2 → ℕ) a + (![128, 64] : Fin 2 → ℕ) a ≤ (![128, 64] : Fin 2 → ℕ) a) (k : Fin 128) (j : Fin 64) :
    View.readAt (Elt Ideal) arg6.view (Rect.unit (s := S128x64) ![0, 0] S128x64.size inb).toLoadRect (arg6.view.rep W) (ix2 k j) = (w2 k j : EReal) := by
  rw [load_at arg6.view W inb, hW]; simp only [zero_add]

include hβ in
/-- The second layer's bias, read whole. -/
theorem readβ (inb : ∀ a : Fin 1, (![0] : Fin 1 → ℕ) a + (S64.size) a ≤ (S64.size) a) (j : Fin 64) :
    View.readAt (Elt Ideal) arg7.view (Rect.unit (s := S64) ![0] S64.size inb).toLoadRect (arg7.view.rep β) (ix1 j) = (b2 j : EReal) + γ j := by
  rw [View.readAt_rep]
  refine Eq.trans (congrArg β ?_) (hβ j)
  funext a; refine Fin.ext ?_
  match a with
  | 0 => show 0 + 1 * j.val = j.val; omega

include hB hG hD hU

/-- The buffer after the first step. -/
theorem v59_real (i : Fin 4096) (j : Fin 128) :
    hopsRun.sl.v59 (F := Ideal) c arg9 arg10 arg11 arg12 arg13 (arg9.view.rep B) (arg10.view.rep G) (arg11.view.rep D) (arg12.view.rep U) (ix2 i j) = ((rUB b d g u i j : ℝ) : EReal) := by
  unfold hopsRun.sl.v59
  refine (cov_at _ _ _ i j).trans ?_
  unfold hopsRun.sl.H13_4 hopsRun.sl.r
  rw [pay14_eq, pay13_eq, pay11_eq]
  refine (canon4 (lift (rUB b d g u)) (fun x => ?_) (fun x => ?_) (fun x => ?_) (fun x => ?_) [] _ _ (by simp only []; omega)).trans ?_
  · exact piece10 arg9 arg10 arg11 hB hG hD 0 (by decide) (readU arg12 hU _) _ _ _ x
  · exact piece10 arg9 arg10 arg11 hB hG hD 1024 (by decide) (readU arg12 hU _) _ _ _ x
  · exact piece10 arg9 arg10 arg11 hB hG hD 2048 (by decide) (readU arg12 hU _) _ _ _ x
  · exact piece10 arg9 arg10 arg11 hB hG hD 3072 (by decide) (readU arg12 hU _) _ _ _ x
  · simp only [lift, zero_add, ix2_0, ix2_1]

/-- The buffer after the second step. -/
theorem v111_real (i : Fin 4096) (j : Fin 128) :
    hopsRun.sl.v111 (F := Ideal) c arg9 arg10 arg11 arg12 arg13 (arg9.view.rep B) (arg10.view.rep G) (arg11.view.rep D) (arg12.view.rep U) (ix2 i j) = ((rUA b d g u i j : ℝ) : EReal) := by
  have hs := v59_real c arg9 arg10 arg11 arg12 arg13 hB hG hD hU
  unfold hopsRun.sl.v111
  refine (cov_at _ _ _ i j).trans ?_
  unfold hopsRun.sl.H12_4 hopsRun.sl.r_1 hopsRun.sl.r_2
  rw [pay19_eq, pay18_eq, pay16_eq]
  refine (canon4 (lift (rUA b d g u)) (fun x => ?_) (fun x => ?_) (fun x => ?_) (fun x => ?_) [] _ _ (by simp only []; omega)).trans ?_
  · exact piece17 arg9 arg10 arg11 hB hG hD 0 (by decide) hs _ _ _ x
  · exact piece17 arg9 arg10 arg11 hB hG hD 1024 (by decide) hs _ _ _ x
  · exact piece17 arg9 arg10 arg11 hB hG hD 2048 (by decide) hs _ _ _ x
  · exact piece17 arg9 arg10 arg11 hB hG hD 3072 (by decide) hs _ _ _ x
  · simp only [lift, zero_add, ix2_0, ix2_1]

include hW hβ hγ

/-- The second layer's products. -/
theorem H15_real (i : Fin 4096) (j : Fin 64) :
    View.canon (hopsRun.sl.H15_4 (F := Ideal) c arg6 arg7 arg9 arg10 arg11 arg12 arg13 (arg6.view.rep W) (arg7.view.rep β) (arg9.view.rep B) (arg10.view.rep G) (arg11.view.rep D) (arg12.view.rep U)) (ix2 i j) = ((rG2 b d g u w2 b2 i j : ℝ) : EReal) + γ j := by
  have hs := v111_real c arg9 arg10 arg11 arg12 arg13 hB hG hD hU
  unfold hopsRun.sl.H15_4 hopsRun.sl.r_2
  rw [pay33_eq, pay30_eq, pay26_eq]
  refine (canon4 (liftγ (rG2 b d g u w2 b2) γ) (fun x => ?_) (fun x => ?_) (fun x => ?_) (fun x => ?_) [] _ _ (by omega)).trans ?_
  · exact piece21 arg9 arg10 arg11 hB hG hD 0 (by decide) hs _ _ _ (readW arg6 hW _) (readβ arg7 hβ _) _ x
  · exact piece21 arg9 arg10 arg11 hB hG hD 1024 (by decide) hs _ _ _ (readW arg6 hW _) (readβ arg7 hβ _) _ x
  · exact piece21 arg9 arg10 arg11 hB hG hD 2048 (by decide) hs _ _ _ (readW arg6 hW _) (readβ arg7 hβ _) _ x
  · exact piece21 arg9 arg10 arg11 hB hG hD 3072 (by decide) hs _ _ _ (readW arg6 hW _) (readβ arg7 hβ _) _ x
  · simp only [liftγ, ix2_0, ix2_1]

/-- A chunk of the second layer's products, read back. -/
theorem readG2 (o : ℕ) (ho : o + 1024 ≤ 4096)
    (inb : ∀ a : Fin 2, (![o, 0] : Fin 2 → ℕ) a + (![1024, 64] : Fin 2 → ℕ) a ≤ (![4096, 64] : Fin 2 → ℕ) a) (i : Fin 1024) (j : Fin 64) :
    arg15.view.readCov (hopsRun.sl.H15_4 (F := Ideal) c arg6 arg7 arg9 arg10 arg11 arg12 arg13 (arg6.view.rep W) (arg7.view.rep β) (arg9.view.rep B) (arg10.view.rep G) (arg11.view.rep D) (arg12.view.rep U)) (Rect.unit (s := S4096x64) ![o, 0] S1024x64.size inb).toLoadRect (ix2 i j)
      = ((rG2 b d g u w2 b2 ⟨o + i.val, by omega⟩ j : ℝ) : EReal) + γ j := by
  refine (cov_at _ _ _ i j).trans ((H15_real c arg6 arg7 arg9 arg10 arg11 arg12 arg13 hB hG hD hU hW hβ hγ _ _).trans ?_)
  simp only [zero_add]

/-- The left half after the second layer's scaling, whatever lies below. -/
theorem H14_4_real (i : Fin 4096) (j : Fin 64) (hj : j.val < 32) :
    View.canon (hopsRun.sl.H14_4 (F := Ideal) c arg6 arg7 arg9 arg10 arg11 arg12 arg13 (arg6.view.rep W) (arg7.view.rep β) (arg9.view.rep B) (arg10.view.rep G) (arg11.view.rep D) (arg12.view.rep U)) (ix2 i j) = lift2 (rU3 b d g u w2 b2) (ix2 i j) := by
  have hs := v111_real c arg9 arg10 arg11 arg12 arg13 hB hG hD hU
  unfold hopsRun.sl.H14_4 hopsRun.sl.r_2 hopsRun.sl.r_3 hopsRun.sl.r_4 hopsRun.sl.r_5
  rw [pay34_eq, pay31_eq, pay28_eq]
  refine canon4 (e := .bf16) (c := 0) (w := 32) (lift2 (rU3 b d g u w2 b2)) (fun x => ?_) (fun x => ?_) (fun x => ?_) (fun x => ?_) [] i j ⟨by omega, by omega⟩
  · exact piece24 arg9 arg10 arg11 hB hG hD hγ 0 (by decide) hs _ _ _ (readW arg6 hW _) (readβ arg7 hβ _) _ x
  · exact piece24 arg9 arg10 arg11 hB hG hD hγ 1024 (by decide) hs _ _ _ (readW arg6 hW _) (readβ arg7 hβ _) _ x
  · exact piece24 arg9 arg10 arg11 hB hG hD hγ 2048 (by decide) hs _ _ _ (readW arg6 hW _) (readβ arg7 hβ _) _ x
  · exact piece24 arg9 arg10 arg11 hB hG hD hγ 3072 (by decide) hs _ _ _ (readW arg6 hW _) (readβ arg7 hβ _) _ x

/-- The left half, read before the second layer's first step. -/
theorem v239_real (k : Fin 4096) (j : Fin 32) :
    hopsRun.sl.v239 (F := Ideal) c arg6 arg7 arg9 arg10 arg11 arg12 arg13 arg14 (arg6.view.rep W) (arg7.view.rep β) (arg9.view.rep B) (arg10.view.rep G) (arg11.view.rep D) (arg12.view.rep U) (ix2 k j) = ((hilo (rU3 b d g u w2 b2) k j : ℝ) : EReal) := by
  unfold hopsRun.sl.v239
  exact read_half arg14 _ _ rfl _ (fun i j hj => H14_4_real c arg6 arg7 arg9 arg10 arg11 arg12 arg13 hB hG hD hU hW hβ hγ i j (by omega)) k j

/-- The left half while the right one is being written: one lemma for the three lists of pieces in between. -/
theorem left_real : (∀ (i : Fin 4096) (j : Fin 64), j.val < 32 → View.canon (hopsRun.sl.H14_5 (F := Ideal) c arg6 arg7 arg9 arg10 arg11 arg12 arg13 arg14 arg15 (arg6.view.rep W) (arg7.view.rep β) (arg9.view.rep B) (arg10.view.rep G) (arg11.view.rep D) (arg12.view.rep U)) (ix2 i j) = lift2 (rU3 b d g u w2 b2) (ix2 i j))
    ∧ (∀ (i : Fin 4096) (j : Fin 64), j.val < 32 → View.canon (hopsRun.sl.H14_6 (F := Ideal) c arg6 arg7 arg9 arg10 arg11 arg12 arg13 arg14 arg15 (arg6.view.rep W) (arg7.view.rep β) (arg9.view.rep B) (arg10.view.rep G) (arg11.view.rep D) (arg12.view.rep U)) (ix2 i j) = lift2 (rU3 b d g u w2 b2) (ix2 i j))
    ∧ (∀ (i : Fin 4096) (j : Fin 64), j.val < 32 → View.canon (hopsRun.sl.H14_7 (F := Ideal) c arg6 arg7 arg9 arg10 arg11 arg12 arg13 arg14 arg15 (arg6.view.rep W) (arg7.view.rep β) (arg9.view.rep B) (arg10.view.rep G) (arg11.view.rep D) (arg12.view.rep U)) (ix2 i j) = lift2 (rU3 b d g u w2 b2) (ix2 i j)) := by
  have h5 : ∀ (i : Fin 4096) (j : Fin 64), j.val < 32 → View.canon (hopsRun.sl.H14_5 (F := Ideal) c arg6 arg7 arg9 arg10 arg11 arg12 arg13 arg14 arg15 (arg6.view.rep W) (arg7.view.rep β) (arg9.view.rep B) (arg10.view.rep G) (arg11.view.rep D) (arg12.view.rep U)) (ix2 i j) = lift2 (rU3 b d g u w2 b2) (ix2 i j) := by
    intro i j hj; unfold hopsRun.sl.H14_5
    exact (canon_skip _ i j (by omega)).trans (H14_4_real c arg6 arg7 arg9 arg10 arg11 arg12 arg13 hB hG hD hU hW hβ hγ i j hj)
  have h6 : ∀ (i : Fin 4096) (j : Fin 64), j.val < 32 → View.canon (hopsRun.sl.H14_6 (F := Ideal) c arg6 arg7 arg9 arg10 arg11 arg12 arg13 arg14 arg15 (arg6.view.rep W) (arg7.view.rep β) (arg9.view.rep B) (arg10.view.rep G) (arg11.view.rep D) (arg12.view.rep U)) (ix2 i j) = lift2 (rU3 b d g u w2 b2) (ix2 i j) := by
    intro i j hj; unfold hopsRun.sl.H14_6
    exact (canon_skip _ i j (by omega)).trans (h5 i j hj)
  refine ⟨h5, h6, fun i j hj => ?_⟩
  unfold hopsRun.sl.H14_7
  exact (canon_skip _ i j (by omega)).trans (h6 i j hj)

/-- The left half, read for the second chunk. -/
theorem v260_real (k : Fin 4096) (j : Fin 32) :
    hopsRun.sl.v260 (F := Ideal) c arg6 arg7 arg9 arg10 arg11 arg12 arg13 arg14 arg15 (arg6.view.rep W) (arg7.view.rep β) (arg9.view.rep B) (arg10.view.rep G) (arg11.view.rep D) (arg12.view.rep U) (ix2 k j) = ((hilo (rU3 b d g u w2 b2) k j : ℝ) : EReal) := by
  unfold hopsRun.sl.v260
  exact read_half arg14 _ _ rfl _ (fun i j hj => (left_real c arg6 arg7 arg9 arg10 arg11 arg12 arg13 arg14 arg15 hB hG hD hU hW hβ hγ).1 i j (by omega)) k j

/-- The left half, read for the third chunk. -/
theorem v281_real (k : Fin 4096) (j : Fin 32) :
    hopsRun.sl.v281 (F := Ideal) c arg6 arg7 arg9 arg10 arg11 arg12 arg13 arg14 arg15 (arg6.view.rep W) (arg7.view.rep β) (arg9.view.rep B) (arg10.view.rep G) (arg11.view.rep D) (arg12.view.rep U) (ix2 k j) = ((hilo (rU3 b d g u w2 b2) k j : ℝ) : EReal) := by
  unfold hopsRun.sl.v281
  exact read_half arg14 _ _ rfl _ (fun i j hj => (left_real c arg6 arg7 arg9 arg10 arg11 arg12 arg13 arg14 arg15 hB hG hD hU hW hβ hγ).2.1 i j (by omega)) k j

/-- The left half, read for the fourth chunk. -/
theorem v302_real (k : Fin 4096) (j : Fin 32) :
    hopsRun.sl.v302 (F := Ideal) c arg6 arg7 arg9 arg10 arg11 arg12 arg13 arg14 arg15 (arg6.view.rep W) (arg7.view.rep β) (arg9.view.rep B) (arg10.view.rep G) (arg11.view.rep D) (arg12.view.rep U) (ix2 k j) = ((hilo (rU3 b d g u w2 b2) k j : ℝ) : EReal) := by
  unfold hopsRun.sl.v302
  exact read_half arg14 _ _ rfl _ (fun i j hj => (left_real c arg6 arg7 arg9 arg10 arg11 arg12 arg13 arg14 arg15 hB hG hD hU hW hβ hγ).2.2 i j (by omega)) k j

/-- The right half after the second layer's first step. -/
theorem H14_8_real (i : Fin 4096) (j : Fin 64) (hj : 32 ≤ j.val) :
    View.canon (hopsRun.sl.H14_8 (F := Ideal) c arg6 arg7 arg9 arg10 arg11 arg12 arg13 arg14 arg15 (arg6.view.rep W) (arg7.view.rep β) (arg9.view.rep B) (arg10.view.rep G) (arg11.view.rep D) (arg12.view.rep U)) (ix2 i j) = lift2 (rU2 b d g u w2 b2) (ix2 i j) := by
  have hp := readG2 c arg6 arg7 arg9 arg10 arg11 arg12 arg13 arg15 hB hG hD hU hW hβ hγ
  unfold hopsRun.sl.H14_8 hopsRun.sl.H14_7 hopsRun.sl.H14_6 hopsRun.sl.H14_5 hopsRun.sl.r_6 hopsRun.sl.v246 hopsRun.sl.v267 hopsRun.sl.v288 hopsRun.sl.v309
  rw [pay36_eq, pay39_eq, pay38_eq]
  refine canon4 (e := .bf16) (c := 32) (w := 32) (lift2 (rU2 b d g u w2 b2)) (fun x => ?_) (fun x => ?_) (fun x => ?_) (fun x => ?_) _ i j ⟨by omega, by omega⟩
  · exact piece37 arg9 arg11 hB hD hγ 0 (by decide) (v239_real c arg6 arg7 arg9 arg10 arg11 arg12 arg13 arg14 hB hG hD hU hW hβ hγ) (hp 0 (by decide) _) _ _ rfl _ x
  · exact piece37 arg9 arg11 hB hD hγ 1024 (by decide) (v260_real c arg6 arg7 arg9 arg10 arg11 arg12 arg13 arg14 arg15 hB hG hD hU hW hβ hγ) (hp 1024 (by decide) _) _ _ rfl _ x
  · exact piece37 arg9 arg11 hB hD hγ 2048 (by decide) (v281_real c arg6 arg7 arg9 arg10 arg11 arg12 arg13 arg14 arg15 hB hG hD hU hW hβ hγ) (hp 2048 (by decide) _) _ _ rfl _ x
  · exact piece37 arg9 arg11 hB hD hγ 3072 (by decide) (v302_real c arg6 arg7 arg9 arg10 arg11 arg12 arg13 arg14 arg15 hB hG hD hU hW hβ hγ) (hp 3072 (by decide) _) _ _ rfl _ x

/-- The right half, read before the second layer's second step. -/
theorem v323_real (k : Fin 4096) (j : Fin 32) :
    hopsRun.sl.v323 (F := Ideal) c arg6 arg7 arg9 arg10 arg11 arg12 arg13 arg14 arg15 (arg6.view.rep W) (arg7.view.rep β) (arg9.view.rep B) (arg10.view.rep G) (arg11.view.rep D) (arg12.view.rep U) (ix2 k j) = ((hilo (rU2 b d g u w2 b2) k j : ℝ) : EReal) := by
  unfold hopsRun.sl.v323
  exact read_half arg14 _ _ rfl _ (fun i j hj => H14_8_real c arg6 arg7 arg9 arg10 arg11 arg12 arg13 arg14 arg15 hB hG hD hU hW hβ hγ i j (by omega)) k j

/-- The right half while the left one is being written: one lemma for the three lists of pieces in between. -/
theorem right_real : (∀ (i : Fin 4096) (j : Fin 64), 32 ≤ j.val → View.canon (hopsRun.sl.H14_9 (F := Ideal) c arg6 arg7 arg9 arg10 arg11 arg12 arg13 arg14 arg15 (arg6.view.rep W) (arg7.view.rep β) (arg9.view.rep B) (arg10.view.rep G) (arg11.view.rep D) (arg12.view.rep U)) (ix2 i j) = lift2 (rU2 b d g u w2 b2) (ix2 i j))
    ∧ (∀ (i : Fin 4096) (j : Fin 64), 32 ≤ j.val → View.canon (hopsRun.sl.H14_10 (F := Ideal) c arg6 arg7 arg9 arg10 arg11 arg12 arg13 arg14 arg15 (arg6.view.rep W) (arg7.view.rep β) (arg9.view.rep B) (arg10.view.rep G) (arg11.view.rep D) (arg12.view.rep U)) (ix2 i j) = lift2 (rU2 b d g u w2 b2) (ix2 i j))
    ∧ (∀ (i : Fin 4096) (j : Fin 64), 32 ≤ j.val → View.canon (hopsRun.sl.H14_11 (F := Ideal) c arg6 arg7 arg9 arg10 arg11 arg12 arg13 arg14 arg15 (arg6.view.rep W) (arg7.view.rep β) (arg9.view.rep B) (arg10.view.rep G) (arg11.view.rep D) (arg12.view.rep U)) (ix2 i j) = lift2 (rU2 b d g u w2 b2) (ix2 i j)) := by
  have h5 : ∀ (i : Fin 4096) (j : Fin 64), 32 ≤ j.val → View.canon (hopsRun.sl.H14_9 (F := Ideal) c arg6 arg7 arg9 arg10 arg11 arg12 arg13 arg14 arg15 (arg6.view.rep W) (arg7.view.rep β) (arg9.view.rep B) (arg10.view.rep G) (arg11.view.rep D) (arg12.view.rep U)) (ix2 i j) = lift2 (rU2 b d g u w2 b2) (ix2 i j) := by
    intro i j hj; unfold hopsRun.sl.H14_9
    exact (canon_skip _ i j (by omega)).trans (H14_8_real c arg6 arg7 arg9 arg10 arg11 arg12 arg13 arg14 arg15 hB hG hD hU hW hβ hγ i j hj)
  have h6 : ∀ (i : Fin 4096) (j : Fin 64), 32 ≤ j.val → View.canon (hopsRun.sl.H14_10 (F := Ideal) c arg6 arg7 arg9 arg10 arg11 arg12 arg13 arg14 arg15 (arg6.view.rep W) (arg7.view.rep β) (arg9.view.rep B) (arg10.view.rep G) (arg11.view.rep D) (arg12.view.rep U)) (ix2 i j) = lift2 (rU2 b d g u w2 b2) (ix2 i j) := by
    intro i j hj; unfold hopsRun.sl.H14_10
    exact (canon_skip _ i j (by omega)).trans (h5 i j hj)
  refine ⟨h5, h6, fun i j hj => ?_⟩
  unfold hopsRun.sl.H14_11
  exact (canon_skip _ i j (by omega)).trans (h6 i j hj)

/-- The right half, read for the second chunk. -/
theorem v344_real (k : Fin 4096) (j : Fin 32) :
    hopsRun.sl.v344 (F := Ideal) c arg6 arg7 arg9 arg10 arg11 arg12 arg13 arg14 arg15 (arg6.view.rep W) (arg7.view.rep β) (arg9.view.rep B) (arg10.view.rep G) (arg11.view.rep D) (arg12.view.rep U) (ix2 k j) = ((hilo (rU2 b d g u w2 b2) k j : ℝ) : EReal) := by
  unfold hopsRun.sl.v344
  exact read_half arg14 _ _ rfl _ (fun i j hj => (right_real c arg6 arg7 arg9 arg10 arg11 arg12 arg13 arg14 arg15 hB hG hD hU hW hβ hγ).1 i j (by omega)) k j

/-- The right half, read for the third chunk. -/
theorem v365_real (k : Fin 4096) (j : Fin 32) :
    hopsRun.sl.v365 (F := Ideal) c arg6 arg7 arg9 arg10 arg11 arg12 arg13 arg14 arg15 (arg6.view.rep W) (arg7.view.rep β) (arg9.view.rep B) (arg10.view.rep G) (arg11.view.rep D) (arg12.view.rep U) (ix2 k j) = ((hilo (rU2 b d g u w2 b2) k j : ℝ) : EReal) := by
  unfold hopsRun.sl.v365
  exact read_half arg14 _ _ rfl _ (fun i j hj => (right_real c arg6 arg7 arg9 arg10 arg11 arg12 arg13 arg14 arg15 hB hG hD hU hW hβ hγ).2.1 i j (by omega)) k j

/-- The right half, read for the fourth chunk. -/
theorem v386_real (k : Fin 4096) (j : Fin 32) :
    hopsRun.sl.v386 (F := Ideal) c arg6 arg7 arg9 arg10 arg11 arg12 arg13 arg14 arg15 (arg6.view.rep W) (arg7.view.rep β) (arg9.view.rep B) (arg10.view.rep G) (arg11.view.rep D) (arg12.view.rep U) (ix2 k j) = ((hilo (rU2 b d g u w2 b2) k j : ℝ) : EReal) := by
  unfold hopsRun.sl.v386
  exact read_half arg14 _ _ rfl _ (fun i j hj => (right_real c arg6 arg7 arg9 arg10 arg11 arg12 arg13 arg14 arg15 hB hG hD hU hW hβ hγ).2.2 i j (by omega)) k j

/-- The left half after the second layer's second step. -/
theorem H14_12_real (i : Fin 4096) (j : Fin 64) (hj : j.val < 32) :
    View.canon (hopsRun.sl.H14_12 (F := Ideal) c arg6 arg7 arg9 arg10 arg11 arg12 arg13 arg14 arg15 (arg6.view.rep W) (arg7.view.rep β) (arg9.view.rep B) (arg10.view.rep G) (arg11.view.rep D) (arg12.view.rep U)) (ix2 i j) = lift2 (rU1 b d g u w2 b2) (ix2 i j) := by
  have hp := readG2 c arg6 arg7 arg9 arg10 arg11 arg12 arg13 arg15 hB hG hD hU hW hβ hγ
  unfold hopsRun.sl.H14_12 hopsRun.sl.H14_11 hopsRun.sl.H14_10 hopsRun.sl.H14_9 hopsRun.sl.r_8 hopsRun.sl.r_9 hopsRun.sl.r_10 hopsRun.sl.v246 hopsRun.sl.v267 hopsRun.sl.v288 hopsRun.sl.v309
  rw [pay46_eq, pay43_eq, pay42_eq]
  refine canon4 (e := .bf16) (c := 0) (w := 32) (lift2 (rU1 b d g u w2 b2)) (fun x => ?_) (fun x => ?_) (fun x => ?_) (fun x => ?_) _ i j ⟨by omega, by omega⟩
  · exact piece40 arg9 arg11 hB hD hγ 0 (by decide) (v323_real c arg6 arg7 arg9 arg10 arg11 arg12 arg13 arg14 arg15 hB hG hD hU hW hβ hγ) (hp 0 (by decide) _) _ _ rfl _ x
  · exact piece40 arg9 arg11 hB hD hγ 1024 (by decide) (v344_real c arg6 arg7 arg9 arg10 arg11 arg12 arg13 arg14 arg15 hB hG hD hU hW hβ hγ) (hp 1024 (by decide) _) _ _ rfl _ x
  · exact piece40 arg9 arg11 hB hD hγ 2048 (by decide) (v365_real c arg6 arg7 arg9 arg10 arg11 arg12 arg13 arg14 arg15 hB hG hD hU hW hβ hγ) (hp 2048 (by decide) _) _ _ rfl _ x
  · exact piece40 arg9 arg11 hB hD hγ 3072 (by decide) (v386_real c arg6 arg7 arg9 arg10 arg11 arg12 arg13 arg14 arg15 hB hG hD hU hW hβ hγ) (hp 3072 (by decide) _) _ _ rfl _ x

/-- The left half, read before the last step. -/
theorem v407_real (k : Fin 4096) (j : Fin 32) :
    hopsRun.sl.v407 (F := Ideal) c arg6 arg7 arg9 arg10 arg11 arg12 arg13 arg14 arg15 (arg6.view.rep W) (arg7.view.rep β) (arg9.view.rep B) (arg10.view.rep G) (arg11.view.rep D) (arg12.view.rep U) (ix2 k j) = ((hilo (rU1 b d g u w2 b2) k j : ℝ) : EReal) := by
  unfold hopsRun.sl.v407
  exact read_half arg14 _ _ rfl _ (fun i j hj => H14_12_real c arg6 arg7 arg9 arg10 arg11 arg12 arg13 arg14 arg15 hB hG hD hU hW hβ hγ i j (by omega)) k j

set_option maxHeartbeats 1000000 in
/-- The encoder's output window after the last point. -/
theorem run_real (p : grid0.Coords) (h1 : ¬ k0_cond1 p = 1#1) (h2 : k0_cond2 p = 1#1) (arg1 : Memref sig .tc .vmem S128x2048 .f32) (harg1 : arg1.IsWhole) (arg2 : Memref sig .tc .vmem S128x2048 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512 .f32) (harg5 : arg5.IsWhole) (harg6 : arg6.IsWhole) (harg7 : arg7.IsWhole) (arg8 : Memref sig .tc .vmem S4096x16 .f32) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (i : Fin 4096) (j : Fin 16) :
    View.canon (hopsRun (F := Ideal) c p h1 h2 arg1 harg1 arg2 harg2 arg3 harg3 arg4 harg4 arg5 harg5 arg6 harg6 arg7 harg7 arg8 harg8 arg9 harg9 arg10 harg10 arg11 harg11 arg12 harg12 arg13 harg13 arg14 harg14 arg15 harg15 (arg6.view.rep W) (arg7.view.rep β) (arg9.view.rep B) (arg10.view.rep G) (arg11.view.rep D) (arg12.view.rep U)).1 (ix2 i j) = ((rZ b d g u w2 b2 i j : ℝ) : EReal) + γ ⟨j.val, by omega⟩ := by
  have hp := readG2 c arg6 arg7 arg9 arg10 arg11 arg12 arg13 arg15 hB hG hD hU hW hβ hγ
  have hs := v407_real c arg6 arg7 arg9 arg10 arg11 arg12 arg13 arg14 arg15 hB hG hD hU hW hβ hγ
  unfold hopsRun; dsimp only
  unfold hopsRun.sl.r_11 hopsRun.sl.r_12 hopsRun.sl.v246 hopsRun.sl.v267 hopsRun.sl.v288 hopsRun.sl.v309
  rw [pay50_eq, pay49_eq, pay48_eq]
  refine (canon4 (e := .f32) (c := 0) (w := 16) (liftγ (rZ b d g u w2 b2) (fun j => γ ⟨j.val, by omega⟩)) (fun x => ?_) (fun x => ?_) (fun x => ?_) (fun x => ?_) [] i j ⟨by omega, by omega⟩).trans ?_
  · exact piece47 arg9 arg11 hB hD 0 (by decide) hs (hp 0 (by decide) _) _ _ _ x
  · exact piece47 arg9 arg11 hB hD 1024 (by decide) hs (hp 1024 (by decide) _) _ _ _ x
  · exact piece47 arg9 arg11 hB hD 2048 (by decide) hs (hp 2048 (by decide) _) _ _ _ x
  · exact piece47 arg9 arg11 hB hD 3072 (by decide) hs (hp 3072 (by decide) _) _ _ _ x
  · simp only [liftγ, ix2_0, ix2_1]

end Stages

end Cert.KernelIdeal.Val

end
-- ==== Proof.Val.Enc.lean ====
/-
  The encoder's call over the reals: what its result array holds, given that the features, the weights and the biases
  it reads are real arrays.
-/
module

public import proofs.«01_k».proof.Proof.Val.Stages
public import proofs.«01_k».proof.Proof.Enc.Data
public import Idealize.ShloMosaic.Lib.Pipeline.ValueKit

@[expose] public section

set_option maxRecDepth 16384

noncomputable section

namespace Cert.KernelIdeal.Val

open Cert.KernelIdeal Cert.KernelIdeal.Gen Cert.KernelIdeal.Enc
open Idealize.ShloMosaic Idealize.ShloMosaic.TcCoe Idealize.SL.Sem

/-- Whether an entry is nonzero, as 0 or 1. -/
def eR (A : (⟨2, ![4096, 4096]⟩ : Shape).Idx → EReal) (i k : Fin 4096) : ℝ := if A (ix2 i k) = 0 then 0 else 1
/-- One over the root of a row's number of nonzero entries, 0 where there is none. -/
def dR (A : (⟨2, ![4096, 4096]⟩ : Shape).Idx → EReal) (i : Fin 4096) : ℝ := if 0 < ∑ k, eR A i k then (Real.sqrt (∑ k, eR A i k))⁻¹ else 0

/-- The mask of an entry, as the scan computes it. -/
theorem mask_real (a : EReal) : (FloatOps.sitofp (F := Ideal) FTy.f32 (BitVec.setWidth 32 (BitVec.ofBool (decide (a ≠ 0)))) : EReal) = (((if a = 0 then 0 else 1 : ℝ)) : EReal) := by
  by_cases h : a = 0
  · simp only [h, ne_eq, not_true, decide_false, if_true]; simp [FloatOps.sitofp]
  · simp only [h, ne_eq, not_false_iff, decide_true, if_false]; simp [FloatOps.sitofp]

/-- The inverse root of a real degree. -/
theorem rsqrt_real (s : ℝ) : (if (0 : EReal) < (s : EReal) then Ideal.rsqrt (s : EReal) else 0) = (((if 0 < s then (Real.sqrt s)⁻¹ else 0 : ℝ)) : EReal) := by
  by_cases h : 0 < s
  · rw [if_pos (by exact_mod_cast h), if_pos h]
    show (if s < 0 then ⊥ else if s = 0 then ⊤ else ((Real.sqrt s)⁻¹ : ℝ) : EReal) = _
    rw [if_neg (by linarith), if_neg (by linarith)]
  · rw [if_neg (by exact_mod_cast h), if_neg h]; rfl

section Blocks

variable (V : (c : Dev nD) → (b : Ref sig .tc) → Buf (Elt Ideal) ((c : Thread nD τ).loc b)) (c : Dev nD)

/-- The windows' index maps, all points at once. -/
theorem idx0 : ∀ t : Fin cfg0.N, win0_0.index t = ![min t.val 31, 0] ∧ win0_1.index t = ![min t.val 31, 1] ∧ win0_2.index t = ![min t.val 31, 0]
    ∧ win0_3.index t = ![0, 0] ∧ win0_4.index t = ![0] ∧ win0_5.index t = ![0, 0] ∧ win0_6.index t = ![0] ∧ win0_7.index t = ![0, 0] :=
  (by decide +kernel : ∀ t : Fin grid0.N, _)

/-- The left panel's block. -/
theorem blk0_0 (t : Fin cfg0.N) (i : Fin 128) (j : Fin 2048) :
    (iblk0 V c 0 t : S128x2048.Idx → EReal) (ix2 i j) = V c main_arg1 (ix2 ⟨min t.val 31 * 128 + i.val, by have := i.isLt; omega⟩ ⟨j.val, by omega⟩) := by
  blk_ext [iblk0, idx0 t]
/-- The right panel's block. -/
theorem blk0_1 (t : Fin cfg0.N) (i : Fin 128) (j : Fin 2048) :
    (iblk0 V c 1 t : S128x2048.Idx → EReal) (ix2 i j) = V c main_arg1 (ix2 ⟨min t.val 31 * 128 + i.val, by have := i.isLt; omega⟩ ⟨2048 + j.val, by omega⟩) := by
  blk_ext [iblk0, idx0 t]
/-- The features' block. -/
theorem blk0_2 (t : Fin cfg0.N) (i : Fin 128) (j : Fin 512) :
    (iblk0 V c 2 t : S128x512.Idx → EReal) (ix2 i j) = V c main_arg0 (ix2 ⟨min t.val 31 * 128 + i.val, by have := i.isLt; omega⟩ j) := by
  blk_ext [iblk0, idx0 t]
/-- The weights, whole. -/
theorem blk0_3 (t : Fin cfg0.N) (i : Fin 512) (j : Fin 512) : (iblk0 V c 3 t : S512x512.Idx → EReal) (ix2 i j) = V c main_v2 (ix2 i j) := by
  blk_ext [iblk0, idx0 t]
/-- The bias, whole. -/
theorem blk0_4 (t : Fin cfg0.N) (j : Fin 512) : (iblk0 V c 4 t : S512.Idx → EReal) (ix1 j) = V c main_v4 (ix1 j) := by
  blk_ext [iblk0, idx0 t]
/-- The second layer's weights, whole. -/
theorem blk0_5 (t : Fin cfg0.N) (i : Fin 128) (j : Fin 64) : (iblk0 V c 5 t : S128x64.Idx → EReal) (ix2 i j) = V c main_v17 (ix2 i j) := by
  blk_ext [iblk0, idx0 t]
/-- The second layer's bias, whole. -/
theorem blk0_6 (t : Fin cfg0.N) (j : Fin 64) : (iblk0 V c 6 t : S64.Idx → EReal) (ix1 j) = V c main_v20 (ix1 j) := by
  blk_ext [iblk0, idx0 t]

/-- The grid point of row `r` is a scanning one, and its rows are the row's. -/
theorem row_of (r : Fin 4096) : (⟨min (rowPt r).val 31 * 128 + (rowIn r).val, by have := (rowIn r).isLt; omega⟩ : Fin 4096) = r :=
  Fin.ext (by
    show min (r.val / 128) 31 * 128 + r.val % 128 = r.val
    have := r.isLt; omega)

/-- The left panel's mask. -/
theorem pay6_real (v : Vec Ideal S128x2048 .f32) (i : Fin 128) (j : Fin 2048) : k0_pay6 v (ix2 i j) = ((if v (ix2 i j) = (0 : EReal) then 0 else 1 : ℝ) : EReal) := by
  pointwise [k0_pay6, k0_pay4]
  exact mask_real _
/-- The right panel's mask. -/
theorem pay7_real (v : Vec Ideal S128x2048 .f32) (i : Fin 128) (j : Fin 2048) : k0_pay7 v (ix2 i j) = ((if v (ix2 i j) = (0 : EReal) then 0 else 1 : ℝ) : EReal) := by
  pointwise [k0_pay7, k0_pay5]
  exact mask_real _

/-- The mask buffer. -/
theorem BV_real (i k : Fin 4096) : (BV V c : S4096x4096.Idx → EReal) (ix2 i k) = ((eR (V c main_arg1) i k : ℝ) : EReal) := by
  unfold BV
  by_cases h : k.val < 2048
  · refine (dif_pos h).trans ((pay6_real (iblk0 V c 0 (rowPt i)) (rowIn i) ⟨k.val, h⟩).trans ?_)
    rw [blk0_0, row_of]; rfl
  · have hk := k.isLt
    refine (dif_neg h).trans ((pay7_real (iblk0 V c 1 (rowPt i)) (rowIn i) ⟨k.val - 2048, by omega⟩).trans ?_)
    rw [blk0_1, row_of]
    rw [show (⟨2048 + (k.val - 2048), by omega⟩ : Fin 4096) = k from Fin.ext (by show 2048 + (k.val - 2048) = k.val; omega)]
    rfl

/-- A sum over 4096 columns, as the sums over its two halves. -/
theorem sum_halves (f : Fin 4096 → ℝ) : (∑ x : Fin 2048, f ⟨x.val, by omega⟩) + ∑ x : Fin 2048, f ⟨2048 + x.val, by omega⟩ = ∑ k, f k :=
  (Fin.sum_univ_add (a := 2048) (b := 2048) f).symm

/-- The inverse root degree, broadcast along a row. -/
theorem pay8_real (r : Fin 4096) (j : Fin 128) :
    k0_pay8 (F := Ideal) (iblk0 V c 0 (rowPt r)) (iblk0 V c 1 (rowPt r)) (ix2 (rowIn r) j) = ((dR (V c main_arg1) r : ℝ) : EReal) := by
  pointwise [k0_pay8, k0_pay4, k0_pay5]
  simp only [mask_real, blk0_0, blk0_1, row_of]
  have h : (∑ x : Fin 2048, (((if V c main_arg1 (ix2 r ⟨x.val, by omega⟩) = (0 : EReal) then 0 else 1 : ℝ)) : EReal)
      + ∑ x : Fin 2048, (((if V c main_arg1 (ix2 r ⟨2048 + x.val, by omega⟩) = (0 : EReal) then 0 else 1 : ℝ)) : EReal)) = ((∑ k, eR (V c main_arg1) r k : ℝ) : EReal) := by
    rw [coe_sum, coe_sum, ← EReal.coe_add]
    exact congrArg _ (sum_halves (eR (V c main_arg1) r))
  rw [h]
  exact rsqrt_real _

/-- The scaling buffer. -/
theorem DV_real (i : Fin 4096) (j : Fin 128) : (DV V c : S4096x128.Idx → EReal) (ix2 i j) = ((dR (V c main_arg1) i : ℝ) : EReal) := by
  refine Eq.trans ?_ (pay8_real V c i j)
  show k0_pay9 (F := Ideal) (iblk0 V c 0 (rowPt i)) (iblk0 V c 1 (rowPt i)) (ix2 (rowIn i) j) = _
  pointwise [k0_pay9]

variable {x : Fin 4096 → Fin 512 → ℝ} {w : Fin 512 → Fin 512 → ℝ} {b : Fin 512 → ℝ} {w2 : Fin 128 → Fin 64 → ℝ} {b2 : Fin 64 → ℝ}
  (hx : ∀ i l, V c main_arg0 (ix2 i l) = ((x i l : ℝ) : EReal)) (hw : ∀ l j, V c main_v2 (ix2 l j) = ((w l j : ℝ) : EReal))
  (hb : ∀ j, V c main_v4 (ix1 j) = ((b j : ℝ) : EReal))
  (hw2 : ∀ l j, V c main_v17 (ix2 l j) = ((w2 l j : ℝ) : EReal)) {γ : Fin 64 → EReal} (hb2 : ∀ j, V c main_v20 (ix1 j) = ((b2 j : ℝ) : EReal) + γ j) (hγ : ∀ j : Fin 64, 16 ≤ j.val → γ j = 0)

/-- The first layer's products, all four column groups side by side. -/
def rG (x : Fin 4096 → Fin 512 → ℝ) (w : Fin 512 → Fin 512 → ℝ) (b : Fin 512 → ℝ) (i : Fin 4096) (j : Fin 512) : ℝ := ∑ l, x i l * w l j + b j

include hx hw hb

/-- The first layer's products of a row. -/
theorem pay1_real (i : Fin 4096) (j : Fin 512) :
    k0_pay1 (F := Ideal) (iblk0 V c 2 (rowPt i)) (iblk0 V c 3 (rowPt i)) (iblk0 V c 4 (rowPt i)) (ix2 (rowIn i) j) = ((rG x w b i j : ℝ) : EReal) := by
  pointwise [k0_pay1]
  simp only [blk0_2, blk0_3, blk0_4, row_of, hx, hw, hb, ← EReal.coe_mul, coe_sum, ← EReal.coe_add]
  rfl

/-- The buffer of the first three column groups. -/
theorem GV_real (i : Fin 4096) (j : Fin 384) : (GV V c : S4096x384.Idx → EReal) (ix2 i j) = ((rG x w b i ⟨j.val, by omega⟩ : ℝ) : EReal) := by
  refine Eq.trans ?_ (pay1_real V c hx hw hb i ⟨j.val, by omega⟩)
  show k0_pay2 (F := Ideal) (iblk0 V c 2 (rowPt i)) (iblk0 V c 3 (rowPt i)) (iblk0 V c 4 (rowPt i)) (ix2 (rowIn i) j) = _
  pointwise [k0_pay2]

/-- The buffer of the scaled last column group. -/
theorem UAV_real (i : Fin 4096) (j : Fin 128) :
    (UAV V c : S4096x128.Idx → EReal) (ix2 i j) = ((dR (V c main_arg1) i * rG x w b i ⟨384 + j.val, by omega⟩ : ℝ) : EReal) := by
  rw [EReal.coe_mul, ← pay1_real V c hx hw hb i ⟨384 + j.val, by omega⟩, ← pay8_real V c i j]
  show k0_pay3 (F := Ideal) (k0_pay8 (iblk0 V c 0 (rowPt i)) (iblk0 V c 1 (rowPt i))) (iblk0 V c 2 (rowPt i)) (iblk0 V c 3 (rowPt i)) (iblk0 V c 4 (rowPt i)) (ix2 (rowIn i) j) = _
  pointwise [k0_pay3]

include hw2 hb2 hγ

/-- The encoder's output as a real array of the adjacency matrix's nonzero pattern. -/
def encR (A : (⟨2, ![4096, 4096]⟩ : Shape).Idx → EReal) (x : Fin 4096 → Fin 512 → ℝ) (w : Fin 512 → Fin 512 → ℝ) (b : Fin 512 → ℝ)
    (w2 : Fin 128 → Fin 64 → ℝ) (b2 : Fin 64 → ℝ) : Fin 4096 → Fin 16 → ℝ :=
  rZ (eR A) (dR A) (fun i j => rG x w b i ⟨j.val, by omega⟩) (fun i j => dR A i * rG x w b i ⟨384 + j.val, by omega⟩) w2 b2

/-- The first sixteen entries of the second layer's bias. -/
def lane (γ : Fin 64 → EReal) (j : Fin 16) : EReal := γ ⟨j.val, by omega⟩

/-- What the output window holds after the last point. -/
theorem ZV_real (t : Fin cfg0.N) (ht : t.val = 32) (i : Fin 4096) (j : Fin 16) :
    (ZV V c t : S4096x16.Idx → EReal) (ix2 i j) = ((encR (V c main_arg1) x w b w2 b2 i j : ℝ) : EReal) + lane γ j := by
  unfold ZV
  have h : ¬ k0_cond1 (grid0.coords t) = 1#1 ∧ k0_cond2 (grid0.coords t) = 1#1 := ⟨fun h => by have := (cond1_iff t).1 h; omega, (cond2_iff t).2 ht⟩
  rw [dif_pos h]
  unfold zPieces
  exact run_real c _ _ _ _ _ _ _ _ _ (BV_real V c) (GV_real V c hx hw hb) (DV_real V c) (UAV_real V c hx hw hb)
    (fun l j => (blk0_5 V c t l j).trans (hw2 l j)) (fun j => (blk0_6 V c t j).trans (hb2 j)) hγ _ _ _ _ _ _ _ _ _ _ _ _ _ _ _ _ _ _ _ _ _ _ _ _ i j

/-- The encoder's result array after the call. -/
theorem arr0_7 (i : Fin 4096) (j : Fin 16) :
    ((dat0 V c).arrAt 7 cfg0.N : S4096x16.Idx → EReal) (ix2 i j) = ((encR (V c main_arg1) x w b w2 b2 i j : ℝ) : EReal) + lane γ j := by
  have h : (dat0 V c).arrAt 7 cfg0.N = (fun y : S4096x16.Idx => ((encR (V c main_arg1) x w b w2 b2 (y 0) (y 1) : ℝ) : EReal) + lane γ (y 1)) := by
    refine (dat0 V c).arrAt_eq_of_covers 7 _ (by decide +kernel) fun t ht y => ?_
    blk_simp
    rw [after0_7]
    have h32 : t.val = 32 := (by decide +kernel : ∀ t : Fin grid0.N, win0_7.flush t = true → t.val = 32) t ht
    have e : ∀ y : S4096x16.Idx, (win0_7.blk t).view.emb y = y := fun y => by blk_ext [idx0 t]
    rw [e]
    obtain ⟨p, q, rfl⟩ : ∃ p q, y = ix2 p q := ⟨y 0, y 1, by blk_ext⟩
    exact ZV_real V c hx hw hb hw2 hb2 hγ t h32 p q
  rw [h]; rfl

end Blocks

end Cert.KernelIdeal.Val

end
-- ==== Proof.Val.Alg.lean ====
/-
  The encoder's real arithmetic: applying the adjacency after the weights, step by step, gives the sum of the powers'
  products that the definition of the layer writes.
-/
module

public import proofs.«01_k».proof.Proof.Val.Enc

@[expose] public section

noncomputable section

namespace Cert.KernelIdeal.Val

/-- The normalised matrix of a pattern and its scales. -/
def nm (b : Fin 4096 → Fin 4096 → ℝ) (d : Fin 4096 → ℝ) (i k : Fin 4096) : ℝ := b i k * d i * d k
/-- A matrix applied to a column. -/
def app (M : Fin 4096 → Fin 4096 → ℝ) (v : Fin 4096 → ℝ) (i : Fin 4096) : ℝ := ∑ k, M i k * v k
/-- A matrix applied to columns. -/
def hopR {n : ℕ} (M : Fin 4096 → Fin 4096 → ℝ) (x : Fin 4096 → Fin n → ℝ) (i : Fin 4096) (j : Fin n) : ℝ := ∑ k, M i k * x k j
/-- One column of the layer: the four powers of the matrix on the features, each with its weights, and the bias. -/
def conv {n : ℕ} (M : Fin 4096 → Fin 4096 → ℝ) (x : Fin 4096 → Fin n → ℝ) (w0 w1 w2 w3 : Fin n → ℝ) (β : ℝ) (i : Fin 4096) : ℝ :=
  ∑ l, x i l * w0 l + ∑ l, hopR M x i l * w1 l + ∑ l, hopR M (hopR M x) i l * w2 l + ∑ l, hopR M (hopR M (hopR M x)) i l * w3 l + β
/-- The same column by nesting: the weights first, the matrix after. -/
def horner (M : Fin 4096 → Fin 4096 → ℝ) (g0 g1 g2 g3 : Fin 4096 → ℝ) (i : Fin 4096) : ℝ :=
  g0 i + app M (fun k => g1 k + app M (fun k => g2 k + app M g3 k) k) i

theorem app_add (M : Fin 4096 → Fin 4096 → ℝ) (u v : Fin 4096 → ℝ) (i : Fin 4096) : app M (fun k => u k + v k) i = app M u i + app M v i := by
  unfold app
  rw [← Finset.sum_add_distrib]
  exact Finset.sum_congr rfl fun k _ => mul_add _ _ _

/-- The matrix after the weights is the weights after the matrix. -/
theorem app_lin {n : ℕ} (M : Fin 4096 → Fin 4096 → ℝ) (x : Fin 4096 → Fin n → ℝ) (w : Fin n → ℝ) (i : Fin 4096) :
    app M (fun k => ∑ l, x k l * w l) i = ∑ l, hopR M x i l * w l := by
  unfold app hopR
  simp only [Finset.mul_sum, Finset.sum_mul]
  rw [Finset.sum_comm]
  exact Finset.sum_congr rfl fun l _ => Finset.sum_congr rfl fun k _ => (mul_assoc _ _ _).symm

/-- The nested column is the layer's. -/
theorem horner_conv {n : ℕ} (M : Fin 4096 → Fin 4096 → ℝ) (x : Fin 4096 → Fin n → ℝ) (w0 w1 w2 w3 : Fin n → ℝ) (β : ℝ) (i : Fin 4096) :
    horner M (fun k => ∑ l, x k l * w0 l + β) (fun k => ∑ l, x k l * w1 l) (fun k => ∑ l, x k l * w2 l) (fun k => ∑ l, x k l * w3 l) i = conv M x w0 w1 w2 w3 β i := by
  have e : ∀ (y : Fin 4096 → Fin n → ℝ) (w : Fin n → ℝ), app M (fun k => ∑ l, y k l * w l) = fun k => ∑ l, hopR M y k l * w l := fun y w => funext fun k => app_lin M y w k
  unfold horner conv
  rw [app_add, e x w1]
  have s : app M (fun k => ∑ l, x k l * w2 l + app M (fun k => ∑ l, x k l * w3 l) k) = fun k => ∑ l, hopR M x k l * w2 l + ∑ l, hopR M (hopR M x) k l * w3 l := by
    funext k
    rw [app_add, e x w2, e x w3, e (hopR M x) w3]
  rw [s, app_add, e (hopR M x) w2, e (hopR M (hopR M x)) w3]
  ring

section Scaled

variable (b : Fin 4096 → Fin 4096 → ℝ) (d : Fin 4096 → ℝ)

/-- A scaled step of scaled columns is the normalised matrix's. -/
theorem scaled (y : Fin 4096 → ℝ) (i : Fin 4096) : d i * ∑ k, b i k * (d k * y k) = app (nm b d) y i := by
  unfold app nm
  rw [Finset.mul_sum]
  exact Finset.sum_congr rfl fun k _ => by ring

variable (g : Fin 4096 → Fin 384 → ℝ) (g3 : Fin 4096 → Fin 128 → ℝ) (w2 : Fin 128 → Fin 64 → ℝ) (b2 : Fin 64 → ℝ)

theorem rUB_nested (i : Fin 4096) (j : Fin 128) : rUB b d g (fun i j => d i * g3 i j) i j = d i * (g i ⟨256 + j.val, by omega⟩ + app (nm b d) (fun k => g3 k j) i) := by
  unfold rUB
  rw [scaled]
theorem rUA_nested (i : Fin 4096) (j : Fin 128) : rUA b d g (fun i j => d i * g3 i j) i j
    = d i * (g i ⟨128 + j.val, by omega⟩ + app (nm b d) (fun k => g k ⟨256 + j.val, by omega⟩ + app (nm b d) (fun k => g3 k j) k) i) := by
  unfold rUA
  simp only [rUB_nested]
  rw [scaled]

/-- The second layer's products, by the first layer's nested columns. -/
theorem rG2_nested (i : Fin 4096) (j : Fin 64) : rG2 b d g (fun i j => d i * g3 i j) w2 b2 i j
    = ∑ l : Fin 128, max (horner (nm b d) (fun k => g k ⟨l.val, by omega⟩) (fun k => g k ⟨128 + l.val, by omega⟩) (fun k => g k ⟨256 + l.val, by omega⟩) (fun k => g3 k l) i) 0 * w2 l j + b2 j := by
  unfold rG2 rP horner
  simp only [rUA_nested, scaled]

/-- The encoder's output, by the second layer's nested columns. -/
theorem rZ_nested (u : Fin 4096 → Fin 128 → ℝ) (i : Fin 4096) (j : Fin 16) : rZ b d g u w2 b2 i j
    = horner (nm b d) (fun k => rG2 b d g u w2 b2 k ⟨j.val, by omega⟩) (fun k => rG2 b d g u w2 b2 k ⟨16 + j.val, by omega⟩) (fun k => rG2 b d g u w2 b2 k ⟨32 + j.val, by omega⟩) (fun k => rG2 b d g u w2 b2 k ⟨48 + j.val, by omega⟩) i := by
  have e2 : ∀ k, rU2 b d g u w2 b2 k j = d k * (rG2 b d g u w2 b2 k ⟨32 + j.val, by omega⟩ + app (nm b d) (fun k => rG2 b d g u w2 b2 k ⟨48 + j.val, by omega⟩) k) := fun k => by
    unfold rU2 rU3
    rw [scaled]
  have e1 : ∀ k, rU1 b d g u w2 b2 k j = d k * (rG2 b d g u w2 b2 k ⟨16 + j.val, by omega⟩ + app (nm b d) (fun k => rG2 b d g u w2 b2 k ⟨32 + j.val, by omega⟩ + app (nm b d) (fun k => rG2 b d g u w2 b2 k ⟨48 + j.val, by omega⟩) k) k) := fun k => by
    unfold rU1
    simp only [e2]
    rw [scaled]
  unfold rZ horner
  simp only [e1]
  rw [scaled]

end Scaled

/-- The encoder's result is the two layers' definition, when the padded biases are zero. -/
theorem encR_conv (A : (⟨2, ![4096, 4096]⟩ : Idealize.ShloMosaic.Shape).Idx → EReal) (x : Fin 4096 → Fin 512 → ℝ) (w : Fin 512 → Fin 512 → ℝ) (b : Fin 512 → ℝ) (w2 : Fin 128 → Fin 64 → ℝ) (b2 : Fin 64 → ℝ)
    (hb : ∀ j : Fin 512, 128 ≤ j.val → b j = 0) (hb2 : ∀ j : Fin 64, 15 ≤ j.val → b2 j = 0) (i : Fin 4096) (j : Fin 16) :
    encR A x w b w2 b2 i j = conv (nm (eR A) (dR A))
      (fun k (l : Fin 128) => max (conv (nm (eR A) (dR A)) x (fun q => w q ⟨l.val, by omega⟩) (fun q => w q ⟨128 + l.val, by omega⟩) (fun q => w q ⟨256 + l.val, by omega⟩) (fun q => w q ⟨384 + l.val, by omega⟩) (b ⟨l.val, by omega⟩) k) 0)
      (fun l => w2 l ⟨j.val, by omega⟩) (fun l => w2 l ⟨16 + j.val, by omega⟩) (fun l => w2 l ⟨32 + j.val, by omega⟩) (fun l => w2 l ⟨48 + j.val, by omega⟩) (b2 ⟨j.val, by omega⟩) i := by
  have z1 : ∀ l : Fin 128, b ⟨128 + l.val, by omega⟩ = 0 := fun l => hb _ (by show 128 ≤ 128 + l.val; omega)
  have z2 : ∀ l : Fin 128, b ⟨256 + l.val, by omega⟩ = 0 := fun l => hb _ (by show 128 ≤ 256 + l.val; omega)
  have z3 : ∀ l : Fin 128, b ⟨384 + l.val, by omega⟩ = 0 := fun l => hb _ (by show 128 ≤ 384 + l.val; omega)
  have y1 : b2 ⟨16 + j.val, by omega⟩ = 0 := hb2 _ (by show 15 ≤ 16 + j.val; omega)
  have y2 : b2 ⟨32 + j.val, by omega⟩ = 0 := hb2 _ (by show 15 ≤ 32 + j.val; omega)
  have y3 : b2 ⟨48 + j.val, by omega⟩ = 0 := hb2 _ (by show 15 ≤ 48 + j.val; omega)
  unfold encR
  rw [rZ_nested]
  simp only [rG2_nested, rG, y1, y2, y3, z1, z2, z3, add_zero]
  simp only [horner_conv]

end Cert.KernelIdeal.Val
-- ==== Proof.Val.RefZ.lean ====
/-
  The reference's encoder over the reals.
-/
module

public import proofs.«01_k».proof.Proof.Val.Ref
public import proofs.«01_k».proof.Proof.Val.Alg

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.SL.Sem
open Cert.KernelIdeal.Val (lin relu mat vec conv hopR coe_sum)

/-- A sum over four equal runs. -/
theorem sum_four {n N : ℕ} (h : N = n + n + n + n) (f : Fin N → EReal) :
    ∑ r, f r = ∑ l : Fin n, f ⟨l.val, by omega⟩ + ∑ l : Fin n, f ⟨n + l.val, by omega⟩ + ∑ l : Fin n, f ⟨2 * n + l.val, by omega⟩ + ∑ l : Fin n, f ⟨3 * n + l.val, by omega⟩ := by
  subst h
  rw [Fin.sum_univ_add, Fin.sum_univ_add, Fin.sum_univ_add]
  refine congrArg₂ (· + ·) (congrArg₂ (· + ·) rfl (Finset.sum_congr rfl fun l _ => congrArg f (Fin.ext ?_))) (Finset.sum_congr rfl fun l _ => congrArg f (Fin.ext ?_))
  · show n + n + l.val = 2 * n + l.val; omega
  · show n + n + n + l.val = 3 * n + l.val; omega

/-- A real matrix applied to real columns, 512 of them. -/
theorem hop512_real (A : S4096x4096.Idx → EReal) (x : S4096x512.Idx → EReal) (M : Fin 4096 → Fin 4096 → ℝ) (y : Fin 4096 → Fin 512 → ℝ)
    (hA : ∀ i k, A (ix2 i k) = (M i k : EReal)) (hx : ∀ i l, x (ix2 i l) = (y i l : EReal)) (i : Fin 4096) (l : Fin 512) : hop512 A x (ix2 i l) = ((hopR M y i l : ℝ) : EReal) := by
  rw [hop512_at]
  unfold mat hopR
  rw [← coe_sum]
  exact Finset.sum_congr rfl fun k _ => by rw [hA, hx, EReal.coe_mul]
theorem feats512_0 (A : S4096x4096.Idx → EReal) (x : S4096x512.Idx → EReal) (i : Fin 4096) (l : Fin 512) : feats512 A x (ix2 i ⟨l.val, by omega⟩) = x (ix2 i l) := by
  unfold feats512
  generalize hop512 A (hop512 A (hop512 A x)) = h3
  generalize hop512 A (hop512 A x) = h2
  generalize hop512 A x = h1
  pointwise [fn_main_v3]
theorem feats512_1 (A : S4096x4096.Idx → EReal) (x : S4096x512.Idx → EReal) (i : Fin 4096) (l : Fin 512) : feats512 A x (ix2 i ⟨512 + l.val, by omega⟩) = (hop512 A x) (ix2 i l) := by
  unfold feats512
  generalize hop512 A (hop512 A (hop512 A x)) = h3
  generalize hop512 A (hop512 A x) = h2
  generalize hop512 A x = h1
  pointwise [fn_main_v3]
theorem feats512_2 (A : S4096x4096.Idx → EReal) (x : S4096x512.Idx → EReal) (i : Fin 4096) (l : Fin 512) : feats512 A x (ix2 i ⟨2 * 512 + l.val, by omega⟩) = (hop512 A (hop512 A x)) (ix2 i l) := by
  unfold feats512
  generalize hop512 A (hop512 A (hop512 A x)) = h3
  generalize hop512 A (hop512 A x) = h2
  generalize hop512 A x = h1
  pointwise [fn_main_v3]
  rw [dif_neg (by omega), dif_neg (by omega), dif_pos (by have := l.isLt; omega)]
  exact congrArg (fun r => h2 (ix2 i r)) (Fin.ext (by show 1024 + l.val - 512 - 512 = l.val; omega))
theorem feats512_3 (A : S4096x4096.Idx → EReal) (x : S4096x512.Idx → EReal) (i : Fin 4096) (l : Fin 512) : feats512 A x (ix2 i ⟨3 * 512 + l.val, by omega⟩) = (hop512 A (hop512 A (hop512 A x))) (ix2 i l) := by
  unfold feats512
  generalize hop512 A (hop512 A (hop512 A x)) = h3
  generalize hop512 A (hop512 A x) = h2
  generalize hop512 A x = h1
  pointwise [fn_main_v3]
  rw [dif_neg (by omega), dif_neg (by omega), dif_neg (by omega)]
  exact congrArg (fun r => h3 (ix2 i r)) (Fin.ext (by show 1536 + l.val - 512 - 512 - 512 = l.val; omega))
/-- The layer from 2048 to 128 columns over the reals. -/
theorem lin2048_real (A : S4096x4096.Idx → EReal) (x : S4096x512.Idx → EReal) (w : S2048x128.Idx → EReal) (b : S128.Idx → EReal)
    (M : Fin 4096 → Fin 4096 → ℝ) (y : Fin 4096 → Fin 512 → ℝ) (v : Fin 2048 → Fin 128 → ℝ) (β : Fin 128 → ℝ)
    (hA : ∀ i k, A (ix2 i k) = (M i k : EReal)) (hx : ∀ i l, x (ix2 i l) = (y i l : EReal)) (hw : ∀ q j, w (ix2 q j) = (v q j : EReal)) (hb : ∀ j, b (ix1 j) = (β j : EReal)) (i : Fin 4096) (j : Fin 128) :
    lin2048 (feats512 A x) w b (ix2 i j) = ((conv M y (fun q => v ⟨q.val, by omega⟩ j) (fun q => v ⟨512 + q.val, by omega⟩ j) (fun q => v ⟨2 * 512 + q.val, by omega⟩ j) (fun q => v ⟨3 * 512 + q.val, by omega⟩ j) (β j) i : ℝ) : EReal) := by
  have e1 := hop512_real A x M y hA hx
  have e2 := hop512_real A _ M _ hA e1
  have e3 := hop512_real A _ M _ hA e2
  rw [lin2048_at]
  unfold lin mat vec
  rw [sum_four (n := 512) rfl]
  simp only [feats512_0, feats512_1, feats512_2, feats512_3, e1, e2, e3, hx, hw, hb, ← EReal.coe_mul, coe_sum, ← EReal.coe_add]
  rfl
/-- A real matrix applied to real columns, 128 of them. -/
theorem hop128_real (A : S4096x4096.Idx → EReal) (x : S4096x128.Idx → EReal) (M : Fin 4096 → Fin 4096 → ℝ) (y : Fin 4096 → Fin 128 → ℝ)
    (hA : ∀ i k, A (ix2 i k) = (M i k : EReal)) (hx : ∀ i l, x (ix2 i l) = (y i l : EReal)) (i : Fin 4096) (l : Fin 128) : hop128 A x (ix2 i l) = ((hopR M y i l : ℝ) : EReal) := by
  rw [hop128_at]
  unfold mat hopR
  rw [← coe_sum]
  exact Finset.sum_congr rfl fun k _ => by rw [hA, hx, EReal.coe_mul]
theorem feats128_0 (A : S4096x4096.Idx → EReal) (x : S4096x128.Idx → EReal) (i : Fin 4096) (l : Fin 128) : feats128 A x (ix2 i ⟨l.val, by omega⟩) = x (ix2 i l) := by
  unfold feats128
  generalize hop128 A (hop128 A (hop128 A x)) = h3
  generalize hop128 A (hop128 A x) = h2
  generalize hop128 A x = h1
  pointwise [fn_main_v12]
theorem feats128_1 (A : S4096x4096.Idx → EReal) (x : S4096x128.Idx → EReal) (i : Fin 4096) (l : Fin 128) : feats128 A x (ix2 i ⟨128 + l.val, by omega⟩) = (hop128 A x) (ix2 i l) := by
  unfold feats128
  generalize hop128 A (hop128 A (hop128 A x)) = h3
  generalize hop128 A (hop128 A x) = h2
  generalize hop128 A x = h1
  pointwise [fn_main_v12]
theorem feats128_2 (A : S4096x4096.Idx → EReal) (x : S4096x128.Idx → EReal) (i : Fin 4096) (l : Fin 128) : feats128 A x (ix2 i ⟨2 * 128 + l.val, by omega⟩) = (hop128 A (hop128 A x)) (ix2 i l) := by
  unfold feats128
  generalize hop128 A (hop128 A (hop128 A x)) = h3
  generalize hop128 A (hop128 A x) = h2
  generalize hop128 A x = h1
  pointwise [fn_main_v12]
  rw [dif_neg (by omega), dif_neg (by omega), dif_pos (by have := l.isLt; omega)]
  exact congrArg (fun r => h2 (ix2 i r)) (Fin.ext (by show 256 + l.val - 128 - 128 = l.val; omega))
theorem feats128_3 (A : S4096x4096.Idx → EReal) (x : S4096x128.Idx → EReal) (i : Fin 4096) (l : Fin 128) : feats128 A x (ix2 i ⟨3 * 128 + l.val, by omega⟩) = (hop128 A (hop128 A (hop128 A x))) (ix2 i l) := by
  unfold feats128
  generalize hop128 A (hop128 A (hop128 A x)) = h3
  generalize hop128 A (hop128 A x) = h2
  generalize hop128 A x = h1
  pointwise [fn_main_v12]
  rw [dif_neg (by omega), dif_neg (by omega), dif_neg (by omega)]
  exact congrArg (fun r => h3 (ix2 i r)) (Fin.ext (by show 384 + l.val - 128 - 128 - 128 = l.val; omega))
/-- The layer from 512 to 15 columns over the reals. -/
theorem lin512_real (A : S4096x4096.Idx → EReal) (x : S4096x128.Idx → EReal) (w : S512x15.Idx → EReal) (b : S15.Idx → EReal)
    (M : Fin 4096 → Fin 4096 → ℝ) (y : Fin 4096 → Fin 128 → ℝ) (v : Fin 512 → Fin 15 → ℝ)
    (hA : ∀ i k, A (ix2 i k) = (M i k : EReal)) (hx : ∀ i l, x (ix2 i l) = (y i l : EReal)) (hw : ∀ q j, w (ix2 q j) = (v q j : EReal)) (i : Fin 4096) (j : Fin 15) :
    lin512 (feats128 A x) w b (ix2 i j) = ((conv M y (fun q => v ⟨q.val, by omega⟩ j) (fun q => v ⟨128 + q.val, by omega⟩ j) (fun q => v ⟨2 * 128 + q.val, by omega⟩ j) (fun q => v ⟨3 * 128 + q.val, by omega⟩ j) 0 i : ℝ) : EReal) + b (ix1 j) := by
  have e1 := hop128_real A x M y hA hx
  have e2 := hop128_real A _ M _ hA e1
  have e3 := hop128_real A _ M _ hA e2
  rw [lin512_at]
  unfold lin mat vec
  refine congrArg (· + b (ix1 j)) ?_
  rw [sum_four (n := 128) rfl]
  simp only [feats128_0, feats128_1, feats128_2, feats128_3, e1, e2, e3, hx, hw, ← EReal.coe_mul, coe_sum, ← EReal.coe_add]
  unfold conv
  rw [add_zero]

/-- The encoder over the reals, but for its last bias. -/
theorem zR_real (A : S4096x4096.Idx → EReal) (X : S4096x512.Idx → EReal) (w1 : S2048x128.Idx → EReal) (b1 : S128.Idx → EReal) (w2 : S512x15.Idx → EReal) (b2 : S15.Idx → EReal)
    (M : Fin 4096 → Fin 4096 → ℝ) (x : Fin 4096 → Fin 512 → ℝ) (v1 : Fin 2048 → Fin 128 → ℝ) (c1 : Fin 128 → ℝ) (v2 : Fin 512 → Fin 15 → ℝ)
    (hA : ∀ i k, A (ix2 i k) = (M i k : EReal)) (hX : ∀ i l, X (ix2 i l) = (x i l : EReal)) (h1 : ∀ q j, w1 (ix2 q j) = (v1 q j : EReal)) (k1 : ∀ j, b1 (ix1 j) = (c1 j : EReal))
    (h2 : ∀ q j, w2 (ix2 q j) = (v2 q j : EReal)) (i : Fin 4096) (j : Fin 15) :
    zR A X w1 b1 w2 b2 (ix2 i j) = ((conv M (fun k l => max (conv M x (fun q => v1 ⟨q.val, by omega⟩ l) (fun q => v1 ⟨512 + q.val, by omega⟩ l) (fun q => v1 ⟨2 * 512 + q.val, by omega⟩ l) (fun q => v1 ⟨3 * 512 + q.val, by omega⟩ l) (c1 l) k) 0)
      (fun q => v2 ⟨q.val, by omega⟩ j) (fun q => v2 ⟨128 + q.val, by omega⟩ j) (fun q => v2 ⟨2 * 128 + q.val, by omega⟩ j) (fun q => v2 ⟨3 * 128 + q.val, by omega⟩ j) 0 i : ℝ) : EReal) + b2 (ix1 j) := by
  refine lin512_real A _ w2 b2 M _ v2 hA (fun k l => ?_) h2 i j
  rw [pos128_at]
  unfold relu mat
  rw [lin2048_real A X w1 b1 M x v1 c1 hA hX h1 k1 k l]
  exact (EReal.coe_strictMono.monotone.map_max (a := _) (b := (0 : ℝ))).symm

end Cert.ReferenceIdeal.Val
-- ==== Proof.Val.Match.lean ====
/-
  The kernel's results against the reference's: the encoder, the padded decoders and the clustering, over arrays that
  the precondition makes real.
-/
module

public import proofs.«01_k».proof.Proof.Val.Out
public import proofs.«01_k».proof.Proof.Val.RefZ

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem
open Cert.ReferenceIdeal.Val (zR zR_real studR studR_at qR qR_at)

/-! ## The padded lane -/

/-- A dense layer over rows padded by one lane, whose weights are zero, is the layer over the rows. -/
theorem lin_pad {J : ℕ} {r : Fin 16 → EReal} {s : Fin 15 → EReal} {w : Fin 16 → Fin J → EReal} {v : Fin 15 → Fin J → EReal} (b : Fin J → EReal)
    (hr : ∀ l, r (Fin.castSucc l) = s l) (hw : ∀ l j, w (Fin.castSucc l) j = v l j) (h0 : ∀ j, w (Fin.last 15) j = 0) : lin r w b = lin s v b := by
  funext j
  unfold lin
  rw [Fin.sum_univ_castSucc, h0, mul_zero, add_zero]
  simp only [hr, hw]

theorem two_bits : Ideal.ofBits .f32 1073741824#32 = ((2 : ℝ) : EReal) := by
  simp [Ideal.ofBits, Ideal.ieee, -EReal.coe_mul]; norm_num

/-- A sum of squares is not negative. -/
theorem sq_nonneg' (x : EReal) : 0 ≤ x * x := by
  rcases le_total 0 x with h | h
  · exact mul_nonneg h h
  · rw [← neg_mul_neg]
    exact mul_nonneg (EReal.neg_nonneg.2 h) (EReal.neg_nonneg.2 h)
/-- The square of an infinity is infinite. -/
theorem sq_top {x : EReal} (h : x = ⊤ ∨ x = ⊥) : x * x = ⊤ := by
  rcases h with rfl | rfl
  · exact EReal.top_mul_top
  · exact EReal.bot_mul_bot
/-- A sum of squares one of which is infinite is infinite. -/
theorem sum_sq_top {x : Fin 15 → EReal} {l : Fin 15} (h : x l = ⊤ ∨ x l = ⊥) : ∑ l, x l * x l = ⊤ := by
  refine top_le_iff.1 ?_
  rw [← sq_top h]
  exact Finset.single_le_sum (f := fun l => x l * x l) (fun l _ => sq_nonneg' _) (Finset.mem_univ l)
/-- One over one and an infinity is zero. -/
theorem div_inf {t : EReal} (h : t = ⊤ ∨ t = ⊥) : Ideal.div 1 (1 + t) = 0 := by
  rcases h with rfl | rfl
  · rw [EReal.add_top_of_ne_bot (by decide)]
    simp [Ideal.div]
  · rw [EReal.add_bot]
    simp [Ideal.div]
/-- Two terms that are not negative, one of them infinite, stay infinite with anything subtracted. -/
theorem sum_inf {p q r : EReal} (hp : 0 ≤ p) (hr : 0 ≤ r) (h : p = ⊤ ∨ r = ⊤) : p - q + r = ⊤ ∨ p - q + r = ⊥ := by
  have np : p ≠ ⊥ := fun e => by rw [e] at hp; exact absurd hp (by decide)
  have nr : r ≠ ⊥ := fun e => by rw [e] at hr; exact absurd hr (by decide)
  by_cases hq : q = ⊤
  · exact Or.inr (by rw [hq, EReal.sub_top, EReal.bot_add])
  · refine Or.inl ?_
    rcases h with rfl | rfl
    · rw [EReal.top_sub hq, EReal.top_add_of_ne_bot nr]
    · refine EReal.add_top_of_ne_bot fun e => ?_
      rw [sub_eq_add_neg, EReal.add_eq_bot_iff] at e
      rcases e with e | e
      · exact np e
      · exact hq (EReal.neg_eq_bot_iff.1 e)
/-- A difference with an infinite side is infinite. -/
theorem sub_inf {x y : EReal} (h : (x = ⊤ ∨ x = ⊥) ∨ (y = ⊤ ∨ y = ⊥)) : x - y = ⊤ ∨ x - y = ⊥ := by
  induction x <;> induction y <;> simp_all

/-- One over one and the expanded square is one over one and the sum of the squared differences: over the reals the
two are equal, and where an entry is infinite both are infinite and both quotients zero. -/
theorem expand {z μ : Fin 15 → EReal} {r c : Fin 16 → EReal} (hr : ∀ l, r (Fin.castSucc l) = z l) (hr0 : r (Fin.last 15) = 0)
    (hc : ∀ l, c (Fin.castSucc l) = μ l) (hc0 : c (Fin.last 15) = 0) :
    Ideal.div 1 (1 + (∑ x, r x * r x - Ideal.ofBits .f32 1073741824#32 * ∑ x, r x * c x + ∑ x, c x * c x)) = Ideal.div 1 (1 + ∑ x, (z x - μ x) * (z x - μ x)) := by
  rw [Fin.sum_univ_castSucc, Fin.sum_univ_castSucc (f := fun x => r x * c x), Fin.sum_univ_castSucc (f := fun x => c x * c x), hr0, hc0, mul_zero, add_zero, add_zero, add_zero, two_bits]
  simp only [hr, hc]
  by_cases h : ∃ l, (z l = ⊤ ∨ z l = ⊥) ∨ (μ l = ⊤ ∨ μ l = ⊥)
  · obtain ⟨l, h⟩ := h
    rw [div_inf (Or.inl (sum_sq_top (x := fun l => z l - μ l) (sub_inf h))), div_inf]
    exact sum_inf (Finset.sum_nonneg fun _ _ => sq_nonneg' _) (Finset.sum_nonneg fun _ _ => sq_nonneg' _) (h.imp sum_sq_top sum_sq_top)
  · have ez : ∀ l, z l = (((z l).toReal : ℝ) : EReal) := fun l =>
      (EReal.coe_toReal (fun e => h ⟨l, Or.inl (Or.inl e)⟩) (fun e => h ⟨l, Or.inl (Or.inr e)⟩)).symm
    have eμ : ∀ l, μ l = (((μ l).toReal : ℝ) : EReal) := fun l =>
      (EReal.coe_toReal (fun e => h ⟨l, Or.inr (Or.inl e)⟩) (fun e => h ⟨l, Or.inr (Or.inr e)⟩)).symm
    generalize (fun l => (z l).toReal) = ζ at ez
    generalize (fun l => (μ l).toReal) = ν at eμ
    refine congrArg (fun t : EReal => Ideal.div 1 (1 + t)) ?_
    rw [funext ez, funext eμ]
    simp only [← EReal.coe_mul, ← EReal.coe_sub, coe_sum, ← EReal.coe_add]
    refine congrArg _ ?_
    rw [Finset.mul_sum, ← Finset.sum_sub_distrib, ← Finset.sum_add_distrib]
    exact Finset.sum_congr rfl fun x _ => by ring

/-- The mask keeps a centre's lane. -/
theorem mask_lt (j : Fin 15) (a b : EReal) : Scalar.select (IntOp.cmpi CmpIPredicate.slt (BitVec.ofNat 32 (Fin.castSucc j).val) 15#32) a b = a := by
  have h : IntOp.cmpi CmpIPredicate.slt (BitVec.ofNat 32 (Fin.castSucc j).val) 15#32 = 1#1 := by revert j; decide
  rw [h]; rfl
/-- The mask drops the padded lane. -/
theorem mask_last (a b : EReal) : Scalar.select (IntOp.cmpi CmpIPredicate.slt (BitVec.ofNat 32 (Fin.last 15).val) 15#32) a b = b := by
  have h : IntOp.cmpi CmpIPredicate.slt (BitVec.ofNat 32 (Fin.last 15).val) 15#32 = 0#1 := by decide
  rw [h]; rfl

/-- The cluster weights agree, whatever the rows and the centres hold. -/
theorem q_match (z : S4096x15.Idx → EReal) (A6 : S15x15.Idx → EReal) (i : Fin 4096) (r : Fin 16 → EReal) (mu : Fin 16 → Fin 16 → EReal)
    (hr : ∀ l, r (Fin.castSucc l) = z (ix2 i l)) (hr0 : r (Fin.last 15) = 0)
    (hm : ∀ l j : Fin 15, mu (Fin.castSucc l) (Fin.castSucc j) = A6 (ix2 j l)) (hm0 : ∀ j : Fin 15, mu (Fin.last 15) (Fin.castSucc j) = 0) (j : Fin 15) :
    qK r mu (Fin.castSucc j) = qR z A6 (ix2 i j) := by
  have e : ∀ j : Fin 15, qraw r mu (Fin.castSucc j) = studR z A6 (ix2 i j) := fun j => by
    rw [studR_at]
    unfold qraw
    rw [mask_lt, expand (z := mat z i) (μ := mat A6 j) (r := r) (c := fun x => mu x (Fin.castSucc j)) hr hr0 (fun l => hm l j) (hm0 j)]
  have e0 : qraw r mu (Fin.last 15) = 0 := mask_last _ _
  rw [qR_at]
  unfold qK
  rw [Fin.sum_univ_castSucc, e0, add_zero, e]
  simp only [e]
  rfl

/-! ## The encoder -/

section Enc

variable (m : (ℓ : Loc nD τ sig) → Buf (Elt Ideal) ℓ) (ρ : Dev nD → PrngReg) (c : Dev nD)
  {A0 : S4096x512.Idx → EReal} {A1 : S4096x4096.Idx → EReal} {A2 : S2048x128.Idx → EReal} {A3 : S128.Idx → EReal} {A4 : S512x15.Idx → EReal} {A5 : S15.Idx → EReal}
  (e0 : m ((c : Thread nD τ).loc main_arg0) = A0) (e1 : m ((c : Thread nD τ).loc main_arg1) = A1) (e2 : m ((c : Thread nD τ).loc main_arg2) = A2) (e3 : m ((c : Thread nD τ).loc main_arg3) = A3)
  (e4 : m ((c : Thread nD τ).loc main_arg4) = A4) (e5 : m ((c : Thread nD τ).loc main_arg5) = A5)
  (h1 : ∀ i k, A1 (ix2 i k) = ((eR A1 i k * dR A1 i * dR A1 k : ℝ) : EReal))
  (h0 : ∀ y, ((A0 y).toReal : EReal) = A0 y) (h2 : ∀ y, ((A2 y).toReal : EReal) = A2 y) (h3 : ∀ y, ((A3 y).toReal : EReal) = A3 y) (h4 : ∀ y, ((A4 y).toReal : EReal) = A4 y)

/-- The packed first-layer weights. -/
def pw1 (A2 : S2048x128.Idx → EReal) (l j : Fin 512) : ℝ := (A2 (ix2 ⟨512 * (j.val / 128) + l.val, by omega⟩ ⟨j.val % 128, by omega⟩)).toReal
/-- The padded first-layer bias. -/
def pb1 (A3 : S128.Idx → EReal) (j : Fin 512) : ℝ := if h : j.val < 128 then (A3 (ix1 ⟨j.val, h⟩)).toReal else 0
/-- The packed second-layer weights. -/
def pw2 (A4 : S512x15.Idx → EReal) (l : Fin 128) (j : Fin 64) : ℝ := if h : j.val % 16 < 15 then (A4 (ix2 ⟨128 * (j.val / 16) + l.val, by omega⟩ ⟨j.val % 16, h⟩)).toReal else 0
/-- The padded second-layer bias. -/
def pb2 (A5 : S15.Idx → EReal) (j : Fin 64) : EReal := if h : j.val < 15 then A5 (ix1 ⟨j.val, h⟩) else 0

theorem pb2_zero (A5 : S15.Idx → EReal) (j : Fin 64) (h : 15 ≤ j.val) : pb2 A5 j = 0 := dif_neg (not_lt.mpr h)

include e0 e1 e2 e3 e4 e5 h0 h2 h3 h4 in
/-- The encoder's result over the arguments' reals, and its last bias. -/
theorem Zk_real (i : Fin 4096) (j : Fin 16) : Zk m ρ c i j = ((encR A1 (fun i l => (A0 (ix2 i l)).toReal) (pw1 A2) (pb1 A3) (pw2 A4) (fun _ => 0) i j : ℝ) : EReal) + lane (pb2 A5) j := by
  have a0 : V1 m ρ c main_arg0 = A0 := (W1_args m ρ c main_arg0 (by decide +kernel)).trans e0
  have a1 : V1 m ρ c main_arg1 = A1 := (W1_args m ρ c main_arg1 (by decide +kernel)).trans e1
  refine (arr0_7 (V1 m ρ) c (x := fun i l => (A0 (ix2 i l)).toReal) (w := pw1 A2) (b := pb1 A3) (w2 := pw2 A4) (b2 := fun _ => 0) (γ := pb2 A5) (fun i l => ?_) (fun l j => ?_) (fun j => ?_) (fun l j => ?_) (fun j => ?_) (fun j h => pb2_zero A5 j (by omega)) i j).trans (by rw [a1])
  · rw [a0]; exact (h0 _).symm
  · exact (host_v2 m ρ c e2 l j).trans (h2 _).symm
  · refine (host_v4 m ρ c e3 j).trans ?_
    unfold pb1
    by_cases h : j.val < 128
    · rw [dif_pos h, dif_pos h]; exact (h3 _).symm
    · rw [dif_neg h, dif_neg h]; rfl
  · refine (host_v17 m ρ c e4 l j).trans ?_
    unfold pw2
    by_cases h : j.val % 16 < 15
    · rw [dif_pos h, dif_pos h]; exact (h4 _).symm
    · rw [dif_neg h, dif_neg h]; rfl
  · refine (host_v20 m ρ c e5 j).trans ?_
    rw [EReal.coe_zero, zero_add]
    unfold pb2
    by_cases h : j.val < 15
    · rw [dif_pos h]
    · rw [dif_neg h]

theorem pb1_zero (A3 : S128.Idx → EReal) (j : Fin 512) (h : 128 ≤ j.val) : pb1 A3 j = 0 := dif_neg (not_lt.mpr h)
theorem pw1_at (A2 : S2048x128.Idx → EReal) (p : ℕ) (hp : p < 4) (q : Fin 512) (l : Fin 128) (h : p * 128 + l.val < 512) (h' : p * 512 + q.val < 2048) :
    pw1 A2 q ⟨p * 128 + l.val, h⟩ = (A2 (ix2 ⟨p * 512 + q.val, h'⟩ l)).toReal := by
  unfold pw1
  refine congrArg (fun y => (A2 y).toReal) (congrArg₂ ix2 (Fin.ext ?_) (Fin.ext ?_))
  · show 512 * ((p * 128 + l.val) / 128) + q.val = p * 512 + q.val; omega
  · show (p * 128 + l.val) % 128 = l.val; omega
theorem pw2_at (A4 : S512x15.Idx → EReal) (p : ℕ) (hp : p < 4) (q : Fin 128) (l : Fin 15) (h : p * 16 + l.val < 64) (h' : p * 128 + q.val < 512) :
    pw2 A4 q ⟨p * 16 + l.val, h⟩ = (A4 (ix2 ⟨p * 128 + q.val, h'⟩ l)).toReal := by
  unfold pw2
  have hl := l.isLt
  rw [dif_pos (by show (p * 16 + l.val) % 16 < 15; omega)]
  refine congrArg (fun y => (A4 y).toReal) (congrArg₂ ix2 (Fin.ext ?_) (Fin.ext ?_))
  · show 128 * ((p * 16 + l.val) / 16) + q.val = p * 128 + q.val; omega
  · show (p * 16 + l.val) % 16 = l.val; omega
theorem pw2_last (A4 : S512x15.Idx → EReal) (q : Fin 128) (j : Fin 64) (h : j.val % 16 = 15) : pw2 A4 q j = 0 := dif_neg (by omega)

include e0 e1 e2 e3 e4 e5 h0 h2 h3 h4 in
/-- The padded lane of the encoder's result is zero. -/
theorem Zk_last (i : Fin 4096) : Zk m ρ c i (Fin.last 15) = 0 := by
  rw [Zk_real m ρ c e0 e1 e2 e3 e4 e5 h0 h2 h3 h4, encR_conv A1 _ _ _ _ _ (pb1_zero A3) (fun _ _ => rfl)]
  unfold conv
  simp only [pw2_last A4 _ ⟨(Fin.last 15).val, by decide⟩ rfl, pw2_last A4 _ ⟨16 + (Fin.last 15).val, by decide⟩ rfl, pw2_last A4 _ ⟨32 + (Fin.last 15).val, by decide⟩ rfl,
    pw2_last A4 _ ⟨48 + (Fin.last 15).val, by decide⟩ rfl, mul_zero, Finset.sum_const_zero, add_zero]
  unfold lane
  rw [pb2_zero A5 ⟨(Fin.last 15).val, by decide⟩ le_rfl, add_zero]
  rfl

include e0 e1 e2 e3 e4 e5 h0 h1 h2 h3 h4 in
/-- The encoder's result is the reference's. -/
theorem Zk_ref (i : Fin 4096) (j : Fin 15) : Zk m ρ c i (Fin.castSucc j) = zR A1 A0 A2 A3 A4 A5 (ix2 i j) := by
  rw [Zk_real m ρ c e0 e1 e2 e3 e4 e5 h0 h2 h3 h4, encR_conv A1 _ _ _ _ _ (pb1_zero A3) (fun _ _ => rfl)]
  rw [zR_real A1 A0 A2 A3 A4 A5 (nm (eR A1) (dR A1)) (fun i l => (A0 (ix2 i l)).toReal) (fun q j => (A2 (ix2 q j)).toReal) (fun j => (A3 (ix1 j)).toReal) (fun q j => (A4 (ix2 q j)).toReal)
    h1 (fun i l => (h0 _).symm) (fun q j => (h2 _).symm) (fun j => (h3 _).symm) (fun q j => (h4 _).symm) i j]
  have w0 : ∀ l : Fin 128, (fun q => pw1 A2 q ⟨l.val, by omega⟩) = fun q => (A2 (ix2 ⟨q.val, by omega⟩ l)).toReal := fun l => funext fun q => by
    simpa only [zero_mul, zero_add] using pw1_at A2 0 (by decide) q l (by omega) (by omega)
  have w1 : ∀ l : Fin 128, (fun q => pw1 A2 q ⟨128 + l.val, by omega⟩) = fun q => (A2 (ix2 ⟨512 + q.val, by omega⟩ l)).toReal := fun l => funext fun q => by
    simpa only [one_mul] using pw1_at A2 1 (by decide) q l (by omega) (by omega)
  have w2 : ∀ l : Fin 128, (fun q => pw1 A2 q ⟨256 + l.val, by omega⟩) = fun q => (A2 (ix2 ⟨2 * 512 + q.val, by omega⟩ l)).toReal := fun l => funext fun q => pw1_at A2 2 (by decide) q l (by omega) (by omega)
  have w3 : ∀ l : Fin 128, (fun q => pw1 A2 q ⟨384 + l.val, by omega⟩) = fun q => (A2 (ix2 ⟨3 * 512 + q.val, by omega⟩ l)).toReal := fun l => funext fun q => pw1_at A2 3 (by decide) q l (by omega) (by omega)
  have b1 : ∀ l : Fin 128, pb1 A3 ⟨l.val, by omega⟩ = (A3 (ix1 l)).toReal := fun l => dif_pos l.isLt
  have u0 : (fun q => pw2 A4 q ⟨(Fin.castSucc j).val, by omega⟩) = fun q => (A4 (ix2 ⟨q.val, by omega⟩ j)).toReal := funext fun q => by
    have h := pw2_at A4 0 (by decide) q j (by omega) (by omega)
    simp only [zero_mul, zero_add] at h
    exact h
  have u1 : (fun q => pw2 A4 q ⟨16 + (Fin.castSucc j).val, by omega⟩) = fun q => (A4 (ix2 ⟨128 + q.val, by omega⟩ j)).toReal := funext fun q => by
    have h := pw2_at A4 1 (by decide) q j (by omega) (by omega)
    simp only [one_mul] at h
    exact h
  have u2 : (fun q => pw2 A4 q ⟨32 + (Fin.castSucc j).val, by omega⟩) = fun q => (A4 (ix2 ⟨2 * 128 + q.val, by omega⟩ j)).toReal := funext fun q => pw2_at A4 2 (by decide) q j (by omega) (by omega)
  have u3 : (fun q => pw2 A4 q ⟨48 + (Fin.castSucc j).val, by omega⟩) = fun q => (A4 (ix2 ⟨3 * 128 + q.val, by omega⟩ j)).toReal := funext fun q => pw2_at A4 3 (by decide) q j (by omega) (by omega)
  have b2 : lane (pb2 A5) (Fin.castSucc j) = A5 (ix1 j) := dif_pos j.isLt
  simp only [w0, w1, w2, w3, b1]
  rw [u0, u1, u2, u3, b2]

end Enc

end Cert.KernelIdeal.Val
-- ==== Proof.Val.Pre.lean ====
/-
  The precondition, opened: the adjacency is the normalised one of its own nonzero pattern, and the features and
  the encoder's weights and first bias are real.
-/
module

public import proofs.«01_k».proof.Pre_normalised_graph
public import proofs.«01_k».proof.Proof.Val.Enc
public import Idealize.ShloMosaic.Lib.Affine
public import Idealize.ShloMosaic.Lib.Decide
public import Idealize.ShloMosaic.Lib.ReduceAll

@[expose] public section

set_option maxRecDepth 16384

noncomputable section

namespace Cert.Pre_normalised_graph

open Idealize.ShloMosaic Idealize.ShloMosaic.TcCoe
open Cert.KernelIdeal.Val (eR dR)

/-- The shape relations the precondition's operations take. -/
instance facts : Facts where
  bcast_S_S4096x4096 := by decide
  reducesTo_S4096x4096_S4096_d1 := by decide
  h_S_ := by decide
  bcast_S_S4096 := by decide
  bcast_S4096_S4096x1_0 := by decide
  bcast_S4096x1_S4096x4096_0_1 := by decide
  bcast_S4096_S1x4096_1 := by decide
  bcast_S1x4096_S4096x4096_0_1 := by decide
  reducesTo_S4096x4096_S_d0_1 := by decide
  bcast_S_S4096x512 := by decide
  reducesTo_S4096x512_S_d0_1 := by decide
  bcast_S_S2048x128 := by decide
  reducesTo_S2048x128_S_d0_1 := by decide
  bcast_S_S128 := by decide
  reducesTo_S128_S_d0 := by decide
  bcast_S_S512x15 := by decide
  reducesTo_S512x15_S_d0_1 := by decide

open Facts

instance : Subsingleton S_.Idx := ⟨fun a b => funext fun i => i.elim0⟩

/-- An ordered equality that holds is an equality. -/
theorem eq_of_oeq {s : Shape} {x y : s.Idx → EReal} {i : s.Idx} (h : cmpf (F := Ideal) (φ := .f32) .oeq x y i = 1#1) : x i = y i := by
  have h' : BitVec.ofBool (decide (x i = y i)) = 1#1 := h
  by_contra hne
  rw [decide_eq_false hne] at h'
  exact absurd h' (by decide)

/-- An extended real below the infinity in magnitude is real. -/
theorem real_of_lt {s : Shape} {x : s.Idx → EReal} {b : S_.BroadcastsInDim s (![] : Fin 0 → Fin s.rank)} {i : s.Idx}
    (h : cmpf (F := Ideal) (φ := .f32) .olt (Host.absf (F := Ideal) (φ := .f32) x) (broadcastInDim s ![] b (constant (F := Ideal) S_ .f32 0x7F800000#32)) i = 1#1) :
    ((x i).toReal : EReal) = x i := by
  have h' : BitVec.ofBool (decide (max (x i) (-(x i)) < Ideal.ofBits .f32 0x7F800000#32)) = 1#1 := h
  have h2 : max (x i) (-(x i)) < Ideal.ofBits .f32 0x7F800000#32 := by
    by_contra hne
    rw [decide_eq_false hne] at h'
    exact absurd h' (by decide)
  refine EReal.coe_toReal (fun e => ?_) (fun e => ?_)
  · rw [e] at h2; exact absurd h2 (not_lt.mpr (by simp))
  · rw [e] at h2; exact absurd h2 (not_lt.mpr (by simp))

/-- A bit as a number. -/
theorem bit_real (a : EReal) : (FloatOps.uitofp (F := Ideal) FTy.f32 (BitVec.ofBool (decide (a ≠ 0))) : EReal) = (((if a = 0 then 0 else 1 : ℝ)) : EReal) := by
  by_cases h : a = 0
  · simp only [h, ne_eq, not_true, decide_false, if_true]; simp [FloatOps.uitofp]
  · simp only [h, ne_eq, not_false_iff, decide_true, if_false]; simp [FloatOps.uitofp]

/-- The nonzero pattern, as the precondition writes it. -/
def edge (A : S4096x4096.Idx → EReal) : S4096x4096.Idx → EReal :=
  uitofp (F := Ideal) .f32 (cmpf (F := Ideal) (φ := .f32) .une A (broadcastInDim S4096x4096 ![] bcast_S_S4096x4096 (constant (F := Ideal) S_ .f32 0x00000000#32)))
theorem edge_at (A : S4096x4096.Idx → EReal) (i k : Fin 4096) : edge A (ix2 i k) = ((eR A i k : ℝ) : EReal) := by
  pointwise [edge]
  exact bit_real _
/-- The degrees. -/
def deg (e : S4096x4096.Idx → EReal) : S4096.Idx → EReal := Host.reduceAdd (F := Ideal) (φ := .f32) e (constant (F := Ideal) S_ .f32 0x00000000#32) reducesTo_S4096x4096_S4096_d1 h_S_
theorem deg_at (e : S4096x4096.Idx → EReal) (i : Fin 4096) : deg e (ix1 i) = ∑ k, e (ix2 i k) := by
  pointwise [deg]
/-- The inverse roots of the degrees. -/
def dinv (g : S4096.Idx → EReal) : S4096.Idx → EReal :=
  fn_where (F := Ideal) (cmpf (F := Ideal) (φ := .f32) .ogt g (broadcastInDim S4096 ![] bcast_S_S4096 (constant (F := Ideal) S_ .f32 0x00000000#32))) (Host.rsqrt (F := Ideal) (φ := .f32) g) (constant (F := Ideal) S_ .f32 0x00000000#32)
theorem dinv_at (g : S4096.Idx → EReal) (i : Fin 4096) (s : ℝ) (h : g (ix1 i) = (s : EReal)) : dinv g (ix1 i) = ((if 0 < s then (Real.sqrt s)⁻¹ else 0 : ℝ) : EReal) := by
  refine Eq.trans ?_ (Cert.KernelIdeal.Val.rsqrt_real s)
  pointwise [dinv, fn_where]
  rw [h]
  exact congrArg (fun z : EReal => if (0 : EReal) < (s : EReal) then Ideal.rsqrt (s : EReal) else z) Ideal.ofBits_zero_f32
/-- The normalised pattern. -/
def nrm (e : S4096x4096.Idx → EReal) (d : S4096.Idx → EReal) : S4096x4096.Idx → EReal :=
  mulf (F := Ideal) (φ := .f32) (mulf (F := Ideal) (φ := .f32) e (broadcastInDim S4096x4096 ![0, 1] bcast_S4096x1_S4096x4096_0_1 (broadcastInDim S4096x1 ![0] bcast_S4096_S4096x1_0 d)))
    (broadcastInDim S4096x4096 ![0, 1] bcast_S1x4096_S4096x4096_0_1 (broadcastInDim S1x4096 ![1] bcast_S4096_S1x4096_1 d))
theorem nrm_at (e : S4096x4096.Idx → EReal) (d : S4096.Idx → EReal) (i k : Fin 4096) : nrm e d (ix2 i k) = e (ix2 i k) * d (ix1 i) * d (ix1 k) := by
  pointwise [nrm]

/-- The degrees' inverse roots are the encoder's. -/
theorem dinv_edge (A : S4096x4096.Idx → EReal) (i : Fin 4096) : dinv (deg (edge A)) (ix1 i) = ((dR A i : ℝ) : EReal) := by
  refine dinv_at _ i (∑ k, eR A i k) ?_
  rw [deg_at, ← Cert.KernelIdeal.Val.coe_sum]
  exact Finset.sum_congr rfl fun k _ => edge_at A i k

/-- What the precondition says of the arguments it reads. -/
theorem opened (x0 : S4096x512.Idx → EReal) (x1 : S4096x4096.Idx → EReal) (x2 : S2048x128.Idx → EReal) (x3 : S128.Idx → EReal) (x4 : S512x15.Idx → EReal) (x5 : S15.Idx → EReal) (x6 : S15x15.Idx → EReal)
    (x7 : S15x32.Idx → EReal) (x8 : S32.Idx → EReal) (x9 : S32x32.Idx → EReal) (x10 : S15x128.Idx → EReal) (x11 : S128.Idx → EReal) (x12 : S128x256.Idx → EReal) (x13 : S256.Idx → EReal) (x14 : S256x512.Idx → EReal) (x15 : S512.Idx → EReal)
    (x16 : S512x512.Idx → EReal) (x17 : S512.Idx → EReal) (x18 : S512x512.Idx → EReal) (x19 : S512.Idx → EReal) (x20 : S512x512.Idx → EReal) (x21 : S512.Idx → EReal) (j : S_.Idx)
    (h : fn (F := Ideal) x0 x1 x2 x3 x4 x5 x6 x7 x8 x9 x10 x11 x12 x13 x14 x15 x16 x17 x18 x19 x20 x21 j = 1#1) :
    (∀ i k, x1 (ix2 i k) = ((eR x1 i k * dR x1 i * dR x1 k : ℝ) : EReal)) ∧ (∀ i, ((x0 i).toReal : EReal) = x0 i) ∧ (∀ i, ((x2 i).toReal : EReal) = x2 i) ∧ (∀ i, ((x3 i).toReal : EReal) = x3 i)
      ∧ (∀ i, ((x4 i).toReal : EReal) = x4 i) := by
  unfold fn fn_part1 fn_part2 at h
  obtain ⟨h, e4⟩ := IntOp.andi_eq_one.1 h
  obtain ⟨h, e3⟩ := IntOp.andi_eq_one.1 h
  obtain ⟨h, e2⟩ := IntOp.andi_eq_one.1 h
  obtain ⟨e1, e0⟩ := IntOp.andi_eq_one.1 h
  refine ⟨fun i k => ?_, fun i => real_of_lt (Host.reduce_andi_all _ _ _ _ j e0 i), fun i => real_of_lt (Host.reduce_andi_all _ _ _ _ j e2 i), fun i => real_of_lt (Host.reduce_andi_all _ _ _ _ j e3 i),
    fun i => real_of_lt (Host.reduce_andi_all _ _ _ _ j e4 i)⟩
  have q : x1 (ix2 i k) = nrm (edge x1) (dinv (deg (edge x1))) (ix2 i k) := eq_of_oeq (Host.reduce_andi_all _ _ _ _ j e1 (ix2 i k))
  rw [q, nrm_at, edge_at, dinv_edge, dinv_edge, EReal.coe_mul, EReal.coe_mul]

end Cert.Pre_normalised_graph
-- ==== Proof.Val.RefRes.lean ====
/-
  The reference's six results, as the layers applied to the arguments.
-/
module

public import proofs.«01_k».proof.Proof.Reference
public import proofs.«01_k».proof.Proof.Val.Ref

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.SL.Sem
open Cert.KernelIdeal.Val (lin relu hidden dispF meanF bil mat vec)

variable (m : (ℓ : Loc nD τ sig) → Buf (Elt Ideal) ℓ) (c : Dev nD)

/-- The reference's first result. -/
abbrev zM (m : (ℓ : Loc nD τ sig) → Buf (Elt Ideal) ℓ) (c : Dev nD) : S4096x15.Idx → EReal := zR (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))
/-- The second decoder's hidden rows. -/
abbrev hxM (m : (ℓ : Loc nD τ sig) → Buf (Elt Ideal) ℓ) (c : Dev nD) : S4096x512.Idx → EReal := hidR (zM m c) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
theorem res_z : res_main_v16 (F := Ideal) m c = zM m c := by
  unfold res_main_v16 zM zR lin512 feats128 pos128 lin2048 feats512 hop128 hop512 fn_main_v3 fn_main_v12
  rfl
theorem res_q : res_main_v31 (F := Ideal) m c = qR (zM m c) (m ((c : Thread nD τ).loc main_arg6)) := by
  unfold res_main_v31 qR studR zM zR lin512 feats128 pos128 lin2048 feats512 hop128 hop512 fn_main_v3 fn_main_v12
  rfl
theorem res_a : res_main_v44 (F := Ideal) m c = sigA (bilA (linA (zM m c) (m ((c : Thread nD τ).loc main_arg7)) (m ((c : Thread nD τ).loc main_arg8))) (m ((c : Thread nD τ).loc main_arg9))) := by
  unfold res_main_v44 sigA bilA linA zM zR lin512 feats128 pos128 lin2048 feats512 hop128 hop512 fn_main_v3 fn_main_v12
  rfl
theorem res_pi : res_main_v69 (F := Ideal) m c = sigH (linH (hxM m c) (m ((c : Thread nD τ).loc main_arg16)) (m ((c : Thread nD τ).loc main_arg17))) := by
  unfold res_main_v69 sigH linH hxM hidR zM zR lin512 feats128 pos128 lin2048 feats512 hop128 hop512 fn_main_v3 fn_main_v12 pos256 pos512 linX1 linX2 linX3
  rfl
theorem res_disp : res_main_v75 (F := Ideal) m c = softR (linH (hxM m c) (m ((c : Thread nD τ).loc main_arg18)) (m ((c : Thread nD τ).loc main_arg19))) := by
  unfold res_main_v75 softR linH hxM hidR zM zR lin512 feats128 pos128 lin2048 feats512 hop128 hop512 fn_main_v3 fn_main_v12 pos256 pos512 linX1 linX2 linX3
  rfl
theorem res_mean : res_main_v81 (F := Ideal) m c = meanR (linH (hxM m c) (m ((c : Thread nD τ).loc main_arg20)) (m ((c : Thread nD τ).loc main_arg21))) := by
  unfold res_main_v81 meanR linH hxM hidR zM zR lin512 feats128 pos128 lin2048 feats512 hop128 hop512 fn_main_v3 fn_main_v12 pos256 pos512 linX1 linX2 linX3
  rfl

end Cert.ReferenceIdeal.Val
-- ==== Proof.Val.Results.lean ====
/-
  The six results of the kernel are the six results of the reference.
-/
module

public import proofs.«01_k».proof.Proof.Val.Match
public import proofs.«01_k».proof.Proof.Val.Pre
public import proofs.«01_k».proof.Proof.Val.RefRes

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem
open Cert.ReferenceIdeal.Val (zR linA linA_at bilA bilA_at sigA sigA_at linH linH_at sigH sigH_at hidR hidR_at softR softR_at meanR meanR_at qR)

/-- Two matrices that agree at every row and column are equal. -/
theorem mat_ext {R C : ℕ} {A B : (⟨2, ![R, C]⟩ : Shape).Idx → EReal} (h : ∀ i j, A (ix2 i j) = B (ix2 i j)) : A = B :=
  funext fun y => by
    have e : y = ix2 (y 0) (y 1) := funext fun a => by match a with | 0 => rfl | 1 => rfl
    rw [e]; exact h _ _

variable (m : (ℓ : Loc nD τ sig) → Buf (Elt Ideal) ℓ) (ρ : Dev nD → PrngReg) (c : Dev nD)
  {A0 : S4096x512.Idx → EReal} {A1 : S4096x4096.Idx → EReal} {A2 : S2048x128.Idx → EReal} {A3 : S128.Idx → EReal} {A4 : S512x15.Idx → EReal} {A5 : S15.Idx → EReal} {A6 : S15x15.Idx → EReal} {A7 : S15x32.Idx → EReal} {A8 : S32.Idx → EReal} {A9 : S32x32.Idx → EReal} {A10 : S15x128.Idx → EReal} {A11 : S128.Idx → EReal} {A12 : S128x256.Idx → EReal} {A13 : S256.Idx → EReal} {A14 : S256x512.Idx → EReal} {A15 : S512.Idx → EReal} {A16 : S512x512.Idx → EReal} {A17 : S512.Idx → EReal} {A18 : S512x512.Idx → EReal} {A19 : S512.Idx → EReal} {A20 : S512x512.Idx → EReal} {A21 : S512.Idx → EReal}
  (e0 : m ((c : Thread nD τ).loc main_arg0) = A0)
  (e1 : m ((c : Thread nD τ).loc main_arg1) = A1)
  (e2 : m ((c : Thread nD τ).loc main_arg2) = A2)
  (e3 : m ((c : Thread nD τ).loc main_arg3) = A3)
  (e4 : m ((c : Thread nD τ).loc main_arg4) = A4)
  (e5 : m ((c : Thread nD τ).loc main_arg5) = A5)
  (e6 : m ((c : Thread nD τ).loc main_arg6) = A6)
  (e7 : m ((c : Thread nD τ).loc main_arg7) = A7)
  (e8 : m ((c : Thread nD τ).loc main_arg8) = A8)
  (e9 : m ((c : Thread nD τ).loc main_arg9) = A9)
  (e10 : m ((c : Thread nD τ).loc main_arg10) = A10)
  (e11 : m ((c : Thread nD τ).loc main_arg11) = A11)
  (e12 : m ((c : Thread nD τ).loc main_arg12) = A12)
  (e13 : m ((c : Thread nD τ).loc main_arg13) = A13)
  (e14 : m ((c : Thread nD τ).loc main_arg14) = A14)
  (e15 : m ((c : Thread nD τ).loc main_arg15) = A15)
  (e16 : m ((c : Thread nD τ).loc main_arg16) = A16)
  (e17 : m ((c : Thread nD τ).loc main_arg17) = A17)
  (e18 : m ((c : Thread nD τ).loc main_arg18) = A18)
  (e19 : m ((c : Thread nD τ).loc main_arg19) = A19)
  (e20 : m ((c : Thread nD τ).loc main_arg20) = A20)
  (e21 : m ((c : Thread nD τ).loc main_arg21) = A21)
  (h1 : ∀ i k, A1 (ix2 i k) = ((eR A1 i k * dR A1 i * dR A1 k : ℝ) : EReal)) (h0 : ∀ y, ((A0 y).toReal : EReal) = A0 y) (h2 : ∀ y, ((A2 y).toReal : EReal) = A2 y)
  (h3 : ∀ y, ((A3 y).toReal : EReal) = A3 y) (h4 : ∀ y, ((A4 y).toReal : EReal) = A4 y)

include e0 e1 e2 e3 e4 e5 h0 h1 h2 h3 h4

/-- The latent rows. -/
theorem res_z : (W6 m ρ c main_v37 : S4096x15.Idx → EReal) = zR A1 A0 A2 A3 A4 A5 :=
  mat_ext fun i j => (out_z m ρ c i j).trans (Zk_ref m ρ c e0 e1 e2 e3 e4 e5 h1 h0 h2 h3 h4 i j)

include e6 in
/-- The cluster weights. -/
theorem res_q : (W6 m ρ c main_v38 : S4096x15.Idx → EReal) = qR (zR A1 A0 A2 A3 A4 A5) A6 := by
  refine mat_ext fun i j => (out_q m ρ c i j).trans ?_
  refine q_match _ A6 i _ _ (Zk_ref m ρ c e0 e1 e2 e3 e4 e5 h1 h0 h2 h3 h4 i) (Zk_last m ρ c e0 e1 e2 e3 e4 e5 h0 h2 h3 h4 i) (fun l j => ?_) (fun j => ?_) j
  · exact (host_v26 m ρ c e6 _ _).trans (dif_pos ⟨l.isLt, j.isLt⟩)
  · exact (host_v26 m ρ c e6 _ _).trans (dif_neg fun h => absurd h.1 (by decide))

include e7 e8 in
/-- The first decoder's rows. -/
theorem hd_ref (i : Fin 4096) : hdZ m ρ c i = mat (linA (zR A1 A0 A2 A3 A4 A5) A7 A8) i := by
  unfold hdZ
  rw [e8]
  refine (lin_pad (s := mat (zR A1 A0 A2 A3 A4 A5) i) (v := mat A7) _ (Zk_ref m ρ c e0 e1 e2 e3 e4 e5 h1 h0 h2 h3 h4 i) (fun l j => ?_) (fun j => ?_)).trans (funext fun j => (linA_at _ A7 A8 i j).symm)
  · exact (host_v29 m ρ c e7 _ _).trans (dif_pos l.isLt)
  · exact (host_v29 m ρ c e7 _ _).trans (dif_neg (by decide))

include e7 e8 e9 in
/-- The reconstructed adjacency. -/
theorem res_a : (W6 m ρ c main_v35 : S4096x4096.Idx → EReal) = sigA (bilA (linA (zR A1 A0 A2 A3 A4 A5) A7 A8) A9) := by
  refine mat_ext fun i j => (out_a m ρ c i j).trans ?_
  rw [sigA_at, bilA_at, hd_ref m ρ c e0 e1 e2 e3 e4 e5 e7 e8 h1 h0 h2 h3 h4, hd_ref m ρ c e0 e1 e2 e3 e4 e5 e7 e8 h1 h0 h2 h3 h4, e9]

include e10 e11 e12 e13 e14 e15 in
/-- The second decoder's hidden rows. -/
theorem hx_ref (i : Fin 4096) : hxZ m ρ c i = mat (hidR (zR A1 A0 A2 A3 A4 A5) A10 A11 A12 A13 A14 A15) i := by
  have e : lin (Zk m ρ c i) (mat (R := 16) (C := 128) (V1 m ρ c main_v32)) (vec A11) = lin (mat (zR A1 A0 A2 A3 A4 A5) i) (mat A10) (vec A11) := by
    refine lin_pad (s := mat (zR A1 A0 A2 A3 A4 A5) i) (v := mat A10) _ (Zk_ref m ρ c e0 e1 e2 e3 e4 e5 h1 h0 h2 h3 h4 i) (fun l j => ?_) (fun j => ?_)
    · exact (host_v32 m ρ c e10 _ _).trans (dif_pos l.isLt)
    · exact (host_v32 m ρ c e10 _ _).trans (dif_neg (by decide))
  rw [hidR_at]
  unfold hxZ hidden
  rw [e11, e12, e13, e14, e15, e]

include e10 e11 e12 e13 e14 e15 e16 e17 in
/-- The dropout head. -/
theorem res_pi : (W6 m ρ c main_v36_0 : S4096x512.Idx → EReal) = sigH (linH (hidR (zR A1 A0 A2 A3 A4 A5) A10 A11 A12 A13 A14 A15) A16 A17) := by
  refine mat_ext fun i j => (out_pi m ρ c i j).trans ?_
  rw [sigH_at, linH_at, hx_ref m ρ c e0 e1 e2 e3 e4 e5 e10 e11 e12 e13 e14 e15 h1 h0 h2 h3 h4, e16, e17]

include e10 e11 e12 e13 e14 e15 e18 e19 in
/-- The dispersion head. -/
theorem res_disp : (W6 m ρ c main_v36_1 : S4096x512.Idx → EReal) = softR (linH (hidR (zR A1 A0 A2 A3 A4 A5) A10 A11 A12 A13 A14 A15) A18 A19) := by
  refine mat_ext fun i j => (out_disp m ρ c i j).trans ?_
  rw [softR_at, linH_at, hx_ref m ρ c e0 e1 e2 e3 e4 e5 e10 e11 e12 e13 e14 e15 h1 h0 h2 h3 h4, e18, e19]

include e10 e11 e12 e13 e14 e15 e20 e21 in
/-- The mean head. -/
theorem res_mean : (W6 m ρ c main_v36_2 : S4096x512.Idx → EReal) = meanR (linH (hidR (zR A1 A0 A2 A3 A4 A5) A10 A11 A12 A13 A14 A15) A20 A21) := by
  refine mat_ext fun i j => (out_mean m ρ c i j).trans ?_
  rw [meanR_at, linH_at, hx_ref m ρ c e0 e1 e2 e3 e4 e5 e10 e11 e12 e13 e14 e15 h1 h0 h2 h3 h4, e20, e21]

end Cert.KernelIdeal.Val
-- ==== Proof.Val.Algebraic.lean ====
/-
  The kernel and the reference end with the same six results, under the precondition.
-/
module

public import proofs.«01_k».proof.Proof.Val.Results

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem

/-- The six results of a run of the kernel, as one statement about the buffers it ends with. -/
theorem results (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal))) ⟨m, fun _ => 0, ρ⟩ (fun r => ∀ c : Dev nD,
      r.2.mem ((c.tc : Thread nD τ).loc main_v37) = W6 m ρ c main_v37 ∧ r.2.mem ((c.tc : Thread nD τ).loc main_v38) = W6 m ρ c main_v38
      ∧ r.2.mem ((c.tc : Thread nD τ).loc main_v35) = W6 m ρ c main_v35 ∧ r.2.mem ((c.tc : Thread nD τ).loc main_v36_0) = W6 m ρ c main_v36_0
      ∧ r.2.mem ((c.tc : Thread nD τ).loc main_v36_1) = W6 m ρ c main_v36_1 ∧ r.2.mem ((c.tc : Thread nD τ).loc main_v36_2) = W6 m ρ c main_v36_2
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))) := by
  refine (θ_run _ _ _).mono ?_ (run_all m ρ)
  exact fun r h c => ⟨h.1 c _ (mem_uc main_v37 (by decide)), h.1 c _ (mem_uc main_v38 (by decide)), h.1 c _ (mem_uc main_v35 (by decide)), h.1 c _ (mem_uc main_v36_0 (by decide)),
    h.1 c _ (mem_uc main_v36_1 (by decide)), h.1 c _ (mem_uc main_v36_2 (by decide)), args_kept m ρ c (h.1 c)⟩

/-- Under the precondition every run of the kernel ends with the six results of the reference, over the extended reals. -/
theorem algebraic : Cert.algebraic_KernelIdeal_ReferenceIdeal_pre_normalised_graph := by
  intro m g m' g' hp he
  refine ⟨fun c => W6 m g c main_v37, fun c => W6 m g c main_v38, fun c => W6 m g c main_v35, fun c => W6 m g c main_v36_0, fun c => W6 m g c main_v36_1, fun c => W6 m g c main_v36_2, results m g, ?_⟩
  refine (θ_run _ _ _).mono ?_ (Cert.ReferenceIdeal.Value.run m' g')
  intro r h c
  obtain ⟨q0, q1, q2, q3, q4, q5, q6, q7, q8, q9, q10, q11, q12, q13, q14, q15, q16, q17, q18, q19, q20, q21⟩ := he c
  have hp' := hp c
  rw [← q0, ← q1, ← q2, ← q3, ← q4, ← q5, ← q6, ← q7, ← q8, ← q9, ← q10, ← q11, ← q12, ← q13, ← q14, ← q15, ← q16, ← q17, ← q18, ← q19, ← q20, ← q21] at hp'
  obtain ⟨h1, h0, h2, h3, h4⟩ := Cert.Pre_normalised_graph.opened _ _ _ _ _ _ _ _ _ _ _ _ _ _ _ _ _ _ _ _ _ _ ix0 (congrFun hp' ix0)
  obtain ⟨r0, r1, r2, r3, r4, r5, ra⟩ := h c
  exact ⟨r0.trans ((Cert.ReferenceIdeal.Val.res_z m' c).trans (res_z m g c q0.symm q1.symm q2.symm q3.symm q4.symm q5.symm h1 h0 h2 h3 h4).symm),
    r1.trans ((Cert.ReferenceIdeal.Val.res_q m' c).trans (res_q m g c q0.symm q1.symm q2.symm q3.symm q4.symm q5.symm q6.symm h1 h0 h2 h3 h4).symm),
    r2.trans ((Cert.ReferenceIdeal.Val.res_a m' c).trans (res_a m g c q0.symm q1.symm q2.symm q3.symm q4.symm q5.symm q7.symm q8.symm q9.symm h1 h0 h2 h3 h4).symm),
    r3.trans ((Cert.ReferenceIdeal.Val.res_pi m' c).trans (res_pi m g c q0.symm q1.symm q2.symm q3.symm q4.symm q5.symm q10.symm q11.symm q12.symm q13.symm q14.symm q15.symm q16.symm q17.symm h1 h0 h2 h3 h4).symm),
    r4.trans ((Cert.ReferenceIdeal.Val.res_disp m' c).trans (res_disp m g c q0.symm q1.symm q2.symm q3.symm q4.symm q5.symm q10.symm q11.symm q12.symm q13.symm q14.symm q15.symm q18.symm q19.symm h1 h0 h2 h3 h4).symm),
    r5.trans ((Cert.ReferenceIdeal.Val.res_mean m' c).trans (res_mean m g c q0.symm q1.symm q2.symm q3.symm q4.symm q5.symm q10.symm q11.symm q12.symm q13.symm q14.symm q15.symm q20.symm q21.symm h1 h0 h2 h3 h4).symm), ra⟩

end Cert.KernelIdeal.Val
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Reference
public import proofs.«01_k».proof.Proof.Run
public import proofs.«01_k».proof.Proof.K.Run
public import proofs.«01_k».proof.Proof.Val.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_normalised_graph.facts,
  fun m ρ _ => Cert.Kernel.Run.frame m ρ, fun m ρ _ => Cert.KernelIdeal.Run.frame m ρ, fun m ρ _ => Cert.KernelIdeal.Run.frame m ρ,
  Cert.ReferenceIdeal.Ref.frame, fun m ρ _ => Cert.ReferenceIdeal.Ref.frame m ρ trivial, trivial, Cert.KernelIdeal.Val.algebraic⟩

end Cert.Proof

end
